-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![32, 1024]⟩ ⟨2, ![1024, 1024]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 32]⟩ ⟨2, ![1024, 1024]⟩ 1 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 32]⟩ ⟨2, ![1024, 1024]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x1024 : Shape := ⟨2, ![32, 1024]⟩
abbrev S1024x32 : Shape := ⟨2, ![1024, 32]⟩
abbrev S32 : Shape := ⟨1, ![32]⟩
abbrev S32x32x1024 : Shape := ⟨3, ![32, 32, 1024]⟩
abbrev S3 : Shape := ⟨1, ![3]⟩
abbrev S16 : Shape := ⟨1, ![16]⟩
abbrev S1 : Shape := ⟨1, ![1]⟩
abbrev S_ : Shape := ⟨0, ![]⟩
abbrev S1x32x1024 : Shape := ⟨3, ![1, 32, 1024]⟩
abbrev S1024x1024 : Shape := ⟨2, ![1024, 1024]⟩

abbrev nBuf : Space → Nat
  | .hbm => 5
  | .vmem => 4
  | .smem => 2
  | _ => 0

abbrev bufTy : (tb : Table) → Fin (tcTables nBuf tb) → BufTy
  | .hbm, ⟨0, _⟩ => ⟨S32x1024, .f32⟩
  | .hbm, ⟨1, _⟩ => ⟨S1024x32, .f32⟩
  | .hbm, ⟨2, _⟩ => ⟨S32, .i32⟩
  | .hbm, ⟨3, _⟩ => ⟨S32, .i32⟩
  | .hbm, ⟨4, _⟩ => ⟨S1024x32, .f32⟩
  | .local _ .vmem, ⟨0, _⟩ => ⟨S32x1024, .f32⟩
  | .local _ .vmem, ⟨1, _⟩ => ⟨S1024x32, .f32⟩
  | .local _ .vmem, ⟨2, _⟩ => ⟨S1024x32, .f32⟩
  | .local _ .vmem, ⟨3, _⟩ => ⟨S32x32x1024, .f32⟩
  | .local _ .smem, ⟨0, _⟩ => ⟨S32, .i32⟩
  | .local _ .smem, ⟨1, _⟩ => ⟨S32, .i32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 1 → Bool
  | ⟨0, _⟩ => false
  | _ => false

abbrev dmaSemScoped : Fin 75 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | _ => false

abbrev sig : RefSig :=
  (ofTc nBuf bufTy 1 75 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 32
abbrev τ : Topo := Topo.v7x

variable {F : FTy → Type} [FloatOps F]

abbrev grid0 : Pipeline.Grid := .none

def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3 : Index := Scalar.indexCast v2
  ![v3.toNat]
def k0_off2 (v4 : BitVec 32) (c1_i32_0 : BitVec 32) : Fin 1 → Nat :=
  let c64_i32 : BitVec 32 := 64#32
  let v5 : BitVec 32 := Scalar.addi v4 c64_i32
  let v6 : BitVec 32 := Scalar.addi v5 c1_i32_0
  let c32_i32_1 : BitVec 32 := 32#32
  let c0_i32 : BitVec 32 := 0#32
  let v7 : BitVec 1 := Scalar.cmpi .eq c32_i32_1 c0_i32
  let c1_i32_2 : BitVec 32 := 1#32
  let v8 : BitVec 32 := Scalar.select v7 c1_i32_2 c32_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v17 : Index := Scalar.indexCast v16
  ![v17.toNat]
def k0_off2_at (r : Fin 5) : BitVec 32 :=
  if r.val < 2 then
    if r.val < 1 then
      1#32
    else
      4294967295#32
  else
    if r.val < 3 then
      8#32
    else
      if r.val < 4 then
        4294967288#32
      else
        16#32

def k0_dev1 (v32 : BitVec 32) : Nat :=
  let c0_i32_36 : BitVec 32 := 0#32
  let c1_i32_35 : BitVec 32 := 1#32
  let v76 : BitVec 32 := Scalar.muli v32 c1_i32_35
  let v77 : BitVec 32 := Scalar.addi c0_i32_36 v76
  v77.toNat

def k0_dev2 (v18 : BitVec 32) : Nat :=
  let c0_i32_39 : BitVec 32 := 0#32
  let c1_i32_38 : BitVec 32 := 1#32
  let v78 : BitVec 32 := Scalar.muli v18 c1_i32_38
  let v79 : BitVec 32 := Scalar.addi c0_i32_39 v78
  v79.toNat

def k0_dev3 (v46 : BitVec 32) : Nat :=
  let c0_i32_42 : BitVec 32 := 0#32
  let c1_i32_41 : BitVec 32 := 1#32
  let v80 : BitVec 32 := Scalar.muli v46 c1_i32_41
  let v81 : BitVec 32 := Scalar.addi c0_i32_42 v80
  v81.toNat

def k0_chk4 (v46 : BitVec 32) : Prop :=
  ((k0_dev3 v46) < nD)
theorem k0_dev3_lt : ∀ (v46 : BitVec 32) (k0_hw4 : k0_chk4 v46), (k0_dev3 v46) < nD := fun v46 k0_hw4 => k0_hw4

def k0_dev4 (v60 : BitVec 32) : Nat :=
  let c0_i32_45 : BitVec 32 := 0#32
  let c1_i32_44 : BitVec 32 := 1#32
  let v82 : BitVec 32 := Scalar.muli v60 c1_i32_44
  let v83 : BitVec 32 := Scalar.addi c0_i32_45 v82
  v83.toNat

def k0_chk5 (v60 : BitVec 32) : Prop :=
  ((k0_dev4 v60) < nD)
theorem k0_dev4_lt : ∀ (v60 : BitVec 32) (k0_hw5 : k0_chk5 v60), (k0_dev4 v60) < nD := fun v60 k0_hw5 => k0_hw5

def k0_dev5 (v74 : BitVec 32) : Nat :=
  let c0_i32_48 : BitVec 32 := 0#32
  let c1_i32_47 : BitVec 32 := 1#32
  let v84 : BitVec 32 := Scalar.muli v74 c1_i32_47
  let v85 : BitVec 32 := Scalar.addi c0_i32_48 v84
  v85.toNat

def k0_chk6 (v74 : BitVec 32) : Prop :=
  ((k0_dev5 v74) < nD)
theorem k0_dev5_lt : ∀ (v74 : BitVec 32) (k0_hw6 : k0_chk6 v74), (k0_dev5 v74) < nD := fun v74 k0_hw6 => k0_hw6

def k0_off3 (v4 : BitVec 32) : Fin 1 → Nat :=
  let c64_i32_49 : BitVec 32 := 64#32
  let v86 : BitVec 32 := Scalar.addi v4 c64_i32_49
  let c8_i32_50 : BitVec 32 := 8#32
  let v87 : BitVec 32 := Scalar.addi v86 c8_i32_50
  let c32_i32_51 : BitVec 32 := 32#32
  let c0_i32_52 : BitVec 32 := 0#32
  let v88 : BitVec 1 := Scalar.cmpi .eq c32_i32_51 c0_i32_52
  let c1_i32_53 : BitVec 32 := 1#32
  let v89 : BitVec 32 := Scalar.select v88 c1_i32_53 c32_i32_51
  let v90 : BitVec 32 := Scalar.remsi v87 v89
  let c0_i32_55 : BitVec 32 := 0#32
  let v92 : BitVec 1 := Scalar.cmpi .slt v90 c0_i32_55
  let c0_i32_56 : BitVec 32 := 0#32
  let v93 : BitVec 1 := Scalar.cmpi .slt v89 c0_i32_56
  let v94 : BitVec 1 := Scalar.xori v92 v93
  let c0_i32_54 : BitVec 32 := 0#32
  let v91 : BitVec 1 := Scalar.cmpi .ne v90 c0_i32_54
  let v95 : BitVec 1 := Scalar.andi v94 v91
  let v96 : BitVec 32 := Scalar.addi v90 v89
  let v97 : BitVec 32 := Scalar.select v95 v96 v90
  let v98 : Index := Scalar.indexCast v97
  ![v98.toNat]
def k0_off4 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_61 : BitVec 32 := 0#32
  let c0_i32_62 : BitVec 32 := 0#32
  ![v2.toNat, 0, 0]
def k0_dev6 (v99 : BitVec 32) : Nat :=
  let c0_i32_60 : BitVec 32 := 0#32
  let c1_i32_59 : BitVec 32 := 1#32
  let v100 : BitVec 32 := Scalar.muli v99 c1_i32_59
  let v101 : BitVec 32 := Scalar.addi c0_i32_60 v100
  v101.toNat

def k0_chk7 (v99 : BitVec 32) : Prop :=
  ((k0_dev6 v99) < nD)
theorem k0_dev6_lt : ∀ (v99 : BitVec 32) (k0_hw7 : k0_chk7 v99), (k0_dev6 v99) < nD := fun v99 k0_hw7 => k0_hw7

def k0_off5 (v4 : BitVec 32) : Fin 1 → Nat :=
  let c64_i32_63 : BitVec 32 := 64#32
  let v108 : BitVec 32 := Scalar.addi v4 c64_i32_63
  let c16_i32_64 : BitVec 32 := 16#32
  let v109 : BitVec 32 := Scalar.addi v108 c16_i32_64
  let c32_i32_65 : BitVec 32 := 32#32
  let c0_i32_66 : BitVec 32 := 0#32
  let v110 : BitVec 1 := Scalar.cmpi .eq c32_i32_65 c0_i32_66
  let c1_i32_67 : BitVec 32 := 1#32
  let v111 : BitVec 32 := Scalar.select v110 c1_i32_67 c32_i32_65
  let v112 : BitVec 32 := Scalar.remsi v109 v111
  let c0_i32_69 : BitVec 32 := 0#32
  let v114 : BitVec 1 := Scalar.cmpi .slt v112 c0_i32_69
  let c0_i32_70 : BitVec 32 := 0#32
  let v115 : BitVec 1 := Scalar.cmpi .slt v111 c0_i32_70
  let v116 : BitVec 1 := Scalar.xori v114 v115
  let c0_i32_68 : BitVec 32 := 0#32
  let v113 : BitVec 1 := Scalar.cmpi .ne v112 c0_i32_68
  let v117 : BitVec 1 := Scalar.andi v116 v113
  let v118 : BitVec 32 := Scalar.addi v112 v111
  let v119 : BitVec 32 := Scalar.select v117 v118 v112
  let v120 : Index := Scalar.indexCast v119
  ![v120.toNat]
def k0_off6 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_75 : BitVec 32 := 0#32
  let c0_i32_76 : BitVec 32 := 0#32
  ![v2.toNat, 0, 0]
def k0_dev7 (v121 : BitVec 32) : Nat :=
  let c0_i32_74 : BitVec 32 := 0#32
  let c1_i32_73 : BitVec 32 := 1#32
  let v122 : BitVec 32 := Scalar.muli v121 c1_i32_73
  let v123 : BitVec 32 := Scalar.addi c0_i32_74 v122
  v123.toNat

def k0_chk8 (v121 : BitVec 32) : Prop :=
  ((k0_dev7 v121) < nD)
theorem k0_dev7_lt : ∀ (v121 : BitVec 32) (k0_hw8 : k0_chk8 v121), (k0_dev7 v121) < nD := fun v121 k0_hw8 => k0_hw8

def k0_off7 (v4 : BitVec 32) : Fin 1 → Nat :=
  let c64_i32_77 : BitVec 32 := 64#32
  let v130 : BitVec 32 := Scalar.addi v4 c64_i32_77
  let c24_i32 : BitVec 32 := 24#32
  let v131 : BitVec 32 := Scalar.addi v130 c24_i32
  let c32_i32_78 : BitVec 32 := 32#32
  let c0_i32_79 : BitVec 32 := 0#32
  let v132 : BitVec 1 := Scalar.cmpi .eq c32_i32_78 c0_i32_79
  let c1_i32_80 : BitVec 32 := 1#32
  let v133 : BitVec 32 := Scalar.select v132 c1_i32_80 c32_i32_78
  let v134 : BitVec 32 := Scalar.remsi v131 v133
  let c0_i32_82 : BitVec 32 := 0#32
  let v136 : BitVec 1 := Scalar.cmpi .slt v134 c0_i32_82
  let c0_i32_83 : BitVec 32 := 0#32
  let v137 : BitVec 1 := Scalar.cmpi .slt v133 c0_i32_83
  let v138 : BitVec 1 := Scalar.xori v136 v137
  let c0_i32_81 : BitVec 32 := 0#32
  let v135 : BitVec 1 := Scalar.cmpi .ne v134 c0_i32_81
  let v139 : BitVec 1 := Scalar.andi v138 v135
  let v140 : BitVec 32 := Scalar.addi v134 v133
  let v141 : BitVec 32 := Scalar.select v139 v140 v134
  let v142 : Index := Scalar.indexCast v141
  ![v142.toNat]
def k0_off8 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_87 : BitVec 32 := 0#32
  let c0_i32_88 : BitVec 32 := 0#32
  ![v2.toNat, 0, 0]
def k0_dev8 (v143 : BitVec 32) : Nat :=
  let c0_i32_86 : BitVec 32 := 0#32
  let c1_i32_85 : BitVec 32 := 1#32
  let v144 : BitVec 32 := Scalar.muli v143 c1_i32_85
  let v145 : BitVec 32 := Scalar.addi c0_i32_86 v144
  v145.toNat

def k0_chk9 (v143 : BitVec 32) : Prop :=
  ((k0_dev8 v143) < nD)
theorem k0_dev8_lt : ∀ (v143 : BitVec 32) (k0_hw9 : k0_chk9 v143), (k0_dev8 v143) < nD := fun v143 k0_hw9 => k0_hw9

def k0_off9 (v4 : BitVec 32) : Fin 1 → Nat :=
  let c64_i32_89 : BitVec 32 := 64#32
  let v152 : BitVec 32 := Scalar.addi v4 c64_i32_89
  let c0_i32_90 : BitVec 32 := 0#32
  let v153 : BitVec 32 := Scalar.addi v152 c0_i32_90
  let c32_i32_91 : BitVec 32 := 32#32
  let c0_i32_92 : BitVec 32 := 0#32
  let v154 : BitVec 1 := Scalar.cmpi .eq c32_i32_91 c0_i32_92
  let c1_i32_93 : BitVec 32 := 1#32
  let v155 : BitVec 32 := Scalar.select v154 c1_i32_93 c32_i32_91
  let v156 : BitVec 32 := Scalar.remsi v153 v155
  let c0_i32_95 : BitVec 32 := 0#32
  let v158 : BitVec 1 := Scalar.cmpi .slt v156 c0_i32_95
  let c0_i32_96 : BitVec 32 := 0#32
  let v159 : BitVec 1 := Scalar.cmpi .slt v155 c0_i32_96
  let v160 : BitVec 1 := Scalar.xori v158 v159
  let c0_i32_94 : BitVec 32 := 0#32
  let v157 : BitVec 1 := Scalar.cmpi .ne v156 c0_i32_94
  let v161 : BitVec 1 := Scalar.andi v160 v157
  let v162 : BitVec 32 := Scalar.addi v156 v155
  let v163 : BitVec 32 := Scalar.select v161 v162 v156
  let v164 : Index := Scalar.indexCast v163
  ![v164.toNat]
def k0_off10 (v165 : BitVec 32) : Fin 3 → Nat :=
  let c0_i32_101 : BitVec 32 := 0#32
  let c0_i32_102 : BitVec 32 := 0#32
  ![v165.toNat, 0, 0]

def k0_chk10 (v165 : BitVec 32) : Prop :=
  (∀ a, (k0_off10 v165) a + S1x32x1024.size a ≤ S32x32x1024.size a)
theorem k0_off10_inb : ∀ (v165 : BitVec 32) (k0_hw10 : k0_chk10 v165), ∀ a, (k0_off10 v165) a + S1x32x1024.size a ≤ S32x32x1024.size a := fun v165 k0_hw10 => k0_hw10

def k0_dev9 (v18 : BitVec 32) : Nat :=
  let c0_i32_100 : BitVec 32 := 0#32
  let c1_i32_99 : BitVec 32 := 1#32
  let v166 : BitVec 32 := Scalar.muli v18 c1_i32_99
  let v167 : BitVec 32 := Scalar.addi c0_i32_100 v166
  v167.toNat
def k0_off11 (v4 : BitVec 32) : Fin 1 → Nat :=
  let c64_i32_103 : BitVec 32 := 64#32
  let v174 : BitVec 32 := Scalar.addi v4 c64_i32_103
  let c0_i32_104 : BitVec 32 := 0#32
  let v175 : BitVec 32 := Scalar.addi v174 c0_i32_104
  let c32_i32_105 : BitVec 32 := 32#32
  let c0_i32_106 : BitVec 32 := 0#32
  let v176 : BitVec 1 := Scalar.cmpi .eq c32_i32_105 c0_i32_106
  let c1_i32_107 : BitVec 32 := 1#32
  let v177 : BitVec 32 := Scalar.select v176 c1_i32_107 c32_i32_105
  let v178 : BitVec 32 := Scalar.remsi v175 v177
  let c0_i32_109 : BitVec 32 := 0#32
  let v180 : BitVec 1 := Scalar.cmpi .slt v178 c0_i32_109
  let c0_i32_110 : BitVec 32 := 0#32
  let v181 : BitVec 1 := Scalar.cmpi .slt v177 c0_i32_110
  let v182 : BitVec 1 := Scalar.xori v180 v181
  let c0_i32_108 : BitVec 32 := 0#32
  let v179 : BitVec 1 := Scalar.cmpi .ne v178 c0_i32_108
  let v183 : BitVec 1 := Scalar.andi v182 v179
  let v184 : BitVec 32 := Scalar.addi v178 v177
  let v185 : BitVec 32 := Scalar.select v183 v184 v178
  let v186 : Index := Scalar.indexCast v185
  ![v186.toNat]
def k0_off12 (v187 : BitVec 32) : Fin 3 → Nat :=
  let c0_i32_115 : BitVec 32 := 0#32
  let c0_i32_116 : BitVec 32 := 0#32
  ![v187.toNat, 0, 0]

def k0_chk11 (v187 : BitVec 32) : Prop :=
  (∀ a, (k0_off12 v187) a + S1x32x1024.size a ≤ S32x32x1024.size a)
theorem k0_off12_inb : ∀ (v187 : BitVec 32) (k0_hw11 : k0_chk11 v187), ∀ a, (k0_off12 v187) a + S1x32x1024.size a ≤ S32x32x1024.size a := fun v187 k0_hw11 => k0_hw11

def k0_dev10 (v32 : BitVec 32) : Nat :=
  let c0_i32_114 : BitVec 32 := 0#32
  let c1_i32_113 : BitVec 32 := 1#32
  let v188 : BitVec 32 := Scalar.muli v32 c1_i32_113
  let v189 : BitVec 32 := Scalar.addi c0_i32_114 v188
  v189.toNat
def k0_off13 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v198 : Index := Scalar.indexCast v2
  let c0_118 : Index := 0#32
  let c0_119 : Index := 0#32
  ![v198.toNat, 0, 0]
def k0_off14 (v4 : BitVec 32) : Fin 1 → Nat :=
  let c64_i32_120 : BitVec 32 := 64#32
  let v202 : BitVec 32 := Scalar.addi v4 c64_i32_120
  let c_m8_i32_121 : BitVec 32 := 4294967288#32
  let v203 : BitVec 32 := Scalar.addi v202 c_m8_i32_121
  let c32_i32_122 : BitVec 32 := 32#32
  let c0_i32_123 : BitVec 32 := 0#32
  let v204 : BitVec 1 := Scalar.cmpi .eq c32_i32_122 c0_i32_123
  let c1_i32_124 : BitVec 32 := 1#32
  let v205 : BitVec 32 := Scalar.select v204 c1_i32_124 c32_i32_122
  let v206 : BitVec 32 := Scalar.remsi v203 v205
  let c0_i32_126 : BitVec 32 := 0#32
  let v208 : BitVec 1 := Scalar.cmpi .slt v206 c0_i32_126
  let c0_i32_127 : BitVec 32 := 0#32
  let v209 : BitVec 1 := Scalar.cmpi .slt v205 c0_i32_127
  let v210 : BitVec 1 := Scalar.xori v208 v209
  let c0_i32_125 : BitVec 32 := 0#32
  let v207 : BitVec 1 := Scalar.cmpi .ne v206 c0_i32_125
  let v211 : BitVec 1 := Scalar.andi v210 v207
  let v212 : BitVec 32 := Scalar.addi v206 v205
  let v213 : BitVec 32 := Scalar.select v211 v212 v206
  let v214 : Index := Scalar.indexCast v213
  ![v214.toNat]
def k0_off15 (v215 : BitVec 32) : Fin 3 → Nat :=
  let c0_i32_132 : BitVec 32 := 0#32
  let c0_i32_133 : BitVec 32 := 0#32
  ![v215.toNat, 0, 0]

def k0_chk12 (v215 : BitVec 32) : Prop :=
  (∀ a, (k0_off15 v215) a + S1x32x1024.size a ≤ S32x32x1024.size a)
theorem k0_off15_inb : ∀ (v215 : BitVec 32) (k0_hw12 : k0_chk12 v215), ∀ a, (k0_off15 v215) a + S1x32x1024.size a ≤ S32x32x1024.size a := fun v215 k0_hw12 => k0_hw12

def k0_off16 (v4 : BitVec 32) : Fin 1 → Nat :=
  let c64_i32_136 : BitVec 32 := 64#32
  let v224 : BitVec 32 := Scalar.addi v4 c64_i32_136
  let c_m8_i32_137 : BitVec 32 := 4294967288#32
  let v225 : BitVec 32 := Scalar.addi v224 c_m8_i32_137
  let c32_i32_138 : BitVec 32 := 32#32
  let c0_i32_139 : BitVec 32 := 0#32
  let v226 : BitVec 1 := Scalar.cmpi .eq c32_i32_138 c0_i32_139
  let c1_i32_140 : BitVec 32 := 1#32
  let v227 : BitVec 32 := Scalar.select v226 c1_i32_140 c32_i32_138
  let v228 : BitVec 32 := Scalar.remsi v225 v227
  let c0_i32_142 : BitVec 32 := 0#32
  let v230 : BitVec 1 := Scalar.cmpi .slt v228 c0_i32_142
  let c0_i32_143 : BitVec 32 := 0#32
  let v231 : BitVec 1 := Scalar.cmpi .slt v227 c0_i32_143
  let v232 : BitVec 1 := Scalar.xori v230 v231
  let c0_i32_141 : BitVec 32 := 0#32
  let v229 : BitVec 1 := Scalar.cmpi .ne v228 c0_i32_141
  let v233 : BitVec 1 := Scalar.andi v232 v229
  let v234 : BitVec 32 := Scalar.addi v228 v227
  let v235 : BitVec 32 := Scalar.select v233 v234 v228
  let v236 : Index := Scalar.indexCast v235
  ![v236.toNat]
def k0_off17 (v237 : BitVec 32) : Fin 3 → Nat :=
  let c0_i32_148 : BitVec 32 := 0#32
  let c0_i32_149 : BitVec 32 := 0#32
  ![v237.toNat, 0, 0]

def k0_chk13 (v237 : BitVec 32) : Prop :=
  (∀ a, (k0_off17 v237) a + S1x32x1024.size a ≤ S32x32x1024.size a)
theorem k0_off17_inb : ∀ (v237 : BitVec 32) (k0_hw13 : k0_chk13 v237), ∀ a, (k0_off17 v237) a + S1x32x1024.size a ≤ S32x32x1024.size a := fun v237 k0_hw13 => k0_hw13

def k0_dev11 (v18 : BitVec 32) : Nat :=
  let c0_i32_147 : BitVec 32 := 0#32
  let c1_i32_146 : BitVec 32 := 1#32
  let v238 : BitVec 32 := Scalar.muli v18 c1_i32_146
  let v239 : BitVec 32 := Scalar.addi c0_i32_147 v238
  v239.toNat
def k0_off18 (v4 : BitVec 32) : Fin 1 → Nat :=
  let c64_i32_152 : BitVec 32 := 64#32
  let v248 : BitVec 32 := Scalar.addi v4 c64_i32_152
  let c_m8_i32_153 : BitVec 32 := 4294967288#32
  let v249 : BitVec 32 := Scalar.addi v248 c_m8_i32_153
  let c32_i32_154 : BitVec 32 := 32#32
  let c0_i32_155 : BitVec 32 := 0#32
  let v250 : BitVec 1 := Scalar.cmpi .eq c32_i32_154 c0_i32_155
  let c1_i32_156 : BitVec 32 := 1#32
  let v251 : BitVec 32 := Scalar.select v250 c1_i32_156 c32_i32_154
  let v252 : BitVec 32 := Scalar.remsi v249 v251
  let c0_i32_158 : BitVec 32 := 0#32
  let v254 : BitVec 1 := Scalar.cmpi .slt v252 c0_i32_158
  let c0_i32_159 : BitVec 32 := 0#32
  let v255 : BitVec 1 := Scalar.cmpi .slt v251 c0_i32_159
  let v256 : BitVec 1 := Scalar.xori v254 v255
  let c0_i32_157 : BitVec 32 := 0#32
  let v253 : BitVec 1 := Scalar.cmpi .ne v252 c0_i32_157
  let v257 : BitVec 1 := Scalar.andi v256 v253
  let v258 : BitVec 32 := Scalar.addi v252 v251
  let v259 : BitVec 32 := Scalar.select v257 v258 v252
  let v260 : Index := Scalar.indexCast v259
  ![v260.toNat]
def k0_off19 (v261 : BitVec 32) : Fin 3 → Nat :=
  let c0_i32_164 : BitVec 32 := 0#32
  let c0_i32_165 : BitVec 32 := 0#32
  ![v261.toNat, 0, 0]

def k0_chk14 (v261 : BitVec 32) : Prop :=
  (∀ a, (k0_off19 v261) a + S1x32x1024.size a ≤ S32x32x1024.size a)
theorem k0_off19_inb : ∀ (v261 : BitVec 32) (k0_hw14 : k0_chk14 v261), ∀ a, (k0_off19 v261) a + S1x32x1024.size a ≤ S32x32x1024.size a := fun v261 k0_hw14 => k0_hw14

def k0_dev12 (v32 : BitVec 32) : Nat :=
  let c0_i32_163 : BitVec 32 := 0#32
  let c1_i32_162 : BitVec 32 := 1#32
  let v262 : BitVec 32 := Scalar.muli v32 c1_i32_162
  let v263 : BitVec 32 := Scalar.addi c0_i32_163 v262
  v263.toNat
def k0_off20 (v4 : BitVec 32) : Fin 1 → Nat :=
  let c64_i32_168 : BitVec 32 := 64#32
  let v272 : BitVec 32 := Scalar.addi v4 c64_i32_168
  let c_m16_i32 : BitVec 32 := 4294967280#32
  let v273 : BitVec 32 := Scalar.addi v272 c_m16_i32
  let c32_i32_169 : BitVec 32 := 32#32
  let c0_i32_170 : BitVec 32 := 0#32
  let v274 : BitVec 1 := Scalar.cmpi .eq c32_i32_169 c0_i32_170
  let c1_i32_171 : BitVec 32 := 1#32
  let v275 : BitVec 32 := Scalar.select v274 c1_i32_171 c32_i32_169
  let v276 : BitVec 32 := Scalar.remsi v273 v275
  let c0_i32_173 : BitVec 32 := 0#32
  let v278 : BitVec 1 := Scalar.cmpi .slt v276 c0_i32_173
  let c0_i32_174 : BitVec 32 := 0#32
  let v279 : BitVec 1 := Scalar.cmpi .slt v275 c0_i32_174
  let v280 : BitVec 1 := Scalar.xori v278 v279
  let c0_i32_172 : BitVec 32 := 0#32
  let v277 : BitVec 1 := Scalar.cmpi .ne v276 c0_i32_172
  let v281 : BitVec 1 := Scalar.andi v280 v277
  let v282 : BitVec 32 := Scalar.addi v276 v275
  let v283 : BitVec 32 := Scalar.select v281 v282 v276
  let v284 : Index := Scalar.indexCast v283
  ![v284.toNat]
def k0_off21 (v285 : BitVec 32) : Fin 3 → Nat :=
  let c0_i32_179 : BitVec 32 := 0#32
  let c0_i32_180 : BitVec 32 := 0#32
  ![v285.toNat, 0, 0]

def k0_chk15 (v285 : BitVec 32) : Prop :=
  (∀ a, (k0_off21 v285) a + S1x32x1024.size a ≤ S32x32x1024.size a)
theorem k0_off21_inb : ∀ (v285 : BitVec 32) (k0_hw15 : k0_chk15 v285), ∀ a, (k0_off21 v285) a + S1x32x1024.size a ≤ S32x32x1024.size a := fun v285 k0_hw15 => k0_hw15

def k0_off22 (v4 : BitVec 32) : Fin 1 → Nat :=
  let c64_i32_183 : BitVec 32 := 64#32
  let v294 : BitVec 32 := Scalar.addi v4 c64_i32_183
  let c_m16_i32_184 : BitVec 32 := 4294967280#32
  let v295 : BitVec 32 := Scalar.addi v294 c_m16_i32_184
  let c32_i32_185 : BitVec 32 := 32#32
  let c0_i32_186 : BitVec 32 := 0#32
  let v296 : BitVec 1 := Scalar.cmpi .eq c32_i32_185 c0_i32_186
  let c1_i32_187 : BitVec 32 := 1#32
  let v297 : BitVec 32 := Scalar.select v296 c1_i32_187 c32_i32_185
  let v298 : BitVec 32 := Scalar.remsi v295 v297
  let c0_i32_189 : BitVec 32 := 0#32
  let v300 : BitVec 1 := Scalar.cmpi .slt v298 c0_i32_189
  let c0_i32_190 : BitVec 32 := 0#32
  let v301 : BitVec 1 := Scalar.cmpi .slt v297 c0_i32_190
  let v302 : BitVec 1 := Scalar.xori v300 v301
  let c0_i32_188 : BitVec 32 := 0#32
  let v299 : BitVec 1 := Scalar.cmpi .ne v298 c0_i32_188
  let v303 : BitVec 1 := Scalar.andi v302 v299
  let v304 : BitVec 32 := Scalar.addi v298 v297
  let v305 : BitVec 32 := Scalar.select v303 v304 v298
  let v306 : Index := Scalar.indexCast v305
  ![v306.toNat]
def k0_off23 (v307 : BitVec 32) : Fin 3 → Nat :=
  let c0_i32_195 : BitVec 32 := 0#32
  let c0_i32_196 : BitVec 32 := 0#32
  ![v307.toNat, 0, 0]

def k0_chk16 (v307 : BitVec 32) : Prop :=
  (∀ a, (k0_off23 v307) a + S1x32x1024.size a ≤ S32x32x1024.size a)
theorem k0_off23_inb : ∀ (v307 : BitVec 32) (k0_hw16 : k0_chk16 v307), ∀ a, (k0_off23 v307) a + S1x32x1024.size a ≤ S32x32x1024.size a := fun v307 k0_hw16 => k0_hw16

def k0_dev13 (v18 : BitVec 32) : Nat :=
  let c0_i32_194 : BitVec 32 := 0#32
  let c1_i32_193 : BitVec 32 := 1#32
  let v308 : BitVec 32 := Scalar.muli v18 c1_i32_193
  let v309 : BitVec 32 := Scalar.addi c0_i32_194 v308
  v309.toNat
def k0_off24 (v4 : BitVec 32) : Fin 1 → Nat :=
  let c64_i32_199 : BitVec 32 := 64#32
  let v318 : BitVec 32 := Scalar.addi v4 c64_i32_199
  let c_m16_i32_200 : BitVec 32 := 4294967280#32
  let v319 : BitVec 32 := Scalar.addi v318 c_m16_i32_200
  let c32_i32_201 : BitVec 32 := 32#32
  let c0_i32_202 : BitVec 32 := 0#32
  let v320 : BitVec 1 := Scalar.cmpi .eq c32_i32_201 c0_i32_202
  let c1_i32_203 : BitVec 32 := 1#32
  let v321 : BitVec 32 := Scalar.select v320 c1_i32_203 c32_i32_201
  let v322 : BitVec 32 := Scalar.remsi v319 v321
  let c0_i32_205 : BitVec 32 := 0#32
  let v324 : BitVec 1 := Scalar.cmpi .slt v322 c0_i32_205
  let c0_i32_206 : BitVec 32 := 0#32
  let v325 : BitVec 1 := Scalar.cmpi .slt v321 c0_i32_206
  let v326 : BitVec 1 := Scalar.xori v324 v325
  let c0_i32_204 : BitVec 32 := 0#32
  let v323 : BitVec 1 := Scalar.cmpi .ne v322 c0_i32_204
  let v327 : BitVec 1 := Scalar.andi v326 v323
  let v328 : BitVec 32 := Scalar.addi v322 v321
  let v329 : BitVec 32 := Scalar.select v327 v328 v322
  let v330 : Index := Scalar.indexCast v329
  ![v330.toNat]
def k0_off25 (v331 : BitVec 32) : Fin 3 → Nat :=
  let c0_i32_211 : BitVec 32 := 0#32
  let c0_i32_212 : BitVec 32 := 0#32
  ![v331.toNat, 0, 0]

def k0_chk17 (v331 : BitVec 32) : Prop :=
  (∀ a, (k0_off25 v331) a + S1x32x1024.size a ≤ S32x32x1024.size a)
theorem k0_off25_inb : ∀ (v331 : BitVec 32) (k0_hw17 : k0_chk17 v331), ∀ a, (k0_off25 v331) a + S1x32x1024.size a ≤ S32x32x1024.size a := fun v331 k0_hw17 => k0_hw17

def k0_dev14 (v32 : BitVec 32) : Nat :=
  let c0_i32_210 : BitVec 32 := 0#32
  let c1_i32_209 : BitVec 32 := 1#32
  let v332 : BitVec 32 := Scalar.muli v32 c1_i32_209
  let v333 : BitVec 32 := Scalar.addi c0_i32_210 v332
  v333.toNat
def k0_off26 (v4 : BitVec 32) : Fin 1 → Nat :=
  let c64_i32_215 : BitVec 32 := 64#32
  let v342 : BitVec 32 := Scalar.addi v4 c64_i32_215
  let c_m24_i32 : BitVec 32 := 4294967272#32
  let v343 : BitVec 32 := Scalar.addi v342 c_m24_i32
  let c32_i32_216 : BitVec 32 := 32#32
  let c0_i32_217 : BitVec 32 := 0#32
  let v344 : BitVec 1 := Scalar.cmpi .eq c32_i32_216 c0_i32_217
  let c1_i32_218 : BitVec 32 := 1#32
  let v345 : BitVec 32 := Scalar.select v344 c1_i32_218 c32_i32_216
  let v346 : BitVec 32 := Scalar.remsi v343 v345
  let c0_i32_220 : BitVec 32 := 0#32
  let v348 : BitVec 1 := Scalar.cmpi .slt v346 c0_i32_220
  let c0_i32_221 : BitVec 32 := 0#32
  let v349 : BitVec 1 := Scalar.cmpi .slt v345 c0_i32_221
  let v350 : BitVec 1 := Scalar.xori v348 v349
  let c0_i32_219 : BitVec 32 := 0#32
  let v347 : BitVec 1 := Scalar.cmpi .ne v346 c0_i32_219
  let v351 : BitVec 1 := Scalar.andi v350 v347
  let v352 : BitVec 32 := Scalar.addi v346 v345
  let v353 : BitVec 32 := Scalar.select v351 v352 v346
  let v354 : Index := Scalar.indexCast v353
  ![v354.toNat]
def k0_off27 (v355 : BitVec 32) : Fin 3 → Nat :=
  let c0_i32_226 : BitVec 32 := 0#32
  let c0_i32_227 : BitVec 32 := 0#32
  ![v355.toNat, 0, 0]

def k0_chk18 (v355 : BitVec 32) : Prop :=
  (∀ a, (k0_off27 v355) a + S1x32x1024.size a ≤ S32x32x1024.size a)
theorem k0_off27_inb : ∀ (v355 : BitVec 32) (k0_hw18 : k0_chk18 v355), ∀ a, (k0_off27 v355) a + S1x32x1024.size a ≤ S32x32x1024.size a := fun v355 k0_hw18 => k0_hw18

def k0_off28 (v4 : BitVec 32) : Fin 1 → Nat :=
  let c64_i32_230 : BitVec 32 := 64#32
  let v364 : BitVec 32 := Scalar.addi v4 c64_i32_230
  let c_m24_i32_231 : BitVec 32 := 4294967272#32
  let v365 : BitVec 32 := Scalar.addi v364 c_m24_i32_231
  let c32_i32_232 : BitVec 32 := 32#32
  let c0_i32_233 : BitVec 32 := 0#32
  let v366 : BitVec 1 := Scalar.cmpi .eq c32_i32_232 c0_i32_233
  let c1_i32_234 : BitVec 32 := 1#32
  let v367 : BitVec 32 := Scalar.select v366 c1_i32_234 c32_i32_232
  let v368 : BitVec 32 := Scalar.remsi v365 v367
  let c0_i32_236 : BitVec 32 := 0#32
  let v370 : BitVec 1 := Scalar.cmpi .slt v368 c0_i32_236
  let c0_i32_237 : BitVec 32 := 0#32
  let v371 : BitVec 1 := Scalar.cmpi .slt v367 c0_i32_237
  let v372 : BitVec 1 := Scalar.xori v370 v371
  let c0_i32_235 : BitVec 32 := 0#32
  let v369 : BitVec 1 := Scalar.cmpi .ne v368 c0_i32_235
  let v373 : BitVec 1 := Scalar.andi v372 v369
  let v374 : BitVec 32 := Scalar.addi v368 v367
  let v375 : BitVec 32 := Scalar.select v373 v374 v368
  let v376 : Index := Scalar.indexCast v375
  ![v376.toNat]
def k0_off29 (v377 : BitVec 32) : Fin 3 → Nat :=
  let c0_i32_241 : BitVec 32 := 0#32
  let c0_i32_242 : BitVec 32 := 0#32
  ![v377.toNat, 0, 0]

def k0_chk19 (v377 : BitVec 32) : Prop :=
  (∀ a, (k0_off29 v377) a + S1x32x1024.size a ≤ S32x32x1024.size a)
theorem k0_off29_inb : ∀ (v377 : BitVec 32) (k0_hw19 : k0_chk19 v377), ∀ a, (k0_off29 v377) a + S1x32x1024.size a ≤ S32x32x1024.size a := fun v377 k0_hw19 => k0_hw19

def k0_dev15 (v18 : BitVec 32) : Nat :=
  let c0_i32_240 : BitVec 32 := 0#32
  let c1_i32_239 : BitVec 32 := 1#32
  let v378 : BitVec 32 := Scalar.muli v18 c1_i32_239
  let v379 : BitVec 32 := Scalar.addi c0_i32_240 v378
  v379.toNat
def k0_off30 (v4 : BitVec 32) : Fin 1 → Nat :=
  let c64_i32_245 : BitVec 32 := 64#32
  let v388 : BitVec 32 := Scalar.addi v4 c64_i32_245
  let c_m24_i32_246 : BitVec 32 := 4294967272#32
  let v389 : BitVec 32 := Scalar.addi v388 c_m24_i32_246
  let c32_i32_247 : BitVec 32 := 32#32
  let c0_i32_248 : BitVec 32 := 0#32
  let v390 : BitVec 1 := Scalar.cmpi .eq c32_i32_247 c0_i32_248
  let c1_i32_249 : BitVec 32 := 1#32
  let v391 : BitVec 32 := Scalar.select v390 c1_i32_249 c32_i32_247
  let v392 : BitVec 32 := Scalar.remsi v389 v391
  let c0_i32_251 : BitVec 32 := 0#32
  let v394 : BitVec 1 := Scalar.cmpi .slt v392 c0_i32_251
  let c0_i32_252 : BitVec 32 := 0#32
  let v395 : BitVec 1 := Scalar.cmpi .slt v391 c0_i32_252
  let v396 : BitVec 1 := Scalar.xori v394 v395
  let c0_i32_250 : BitVec 32 := 0#32
  let v393 : BitVec 1 := Scalar.cmpi .ne v392 c0_i32_250
  let v397 : BitVec 1 := Scalar.andi v396 v393
  let v398 : BitVec 32 := Scalar.addi v392 v391
  let v399 : BitVec 32 := Scalar.select v397 v398 v392
  let v400 : Index := Scalar.indexCast v399
  ![v400.toNat]
def k0_off31 (v401 : BitVec 32) : Fin 3 → Nat :=
  let c0_i32_257 : BitVec 32 := 0#32
  let c0_i32_258 : BitVec 32 := 0#32
  ![v401.toNat, 0, 0]

def k0_chk20 (v401 : BitVec 32) : Prop :=
  (∀ a, (k0_off31 v401) a + S1x32x1024.size a ≤ S32x32x1024.size a)
theorem k0_off31_inb : ∀ (v401 : BitVec 32) (k0_hw20 : k0_chk20 v401), ∀ a, (k0_off31 v401) a + S1x32x1024.size a ≤ S32x32x1024.size a := fun v401 k0_hw20 => k0_hw20

def k0_dev16 (v32 : BitVec 32) : Nat :=
  let c0_i32_256 : BitVec 32 := 0#32
  let c1_i32_255 : BitVec 32 := 1#32
  let v402 : BitVec 32 := Scalar.muli v32 c1_i32_255
  let v403 : BitVec 32 := Scalar.addi c0_i32_256 v402
  v403.toNat
def k0_off32 (v4 : BitVec 32) : Fin 1 → Nat :=
  let c64_i32_261 : BitVec 32 := 64#32
  let v412 : BitVec 32 := Scalar.addi v4 c64_i32_261
  let c_m1_i32_262 : BitVec 32 := 4294967295#32
  let v413 : BitVec 32 := Scalar.addi v412 c_m1_i32_262
  let c32_i32_263 : BitVec 32 := 32#32
  let c0_i32_264 : BitVec 32 := 0#32
  let v414 : BitVec 1 := Scalar.cmpi .eq c32_i32_263 c0_i32_264
  let c1_i32_265 : BitVec 32 := 1#32
  let v415 : BitVec 32 := Scalar.select v414 c1_i32_265 c32_i32_263
  let v416 : BitVec 32 := Scalar.remsi v413 v415
  let c0_i32_267 : BitVec 32 := 0#32
  let v418 : BitVec 1 := Scalar.cmpi .slt v416 c0_i32_267
  let c0_i32_268 : BitVec 32 := 0#32
  let v419 : BitVec 1 := Scalar.cmpi .slt v415 c0_i32_268
  let v420 : BitVec 1 := Scalar.xori v418 v419
  let c0_i32_266 : BitVec 32 := 0#32
  let v417 : BitVec 1 := Scalar.cmpi .ne v416 c0_i32_266
  let v421 : BitVec 1 := Scalar.andi v420 v417
  let v422 : BitVec 32 := Scalar.addi v416 v415
  let v423 : BitVec 32 := Scalar.select v421 v422 v416
  let v424 : Index := Scalar.indexCast v423
  ![v424.toNat]
def k0_off33 (v425 : BitVec 32) : Fin 3 → Nat :=
  let c0_i32_273 : BitVec 32 := 0#32
  let c0_i32_274 : BitVec 32 := 0#32
  ![v425.toNat, 0, 0]

def k0_chk21 (v425 : BitVec 32) : Prop :=
  (∀ a, (k0_off33 v425) a + S1x32x1024.size a ≤ S32x32x1024.size a)
theorem k0_off33_inb : ∀ (v425 : BitVec 32) (k0_hw21 : k0_chk21 v425), ∀ a, (k0_off33 v425) a + S1x32x1024.size a ≤ S32x32x1024.size a := fun v425 k0_hw21 => k0_hw21

def k0_off34 (v4 : BitVec 32) : Fin 1 → Nat :=
  let c64_i32_277 : BitVec 32 := 64#32
  let v434 : BitVec 32 := Scalar.addi v4 c64_i32_277
  let c_m1_i32_278 : BitVec 32 := 4294967295#32
  let v435 : BitVec 32 := Scalar.addi v434 c_m1_i32_278
  let c32_i32_279 : BitVec 32 := 32#32
  let c0_i32_280 : BitVec 32 := 0#32
  let v436 : BitVec 1 := Scalar.cmpi .eq c32_i32_279 c0_i32_280
  let c1_i32_281 : BitVec 32 := 1#32
  let v437 : BitVec 32 := Scalar.select v436 c1_i32_281 c32_i32_279
  let v438 : BitVec 32 := Scalar.remsi v435 v437
  let c0_i32_283 : BitVec 32 := 0#32
  let v440 : BitVec 1 := Scalar.cmpi .slt v438 c0_i32_283
  let c0_i32_284 : BitVec 32 := 0#32
  let v441 : BitVec 1 := Scalar.cmpi .slt v437 c0_i32_284
  let v442 : BitVec 1 := Scalar.xori v440 v441
  let c0_i32_282 : BitVec 32 := 0#32
  let v439 : BitVec 1 := Scalar.cmpi .ne v438 c0_i32_282
  let v443 : BitVec 1 := Scalar.andi v442 v439
  let v444 : BitVec 32 := Scalar.addi v438 v437
  let v445 : BitVec 32 := Scalar.select v443 v444 v438
  let v446 : Index := Scalar.indexCast v445
  ![v446.toNat]
def k0_off35 (v447 : BitVec 32) : Fin 3 → Nat :=
  let c0_i32_288 : BitVec 32 := 0#32
  let c0_i32_289 : BitVec 32 := 0#32
  ![v447.toNat, 0, 0]

def k0_chk22 (v447 : BitVec 32) : Prop :=
  (∀ a, (k0_off35 v447) a + S1x32x1024.size a ≤ S32x32x1024.size a)
theorem k0_off35_inb : ∀ (v447 : BitVec 32) (k0_hw22 : k0_chk22 v447), ∀ a, (k0_off35 v447) a + S1x32x1024.size a ≤ S32x32x1024.size a := fun v447 k0_hw22 => k0_hw22

def k0_dev17 (v18 : BitVec 32) : Nat :=
  let c0_i32_287 : BitVec 32 := 0#32
  let c1_i32_286 : BitVec 32 := 1#32
  let v448 : BitVec 32 := Scalar.muli v18 c1_i32_286
  let v449 : BitVec 32 := Scalar.addi c0_i32_287 v448
  v449.toNat
def k0_off36 (v4 : BitVec 32) : Fin 1 → Nat :=
  let c64_i32_292 : BitVec 32 := 64#32
  let v458 : BitVec 32 := Scalar.addi v4 c64_i32_292
  let c1_i32_293 : BitVec 32 := 1#32
  let v459 : BitVec 32 := Scalar.addi v458 c1_i32_293
  let c32_i32_294 : BitVec 32 := 32#32
  let c0_i32_295 : BitVec 32 := 0#32
  let v460 : BitVec 1 := Scalar.cmpi .eq c32_i32_294 c0_i32_295
  let c1_i32_296 : BitVec 32 := 1#32
  let v461 : BitVec 32 := Scalar.select v460 c1_i32_296 c32_i32_294
  let v462 : BitVec 32 := Scalar.remsi v459 v461
  let c0_i32_298 : BitVec 32 := 0#32
  let v464 : BitVec 1 := Scalar.cmpi .slt v462 c0_i32_298
  let c0_i32_299 : BitVec 32 := 0#32
  let v465 : BitVec 1 := Scalar.cmpi .slt v461 c0_i32_299
  let v466 : BitVec 1 := Scalar.xori v464 v465
  let c0_i32_297 : BitVec 32 := 0#32
  let v463 : BitVec 1 := Scalar.cmpi .ne v462 c0_i32_297
  let v467 : BitVec 1 := Scalar.andi v466 v463
  let v468 : BitVec 32 := Scalar.addi v462 v461
  let v469 : BitVec 32 := Scalar.select v467 v468 v462
  let v470 : Index := Scalar.indexCast v469
  ![v470.toNat]
def k0_off37 (v471 : BitVec 32) : Fin 3 → Nat :=
  let c0_i32_304 : BitVec 32 := 0#32
  let c0_i32_305 : BitVec 32 := 0#32
  ![v471.toNat, 0, 0]

def k0_chk23 (v471 : BitVec 32) : Prop :=
  (∀ a, (k0_off37 v471) a + S1x32x1024.size a ≤ S32x32x1024.size a)
theorem k0_off37_inb : ∀ (v471 : BitVec 32) (k0_hw23 : k0_chk23 v471), ∀ a, (k0_off37 v471) a + S1x32x1024.size a ≤ S32x32x1024.size a := fun v471 k0_hw23 => k0_hw23

def k0_off38 (v4 : BitVec 32) : Fin 1 → Nat :=
  let c64_i32_308 : BitVec 32 := 64#32
  let v480 : BitVec 32 := Scalar.addi v4 c64_i32_308
  let c1_i32_309 : BitVec 32 := 1#32
  let v481 : BitVec 32 := Scalar.addi v480 c1_i32_309
  let c32_i32_310 : BitVec 32 := 32#32
  let c0_i32_311 : BitVec 32 := 0#32
  let v482 : BitVec 1 := Scalar.cmpi .eq c32_i32_310 c0_i32_311
  let c1_i32_312 : BitVec 32 := 1#32
  let v483 : BitVec 32 := Scalar.select v482 c1_i32_312 c32_i32_310
  let v484 : BitVec 32 := Scalar.remsi v481 v483
  let c0_i32_314 : BitVec 32 := 0#32
  let v486 : BitVec 1 := Scalar.cmpi .slt v484 c0_i32_314
  let c0_i32_315 : BitVec 32 := 0#32
  let v487 : BitVec 1 := Scalar.cmpi .slt v483 c0_i32_315
  let v488 : BitVec 1 := Scalar.xori v486 v487
  let c0_i32_313 : BitVec 32 := 0#32
  let v485 : BitVec 1 := Scalar.cmpi .ne v484 c0_i32_313
  let v489 : BitVec 1 := Scalar.andi v488 v485
  let v490 : BitVec 32 := Scalar.addi v484 v483
  let v491 : BitVec 32 := Scalar.select v489 v490 v484
  let v492 : Index := Scalar.indexCast v491
  ![v492.toNat]
def k0_off39 (v493 : BitVec 32) : Fin 3 → Nat :=
  let c0_i32_320 : BitVec 32 := 0#32
  let c0_i32_321 : BitVec 32 := 0#32
  ![v493.toNat, 0, 0]

def k0_chk24 (v493 : BitVec 32) : Prop :=
  (∀ a, (k0_off39 v493) a + S1x32x1024.size a ≤ S32x32x1024.size a)
theorem k0_off39_inb : ∀ (v493 : BitVec 32) (k0_hw24 : k0_chk24 v493), ∀ a, (k0_off39 v493) a + S1x32x1024.size a ≤ S32x32x1024.size a := fun v493 k0_hw24 => k0_hw24

def k0_dev18 (v32 : BitVec 32) : Nat :=
  let c0_i32_319 : BitVec 32 := 0#32
  let c1_i32_318 : BitVec 32 := 1#32
  let v494 : BitVec 32 := Scalar.muli v32 c1_i32_318
  let v495 : BitVec 32 := Scalar.addi c0_i32_319 v494
  v495.toNat
def k0_off40 (v4 : BitVec 32) : Fin 1 → Nat :=
  let c64_i32_324 : BitVec 32 := 64#32
  let v504 : BitVec 32 := Scalar.addi v4 c64_i32_324
  let c_m9_i32 : BitVec 32 := 4294967287#32
  let v505 : BitVec 32 := Scalar.addi v504 c_m9_i32
  let c32_i32_325 : BitVec 32 := 32#32
  let c0_i32_326 : BitVec 32 := 0#32
  let v506 : BitVec 1 := Scalar.cmpi .eq c32_i32_325 c0_i32_326
  let c1_i32_327 : BitVec 32 := 1#32
  let v507 : BitVec 32 := Scalar.select v506 c1_i32_327 c32_i32_325
  let v508 : BitVec 32 := Scalar.remsi v505 v507
  let c0_i32_329 : BitVec 32 := 0#32
  let v510 : BitVec 1 := Scalar.cmpi .slt v508 c0_i32_329
  let c0_i32_330 : BitVec 32 := 0#32
  let v511 : BitVec 1 := Scalar.cmpi .slt v507 c0_i32_330
  let v512 : BitVec 1 := Scalar.xori v510 v511
  let c0_i32_328 : BitVec 32 := 0#32
  let v509 : BitVec 1 := Scalar.cmpi .ne v508 c0_i32_328
  let v513 : BitVec 1 := Scalar.andi v512 v509
  let v514 : BitVec 32 := Scalar.addi v508 v507
  let v515 : BitVec 32 := Scalar.select v513 v514 v508
  let v516 : Index := Scalar.indexCast v515
  ![v516.toNat]
def k0_off41 (v517 : BitVec 32) : Fin 3 → Nat :=
  let c0_i32_335 : BitVec 32 := 0#32
  let c0_i32_336 : BitVec 32 := 0#32
  ![v517.toNat, 0, 0]

def k0_chk25 (v517 : BitVec 32) : Prop :=
  (∀ a, (k0_off41 v517) a + S1x32x1024.size a ≤ S32x32x1024.size a)
theorem k0_off41_inb : ∀ (v517 : BitVec 32) (k0_hw25 : k0_chk25 v517), ∀ a, (k0_off41 v517) a + S1x32x1024.size a ≤ S32x32x1024.size a := fun v517 k0_hw25 => k0_hw25

def k0_off42 (v4 : BitVec 32) : Fin 1 → Nat :=
  let c64_i32_339 : BitVec 32 := 64#32
  let v526 : BitVec 32 := Scalar.addi v4 c64_i32_339
  let c_m9_i32_340 : BitVec 32 := 4294967287#32
  let v527 : BitVec 32 := Scalar.addi v526 c_m9_i32_340
  let c32_i32_341 : BitVec 32 := 32#32
  let c0_i32_342 : BitVec 32 := 0#32
  let v528 : BitVec 1 := Scalar.cmpi .eq c32_i32_341 c0_i32_342
  let c1_i32_343 : BitVec 32 := 1#32
  let v529 : BitVec 32 := Scalar.select v528 c1_i32_343 c32_i32_341
  let v530 : BitVec 32 := Scalar.remsi v527 v529
  let c0_i32_345 : BitVec 32 := 0#32
  let v532 : BitVec 1 := Scalar.cmpi .slt v530 c0_i32_345
  let c0_i32_346 : BitVec 32 := 0#32
  let v533 : BitVec 1 := Scalar.cmpi .slt v529 c0_i32_346
  let v534 : BitVec 1 := Scalar.xori v532 v533
  let c0_i32_344 : BitVec 32 := 0#32
  let v531 : BitVec 1 := Scalar.cmpi .ne v530 c0_i32_344
  let v535 : BitVec 1 := Scalar.andi v534 v531
  let v536 : BitVec 32 := Scalar.addi v530 v529
  let v537 : BitVec 32 := Scalar.select v535 v536 v530
  let v538 : Index := Scalar.indexCast v537
  ![v538.toNat]
def k0_off43 (v539 : BitVec 32) : Fin 3 → Nat :=
  let c0_i32_351 : BitVec 32 := 0#32
  let c0_i32_352 : BitVec 32 := 0#32
  ![v539.toNat, 0, 0]

def k0_chk26 (v539 : BitVec 32) : Prop :=
  (∀ a, (k0_off43 v539) a + S1x32x1024.size a ≤ S32x32x1024.size a)
theorem k0_off43_inb : ∀ (v539 : BitVec 32) (k0_hw26 : k0_chk26 v539), ∀ a, (k0_off43 v539) a + S1x32x1024.size a ≤ S32x32x1024.size a := fun v539 k0_hw26 => k0_hw26

def k0_dev19 (v18 : BitVec 32) : Nat :=
  let c0_i32_350 : BitVec 32 := 0#32
  let c1_i32_349 : BitVec 32 := 1#32
  let v540 : BitVec 32 := Scalar.muli v18 c1_i32_349
  let v541 : BitVec 32 := Scalar.addi c0_i32_350 v540
  v541.toNat
def k0_off44 (v4 : BitVec 32) : Fin 1 → Nat :=
  let c64_i32_355 : BitVec 32 := 64#32
  let v550 : BitVec 32 := Scalar.addi v4 c64_i32_355
  let c_m7_i32 : BitVec 32 := 4294967289#32
  let v551 : BitVec 32 := Scalar.addi v550 c_m7_i32
  let c32_i32_356 : BitVec 32 := 32#32
  let c0_i32_357 : BitVec 32 := 0#32
  let v552 : BitVec 1 := Scalar.cmpi .eq c32_i32_356 c0_i32_357
  let c1_i32_358 : BitVec 32 := 1#32
  let v553 : BitVec 32 := Scalar.select v552 c1_i32_358 c32_i32_356
  let v554 : BitVec 32 := Scalar.remsi v551 v553
  let c0_i32_360 : BitVec 32 := 0#32
  let v556 : BitVec 1 := Scalar.cmpi .slt v554 c0_i32_360
  let c0_i32_361 : BitVec 32 := 0#32
  let v557 : BitVec 1 := Scalar.cmpi .slt v553 c0_i32_361
  let v558 : BitVec 1 := Scalar.xori v556 v557
  let c0_i32_359 : BitVec 32 := 0#32
  let v555 : BitVec 1 := Scalar.cmpi .ne v554 c0_i32_359
  let v559 : BitVec 1 := Scalar.andi v558 v555
  let v560 : BitVec 32 := Scalar.addi v554 v553
  let v561 : BitVec 32 := Scalar.select v559 v560 v554
  let v562 : Index := Scalar.indexCast v561
  ![v562.toNat]
def k0_off45 (v563 : BitVec 32) : Fin 3 → Nat :=
  let c0_i32_366 : BitVec 32 := 0#32
  let c0_i32_367 : BitVec 32 := 0#32
  ![v563.toNat, 0, 0]

def k0_chk27 (v563 : BitVec 32) : Prop :=
  (∀ a, (k0_off45 v563) a + S1x32x1024.size a ≤ S32x32x1024.size a)
theorem k0_off45_inb : ∀ (v563 : BitVec 32) (k0_hw27 : k0_chk27 v563), ∀ a, (k0_off45 v563) a + S1x32x1024.size a ≤ S32x32x1024.size a := fun v563 k0_hw27 => k0_hw27

def k0_off46 (v4 : BitVec 32) : Fin 1 → Nat :=
  let c64_i32_370 : BitVec 32 := 64#32
  let v572 : BitVec 32 := Scalar.addi v4 c64_i32_370
  let c_m7_i32_371 : BitVec 32 := 4294967289#32
  let v573 : BitVec 32 := Scalar.addi v572 c_m7_i32_371
  let c32_i32_372 : BitVec 32 := 32#32
  let c0_i32_373 : BitVec 32 := 0#32
  let v574 : BitVec 1 := Scalar.cmpi .eq c32_i32_372 c0_i32_373
  let c1_i32_374 : BitVec 32 := 1#32
  let v575 : BitVec 32 := Scalar.select v574 c1_i32_374 c32_i32_372
  let v576 : BitVec 32 := Scalar.remsi v573 v575
  let c0_i32_376 : BitVec 32 := 0#32
  let v578 : BitVec 1 := Scalar.cmpi .slt v576 c0_i32_376
  let c0_i32_377 : BitVec 32 := 0#32
  let v579 : BitVec 1 := Scalar.cmpi .slt v575 c0_i32_377
  let v580 : BitVec 1 := Scalar.xori v578 v579
  let c0_i32_375 : BitVec 32 := 0#32
  let v577 : BitVec 1 := Scalar.cmpi .ne v576 c0_i32_375
  let v581 : BitVec 1 := Scalar.andi v580 v577
  let v582 : BitVec 32 := Scalar.addi v576 v575
  let v583 : BitVec 32 := Scalar.select v581 v582 v576
  let v584 : Index := Scalar.indexCast v583
  ![v584.toNat]
def k0_off47 (v585 : BitVec 32) : Fin 3 → Nat :=
  let c0_i32_382 : BitVec 32 := 0#32
  let c0_i32_383 : BitVec 32 := 0#32
  ![v585.toNat, 0, 0]

def k0_chk28 (v585 : BitVec 32) : Prop :=
  (∀ a, (k0_off47 v585) a + S1x32x1024.size a ≤ S32x32x1024.size a)
theorem k0_off47_inb : ∀ (v585 : BitVec 32) (k0_hw28 : k0_chk28 v585), ∀ a, (k0_off47 v585) a + S1x32x1024.size a ≤ S32x32x1024.size a := fun v585 k0_hw28 => k0_hw28

def k0_dev20 (v32 : BitVec 32) : Nat :=
  let c0_i32_381 : BitVec 32 := 0#32
  let c1_i32_380 : BitVec 32 := 1#32
  let v586 : BitVec 32 := Scalar.muli v32 c1_i32_380
  let v587 : BitVec 32 := Scalar.addi c0_i32_381 v586
  v587.toNat
def k0_off48 (v4 : BitVec 32) : Fin 1 → Nat :=
  let c64_i32_386 : BitVec 32 := 64#32
  let v596 : BitVec 32 := Scalar.addi v4 c64_i32_386
  let c_m17_i32 : BitVec 32 := 4294967279#32
  let v597 : BitVec 32 := Scalar.addi v596 c_m17_i32
  let c32_i32_387 : BitVec 32 := 32#32
  let c0_i32_388 : BitVec 32 := 0#32
  let v598 : BitVec 1 := Scalar.cmpi .eq c32_i32_387 c0_i32_388
  let c1_i32_389 : BitVec 32 := 1#32
  let v599 : BitVec 32 := Scalar.select v598 c1_i32_389 c32_i32_387
  let v600 : BitVec 32 := Scalar.remsi v597 v599
  let c0_i32_391 : BitVec 32 := 0#32
  let v602 : BitVec 1 := Scalar.cmpi .slt v600 c0_i32_391
  let c0_i32_392 : BitVec 32 := 0#32
  let v603 : BitVec 1 := Scalar.cmpi .slt v599 c0_i32_392
  let v604 : BitVec 1 := Scalar.xori v602 v603
  let c0_i32_390 : BitVec 32 := 0#32
  let v601 : BitVec 1 := Scalar.cmpi .ne v600 c0_i32_390
  let v605 : BitVec 1 := Scalar.andi v604 v601
  let v606 : BitVec 32 := Scalar.addi v600 v599
  let v607 : BitVec 32 := Scalar.select v605 v606 v600
  let v608 : Index := Scalar.indexCast v607
  ![v608.toNat]
def k0_off49 (v609 : BitVec 32) : Fin 3 → Nat :=
  let c0_i32_397 : BitVec 32 := 0#32
  let c0_i32_398 : BitVec 32 := 0#32
  ![v609.toNat, 0, 0]

def k0_chk29 (v609 : BitVec 32) : Prop :=
  (∀ a, (k0_off49 v609) a + S1x32x1024.size a ≤ S32x32x1024.size a)
theorem k0_off49_inb : ∀ (v609 : BitVec 32) (k0_hw29 : k0_chk29 v609), ∀ a, (k0_off49 v609) a + S1x32x1024.size a ≤ S32x32x1024.size a := fun v609 k0_hw29 => k0_hw29

def k0_off50 (v4 : BitVec 32) : Fin 1 → Nat :=
  let c64_i32_401 : BitVec 32 := 64#32
  let v618 : BitVec 32 := Scalar.addi v4 c64_i32_401
  let c_m17_i32_402 : BitVec 32 := 4294967279#32
  let v619 : BitVec 32 := Scalar.addi v618 c_m17_i32_402
  let c32_i32_403 : BitVec 32 := 32#32
  let c0_i32_404 : BitVec 32 := 0#32
  let v620 : BitVec 1 := Scalar.cmpi .eq c32_i32_403 c0_i32_404
  let c1_i32_405 : BitVec 32 := 1#32
  let v621 : BitVec 32 := Scalar.select v620 c1_i32_405 c32_i32_403
  let v622 : BitVec 32 := Scalar.remsi v619 v621
  let c0_i32_407 : BitVec 32 := 0#32
  let v624 : BitVec 1 := Scalar.cmpi .slt v622 c0_i32_407
  let c0_i32_408 : BitVec 32 := 0#32
  let v625 : BitVec 1 := Scalar.cmpi .slt v621 c0_i32_408
  let v626 : BitVec 1 := Scalar.xori v624 v625
  let c0_i32_406 : BitVec 32 := 0#32
  let v623 : BitVec 1 := Scalar.cmpi .ne v622 c0_i32_406
  let v627 : BitVec 1 := Scalar.andi v626 v623
  let v628 : BitVec 32 := Scalar.addi v622 v621
  let v629 : BitVec 32 := Scalar.select v627 v628 v622
  let v630 : Index := Scalar.indexCast v629
  ![v630.toNat]
def k0_off51 (v631 : BitVec 32) : Fin 3 → Nat :=
  let c0_i32_412 : BitVec 32 := 0#32
  let c0_i32_413 : BitVec 32 := 0#32
  ![v631.toNat, 0, 0]

def k0_chk30 (v631 : BitVec 32) : Prop :=
  (∀ a, (k0_off51 v631) a + S1x32x1024.size a ≤ S32x32x1024.size a)
theorem k0_off51_inb : ∀ (v631 : BitVec 32) (k0_hw30 : k0_chk30 v631), ∀ a, (k0_off51 v631) a + S1x32x1024.size a ≤ S32x32x1024.size a := fun v631 k0_hw30 => k0_hw30

def k0_dev21 (v18 : BitVec 32) : Nat :=
  let c0_i32_411 : BitVec 32 := 0#32
  let c1_i32_410 : BitVec 32 := 1#32
  let v632 : BitVec 32 := Scalar.muli v18 c1_i32_410
  let v633 : BitVec 32 := Scalar.addi c0_i32_411 v632
  v633.toNat
def k0_off52 (v4 : BitVec 32) : Fin 1 → Nat :=
  let c64_i32_416 : BitVec 32 := 64#32
  let v642 : BitVec 32 := Scalar.addi v4 c64_i32_416
  let c_m15_i32 : BitVec 32 := 4294967281#32
  let v643 : BitVec 32 := Scalar.addi v642 c_m15_i32
  let c32_i32_417 : BitVec 32 := 32#32
  let c0_i32_418 : BitVec 32 := 0#32
  let v644 : BitVec 1 := Scalar.cmpi .eq c32_i32_417 c0_i32_418
  let c1_i32_419 : BitVec 32 := 1#32
  let v645 : BitVec 32 := Scalar.select v644 c1_i32_419 c32_i32_417
  let v646 : BitVec 32 := Scalar.remsi v643 v645
  let c0_i32_421 : BitVec 32 := 0#32
  let v648 : BitVec 1 := Scalar.cmpi .slt v646 c0_i32_421
  let c0_i32_422 : BitVec 32 := 0#32
  let v649 : BitVec 1 := Scalar.cmpi .slt v645 c0_i32_422
  let v650 : BitVec 1 := Scalar.xori v648 v649
  let c0_i32_420 : BitVec 32 := 0#32
  let v647 : BitVec 1 := Scalar.cmpi .ne v646 c0_i32_420
  let v651 : BitVec 1 := Scalar.andi v650 v647
  let v652 : BitVec 32 := Scalar.addi v646 v645
  let v653 : BitVec 32 := Scalar.select v651 v652 v646
  let v654 : Index := Scalar.indexCast v653
  ![v654.toNat]
def k0_off53 (v655 : BitVec 32) : Fin 3 → Nat :=
  let c0_i32_427 : BitVec 32 := 0#32
  let c0_i32_428 : BitVec 32 := 0#32
  ![v655.toNat, 0, 0]

def k0_chk31 (v655 : BitVec 32) : Prop :=
  (∀ a, (k0_off53 v655) a + S1x32x1024.size a ≤ S32x32x1024.size a)
theorem k0_off53_inb : ∀ (v655 : BitVec 32) (k0_hw31 : k0_chk31 v655), ∀ a, (k0_off53 v655) a + S1x32x1024.size a ≤ S32x32x1024.size a := fun v655 k0_hw31 => k0_hw31

def k0_off54 (v4 : BitVec 32) : Fin 1 → Nat :=
  let c64_i32_431 : BitVec 32 := 64#32
  let v664 : BitVec 32 := Scalar.addi v4 c64_i32_431
  let c_m15_i32_432 : BitVec 32 := 4294967281#32
  let v665 : BitVec 32 := Scalar.addi v664 c_m15_i32_432
  let c32_i32_433 : BitVec 32 := 32#32
  let c0_i32_434 : BitVec 32 := 0#32
  let v666 : BitVec 1 := Scalar.cmpi .eq c32_i32_433 c0_i32_434
  let c1_i32_435 : BitVec 32 := 1#32
  let v667 : BitVec 32 := Scalar.select v666 c1_i32_435 c32_i32_433
  let v668 : BitVec 32 := Scalar.remsi v665 v667
  let c0_i32_437 : BitVec 32 := 0#32
  let v670 : BitVec 1 := Scalar.cmpi .slt v668 c0_i32_437
  let c0_i32_438 : BitVec 32 := 0#32
  let v671 : BitVec 1 := Scalar.cmpi .slt v667 c0_i32_438
  let v672 : BitVec 1 := Scalar.xori v670 v671
  let c0_i32_436 : BitVec 32 := 0#32
  let v669 : BitVec 1 := Scalar.cmpi .ne v668 c0_i32_436
  let v673 : BitVec 1 := Scalar.andi v672 v669
  let v674 : BitVec 32 := Scalar.addi v668 v667
  let v675 : BitVec 32 := Scalar.select v673 v674 v668
  let v676 : Index := Scalar.indexCast v675
  ![v676.toNat]
def k0_off55 (v677 : BitVec 32) : Fin 3 → Nat :=
  let c0_i32_443 : BitVec 32 := 0#32
  let c0_i32_444 : BitVec 32 := 0#32
  ![v677.toNat, 0, 0]

def k0_chk32 (v677 : BitVec 32) : Prop :=
  (∀ a, (k0_off55 v677) a + S1x32x1024.size a ≤ S32x32x1024.size a)
theorem k0_off55_inb : ∀ (v677 : BitVec 32) (k0_hw32 : k0_chk32 v677), ∀ a, (k0_off55 v677) a + S1x32x1024.size a ≤ S32x32x1024.size a := fun v677 k0_hw32 => k0_hw32

def k0_dev22 (v32 : BitVec 32) : Nat :=
  let c0_i32_442 : BitVec 32 := 0#32
  let c1_i32_441 : BitVec 32 := 1#32
  let v678 : BitVec 32 := Scalar.muli v32 c1_i32_441
  let v679 : BitVec 32 := Scalar.addi c0_i32_442 v678
  v679.toNat
def k0_off56 (v4 : BitVec 32) : Fin 1 → Nat :=
  let c64_i32_447 : BitVec 32 := 64#32
  let v688 : BitVec 32 := Scalar.addi v4 c64_i32_447
  let c_m25_i32 : BitVec 32 := 4294967271#32
  let v689 : BitVec 32 := Scalar.addi v688 c_m25_i32
  let c32_i32_448 : BitVec 32 := 32#32
  let c0_i32_449 : BitVec 32 := 0#32
  let v690 : BitVec 1 := Scalar.cmpi .eq c32_i32_448 c0_i32_449
  let c1_i32_450 : BitVec 32 := 1#32
  let v691 : BitVec 32 := Scalar.select v690 c1_i32_450 c32_i32_448
  let v692 : BitVec 32 := Scalar.remsi v689 v691
  let c0_i32_452 : BitVec 32 := 0#32
  let v694 : BitVec 1 := Scalar.cmpi .slt v692 c0_i32_452
  let c0_i32_453 : BitVec 32 := 0#32
  let v695 : BitVec 1 := Scalar.cmpi .slt v691 c0_i32_453
  let v696 : BitVec 1 := Scalar.xori v694 v695
  let c0_i32_451 : BitVec 32 := 0#32
  let v693 : BitVec 1 := Scalar.cmpi .ne v692 c0_i32_451
  let v697 : BitVec 1 := Scalar.andi v696 v693
  let v698 : BitVec 32 := Scalar.addi v692 v691
  let v699 : BitVec 32 := Scalar.select v697 v698 v692
  let v700 : Index := Scalar.indexCast v699
  ![v700.toNat]
def k0_off57 (v701 : BitVec 32) : Fin 3 → Nat :=
  let c0_i32_458 : BitVec 32 := 0#32
  let c0_i32_459 : BitVec 32 := 0#32
  ![v701.toNat, 0, 0]

def k0_chk33 (v701 : BitVec 32) : Prop :=
  (∀ a, (k0_off57 v701) a + S1x32x1024.size a ≤ S32x32x1024.size a)
theorem k0_off57_inb : ∀ (v701 : BitVec 32) (k0_hw33 : k0_chk33 v701), ∀ a, (k0_off57 v701) a + S1x32x1024.size a ≤ S32x32x1024.size a := fun v701 k0_hw33 => k0_hw33

def k0_off58 (v4 : BitVec 32) : Fin 1 → Nat :=
  let c64_i32_462 : BitVec 32 := 64#32
  let v710 : BitVec 32 := Scalar.addi v4 c64_i32_462
  let c_m25_i32_463 : BitVec 32 := 4294967271#32
  let v711 : BitVec 32 := Scalar.addi v710 c_m25_i32_463
  let c32_i32_464 : BitVec 32 := 32#32
  let c0_i32_465 : BitVec 32 := 0#32
  let v712 : BitVec 1 := Scalar.cmpi .eq c32_i32_464 c0_i32_465
  let c1_i32_466 : BitVec 32 := 1#32
  let v713 : BitVec 32 := Scalar.select v712 c1_i32_466 c32_i32_464
  let v714 : BitVec 32 := Scalar.remsi v711 v713
  let c0_i32_468 : BitVec 32 := 0#32
  let v716 : BitVec 1 := Scalar.cmpi .slt v714 c0_i32_468
  let c0_i32_469 : BitVec 32 := 0#32
  let v717 : BitVec 1 := Scalar.cmpi .slt v713 c0_i32_469
  let v718 : BitVec 1 := Scalar.xori v716 v717
  let c0_i32_467 : BitVec 32 := 0#32
  let v715 : BitVec 1 := Scalar.cmpi .ne v714 c0_i32_467
  let v719 : BitVec 1 := Scalar.andi v718 v715
  let v720 : BitVec 32 := Scalar.addi v714 v713
  let v721 : BitVec 32 := Scalar.select v719 v720 v714
  let v722 : Index := Scalar.indexCast v721
  ![v722.toNat]
def k0_off59 (v723 : BitVec 32) : Fin 3 → Nat :=
  let c0_i32_473 : BitVec 32 := 0#32
  let c0_i32_474 : BitVec 32 := 0#32
  ![v723.toNat, 0, 0]

def k0_chk34 (v723 : BitVec 32) : Prop :=
  (∀ a, (k0_off59 v723) a + S1x32x1024.size a ≤ S32x32x1024.size a)
theorem k0_off59_inb : ∀ (v723 : BitVec 32) (k0_hw34 : k0_chk34 v723), ∀ a, (k0_off59 v723) a + S1x32x1024.size a ≤ S32x32x1024.size a := fun v723 k0_hw34 => k0_hw34

def k0_dev23 (v18 : BitVec 32) : Nat :=
  let c0_i32_472 : BitVec 32 := 0#32
  let c1_i32_471 : BitVec 32 := 1#32
  let v724 : BitVec 32 := Scalar.muli v18 c1_i32_471
  let v725 : BitVec 32 := Scalar.addi c0_i32_472 v724
  v725.toNat
def k0_off60 (v4 : BitVec 32) : Fin 1 → Nat :=
  let c64_i32_477 : BitVec 32 := 64#32
  let v734 : BitVec 32 := Scalar.addi v4 c64_i32_477
  let c_m23_i32 : BitVec 32 := 4294967273#32
  let v735 : BitVec 32 := Scalar.addi v734 c_m23_i32
  let c32_i32_478 : BitVec 32 := 32#32
  let c0_i32_479 : BitVec 32 := 0#32
  let v736 : BitVec 1 := Scalar.cmpi .eq c32_i32_478 c0_i32_479
  let c1_i32_480 : BitVec 32 := 1#32
  let v737 : BitVec 32 := Scalar.select v736 c1_i32_480 c32_i32_478
  let v738 : BitVec 32 := Scalar.remsi v735 v737
  let c0_i32_482 : BitVec 32 := 0#32
  let v740 : BitVec 1 := Scalar.cmpi .slt v738 c0_i32_482
  let c0_i32_483 : BitVec 32 := 0#32
  let v741 : BitVec 1 := Scalar.cmpi .slt v737 c0_i32_483
  let v742 : BitVec 1 := Scalar.xori v740 v741
  let c0_i32_481 : BitVec 32 := 0#32
  let v739 : BitVec 1 := Scalar.cmpi .ne v738 c0_i32_481
  let v743 : BitVec 1 := Scalar.andi v742 v739
  let v744 : BitVec 32 := Scalar.addi v738 v737
  let v745 : BitVec 32 := Scalar.select v743 v744 v738
  let v746 : Index := Scalar.indexCast v745
  ![v746.toNat]
def k0_off61 (v747 : BitVec 32) : Fin 3 → Nat :=
  let c0_i32_488 : BitVec 32 := 0#32
  let c0_i32_489 : BitVec 32 := 0#32
  ![v747.toNat, 0, 0]

def k0_chk35 (v747 : BitVec 32) : Prop :=
  (∀ a, (k0_off61 v747) a + S1x32x1024.size a ≤ S32x32x1024.size a)
theorem k0_off61_inb : ∀ (v747 : BitVec 32) (k0_hw35 : k0_chk35 v747), ∀ a, (k0_off61 v747) a + S1x32x1024.size a ≤ S32x32x1024.size a := fun v747 k0_hw35 => k0_hw35

def k0_off62 (v4 : BitVec 32) : Fin 1 → Nat :=
  let c64_i32_492 : BitVec 32 := 64#32
  let v756 : BitVec 32 := Scalar.addi v4 c64_i32_492
  let c_m23_i32_493 : BitVec 32 := 4294967273#32
  let v757 : BitVec 32 := Scalar.addi v756 c_m23_i32_493
  let c32_i32_494 : BitVec 32 := 32#32
  let c0_i32_495 : BitVec 32 := 0#32
  let v758 : BitVec 1 := Scalar.cmpi .eq c32_i32_494 c0_i32_495
  let c1_i32_496 : BitVec 32 := 1#32
  let v759 : BitVec 32 := Scalar.select v758 c1_i32_496 c32_i32_494
  let v760 : BitVec 32 := Scalar.remsi v757 v759
  let c0_i32_498 : BitVec 32 := 0#32
  let v762 : BitVec 1 := Scalar.cmpi .slt v760 c0_i32_498
  let c0_i32_499 : BitVec 32 := 0#32
  let v763 : BitVec 1 := Scalar.cmpi .slt v759 c0_i32_499
  let v764 : BitVec 1 := Scalar.xori v762 v763
  let c0_i32_497 : BitVec 32 := 0#32
  let v761 : BitVec 1 := Scalar.cmpi .ne v760 c0_i32_497
  let v765 : BitVec 1 := Scalar.andi v764 v761
  let v766 : BitVec 32 := Scalar.addi v760 v759
  let v767 : BitVec 32 := Scalar.select v765 v766 v760
  let v768 : Index := Scalar.indexCast v767
  ![v768.toNat]
def k0_off63 (v769 : BitVec 32) : Fin 3 → Nat :=
  let c0_i32_504 : BitVec 32 := 0#32
  let c0_i32_505 : BitVec 32 := 0#32
  ![v769.toNat, 0, 0]

def k0_chk36 (v769 : BitVec 32) : Prop :=
  (∀ a, (k0_off63 v769) a + S1x32x1024.size a ≤ S32x32x1024.size a)
theorem k0_off63_inb : ∀ (v769 : BitVec 32) (k0_hw36 : k0_chk36 v769), ∀ a, (k0_off63 v769) a + S1x32x1024.size a ≤ S32x32x1024.size a := fun v769 k0_hw36 => k0_hw36

def k0_dev24 (v32 : BitVec 32) : Nat :=
  let c0_i32_503 : BitVec 32 := 0#32
  let c1_i32_502 : BitVec 32 := 1#32
  let v770 : BitVec 32 := Scalar.muli v32 c1_i32_502
  let v771 : BitVec 32 := Scalar.addi c0_i32_503 v770
  v771.toNat
def k0_off64 (v4 : BitVec 32) : Fin 1 → Nat :=
  let c64_i32_508 : BitVec 32 := 64#32
  let v780 : BitVec 32 := Scalar.addi v4 c64_i32_508
  let c_m2_i32 : BitVec 32 := 4294967294#32
  let v781 : BitVec 32 := Scalar.addi v780 c_m2_i32
  let c32_i32_509 : BitVec 32 := 32#32
  let c0_i32_510 : BitVec 32 := 0#32
  let v782 : BitVec 1 := Scalar.cmpi .eq c32_i32_509 c0_i32_510
  let c1_i32_511 : BitVec 32 := 1#32
  let v783 : BitVec 32 := Scalar.select v782 c1_i32_511 c32_i32_509
  let v784 : BitVec 32 := Scalar.remsi v781 v783
  let c0_i32_513 : BitVec 32 := 0#32
  let v786 : BitVec 1 := Scalar.cmpi .slt v784 c0_i32_513
  let c0_i32_514 : BitVec 32 := 0#32
  let v787 : BitVec 1 := Scalar.cmpi .slt v783 c0_i32_514
  let v788 : BitVec 1 := Scalar.xori v786 v787
  let c0_i32_512 : BitVec 32 := 0#32
  let v785 : BitVec 1 := Scalar.cmpi .ne v784 c0_i32_512
  let v789 : BitVec 1 := Scalar.andi v788 v785
  let v790 : BitVec 32 := Scalar.addi v784 v783
  let v791 : BitVec 32 := Scalar.select v789 v790 v784
  let v792 : Index := Scalar.indexCast v791
  ![v792.toNat]
def k0_off65 (v793 : BitVec 32) : Fin 3 → Nat :=
  let c0_i32_519 : BitVec 32 := 0#32
  let c0_i32_520 : BitVec 32 := 0#32
  ![v793.toNat, 0, 0]

def k0_chk37 (v793 : BitVec 32) : Prop :=
  (∀ a, (k0_off65 v793) a + S1x32x1024.size a ≤ S32x32x1024.size a)
theorem k0_off65_inb : ∀ (v793 : BitVec 32) (k0_hw37 : k0_chk37 v793), ∀ a, (k0_off65 v793) a + S1x32x1024.size a ≤ S32x32x1024.size a := fun v793 k0_hw37 => k0_hw37

def k0_off66 (v4 : BitVec 32) : Fin 1 → Nat :=
  let c64_i32_523 : BitVec 32 := 64#32
  let v802 : BitVec 32 := Scalar.addi v4 c64_i32_523
  let c_m2_i32_524 : BitVec 32 := 4294967294#32
  let v803 : BitVec 32 := Scalar.addi v802 c_m2_i32_524
  let c32_i32_525 : BitVec 32 := 32#32
  let c0_i32_526 : BitVec 32 := 0#32
  let v804 : BitVec 1 := Scalar.cmpi .eq c32_i32_525 c0_i32_526
  let c1_i32_527 : BitVec 32 := 1#32
  let v805 : BitVec 32 := Scalar.select v804 c1_i32_527 c32_i32_525
  let v806 : BitVec 32 := Scalar.remsi v803 v805
  let c0_i32_529 : BitVec 32 := 0#32
  let v808 : BitVec 1 := Scalar.cmpi .slt v806 c0_i32_529
  let c0_i32_530 : BitVec 32 := 0#32
  let v809 : BitVec 1 := Scalar.cmpi .slt v805 c0_i32_530
  let v810 : BitVec 1 := Scalar.xori v808 v809
  let c0_i32_528 : BitVec 32 := 0#32
  let v807 : BitVec 1 := Scalar.cmpi .ne v806 c0_i32_528
  let v811 : BitVec 1 := Scalar.andi v810 v807
  let v812 : BitVec 32 := Scalar.addi v806 v805
  let v813 : BitVec 32 := Scalar.select v811 v812 v806
  let v814 : Index := Scalar.indexCast v813
  ![v814.toNat]
def k0_off67 (v815 : BitVec 32) : Fin 3 → Nat :=
  let c0_i32_535 : BitVec 32 := 0#32
  let c0_i32_536 : BitVec 32 := 0#32
  ![v815.toNat, 0, 0]

def k0_chk38 (v815 : BitVec 32) : Prop :=
  (∀ a, (k0_off67 v815) a + S1x32x1024.size a ≤ S32x32x1024.size a)
theorem k0_off67_inb : ∀ (v815 : BitVec 32) (k0_hw38 : k0_chk38 v815), ∀ a, (k0_off67 v815) a + S1x32x1024.size a ≤ S32x32x1024.size a := fun v815 k0_hw38 => k0_hw38

def k0_dev25 (v18 : BitVec 32) : Nat :=
  let c0_i32_534 : BitVec 32 := 0#32
  let c1_i32_533 : BitVec 32 := 1#32
  let v816 : BitVec 32 := Scalar.muli v18 c1_i32_533
  let v817 : BitVec 32 := Scalar.addi c0_i32_534 v816
  v817.toNat
def k0_off68 (v4 : BitVec 32) : Fin 1 → Nat :=
  let c64_i32_539 : BitVec 32 := 64#32
  let v826 : BitVec 32 := Scalar.addi v4 c64_i32_539
  let c2_i32_540 : BitVec 32 := 2#32
  let v827 : BitVec 32 := Scalar.addi v826 c2_i32_540
  let c32_i32_541 : BitVec 32 := 32#32
  let c0_i32_542 : BitVec 32 := 0#32
  let v828 : BitVec 1 := Scalar.cmpi .eq c32_i32_541 c0_i32_542
  let c1_i32_543 : BitVec 32 := 1#32
  let v829 : BitVec 32 := Scalar.select v828 c1_i32_543 c32_i32_541
  let v830 : BitVec 32 := Scalar.remsi v827 v829
  let c0_i32_545 : BitVec 32 := 0#32
  let v832 : BitVec 1 := Scalar.cmpi .slt v830 c0_i32_545
  let c0_i32_546 : BitVec 32 := 0#32
  let v833 : BitVec 1 := Scalar.cmpi .slt v829 c0_i32_546
  let v834 : BitVec 1 := Scalar.xori v832 v833
  let c0_i32_544 : BitVec 32 := 0#32
  let v831 : BitVec 1 := Scalar.cmpi .ne v830 c0_i32_544
  let v835 : BitVec 1 := Scalar.andi v834 v831
  let v836 : BitVec 32 := Scalar.addi v830 v829
  let v837 : BitVec 32 := Scalar.select v835 v836 v830
  let v838 : Index := Scalar.indexCast v837
  ![v838.toNat]
def k0_off69 (v839 : BitVec 32) : Fin 3 → Nat :=
  let c0_i32_551 : BitVec 32 := 0#32
  let c0_i32_552 : BitVec 32 := 0#32
  ![v839.toNat, 0, 0]

def k0_chk39 (v839 : BitVec 32) : Prop :=
  (∀ a, (k0_off69 v839) a + S1x32x1024.size a ≤ S32x32x1024.size a)
theorem k0_off69_inb : ∀ (v839 : BitVec 32) (k0_hw39 : k0_chk39 v839), ∀ a, (k0_off69 v839) a + S1x32x1024.size a ≤ S32x32x1024.size a := fun v839 k0_hw39 => k0_hw39

def k0_off70 (v4 : BitVec 32) : Fin 1 → Nat :=
  let c64_i32_555 : BitVec 32 := 64#32
  let v848 : BitVec 32 := Scalar.addi v4 c64_i32_555
  let c2_i32_556 : BitVec 32 := 2#32
  let v849 : BitVec 32 := Scalar.addi v848 c2_i32_556
  let c32_i32_557 : BitVec 32 := 32#32
  let c0_i32_558 : BitVec 32 := 0#32
  let v850 : BitVec 1 := Scalar.cmpi .eq c32_i32_557 c0_i32_558
  let c1_i32_559 : BitVec 32 := 1#32
  let v851 : BitVec 32 := Scalar.select v850 c1_i32_559 c32_i32_557
  let v852 : BitVec 32 := Scalar.remsi v849 v851
  let c0_i32_561 : BitVec 32 := 0#32
  let v854 : BitVec 1 := Scalar.cmpi .slt v852 c0_i32_561
  let c0_i32_562 : BitVec 32 := 0#32
  let v855 : BitVec 1 := Scalar.cmpi .slt v851 c0_i32_562
  let v856 : BitVec 1 := Scalar.xori v854 v855
  let c0_i32_560 : BitVec 32 := 0#32
  let v853 : BitVec 1 := Scalar.cmpi .ne v852 c0_i32_560
  let v857 : BitVec 1 := Scalar.andi v856 v853
  let v858 : BitVec 32 := Scalar.addi v852 v851
  let v859 : BitVec 32 := Scalar.select v857 v858 v852
  let v860 : Index := Scalar.indexCast v859
  ![v860.toNat]
def k0_off71 (v861 : BitVec 32) : Fin 3 → Nat :=
  let c0_i32_567 : BitVec 32 := 0#32
  let c0_i32_568 : BitVec 32 := 0#32
  ![v861.toNat, 0, 0]

def k0_chk40 (v861 : BitVec 32) : Prop :=
  (∀ a, (k0_off71 v861) a + S1x32x1024.size a ≤ S32x32x1024.size a)
theorem k0_off71_inb : ∀ (v861 : BitVec 32) (k0_hw40 : k0_chk40 v861), ∀ a, (k0_off71 v861) a + S1x32x1024.size a ≤ S32x32x1024.size a := fun v861 k0_hw40 => k0_hw40

def k0_dev26 (v32 : BitVec 32) : Nat :=
  let c0_i32_566 : BitVec 32 := 0#32
  let c1_i32_565 : BitVec 32 := 1#32
  let v862 : BitVec 32 := Scalar.muli v32 c1_i32_565
  let v863 : BitVec 32 := Scalar.addi c0_i32_566 v862
  v863.toNat
def k0_off72 (v4 : BitVec 32) : Fin 1 → Nat :=
  let c64_i32_571 : BitVec 32 := 64#32
  let v872 : BitVec 32 := Scalar.addi v4 c64_i32_571
  let c_m10_i32 : BitVec 32 := 4294967286#32
  let v873 : BitVec 32 := Scalar.addi v872 c_m10_i32
  let c32_i32_572 : BitVec 32 := 32#32
  let c0_i32_573 : BitVec 32 := 0#32
  let v874 : BitVec 1 := Scalar.cmpi .eq c32_i32_572 c0_i32_573
  let c1_i32_574 : BitVec 32 := 1#32
  let v875 : BitVec 32 := Scalar.select v874 c1_i32_574 c32_i32_572
  let v876 : BitVec 32 := Scalar.remsi v873 v875
  let c0_i32_576 : BitVec 32 := 0#32
  let v878 : BitVec 1 := Scalar.cmpi .slt v876 c0_i32_576
  let c0_i32_577 : BitVec 32 := 0#32
  let v879 : BitVec 1 := Scalar.cmpi .slt v875 c0_i32_577
  let v880 : BitVec 1 := Scalar.xori v878 v879
  let c0_i32_575 : BitVec 32 := 0#32
  let v877 : BitVec 1 := Scalar.cmpi .ne v876 c0_i32_575
  let v881 : BitVec 1 := Scalar.andi v880 v877
  let v882 : BitVec 32 := Scalar.addi v876 v875
  let v883 : BitVec 32 := Scalar.select v881 v882 v876
  let v884 : Index := Scalar.indexCast v883
  ![v884.toNat]
def k0_off73 (v885 : BitVec 32) : Fin 3 → Nat :=
  let c0_i32_582 : BitVec 32 := 0#32
  let c0_i32_583 : BitVec 32 := 0#32
  ![v885.toNat, 0, 0]

def k0_chk41 (v885 : BitVec 32) : Prop :=
  (∀ a, (k0_off73 v885) a + S1x32x1024.size a ≤ S32x32x1024.size a)
theorem k0_off73_inb : ∀ (v885 : BitVec 32) (k0_hw41 : k0_chk41 v885), ∀ a, (k0_off73 v885) a + S1x32x1024.size a ≤ S32x32x1024.size a := fun v885 k0_hw41 => k0_hw41

def k0_off74 (v4 : BitVec 32) : Fin 1 → Nat :=
  let c64_i32_586 : BitVec 32 := 64#32
  let v894 : BitVec 32 := Scalar.addi v4 c64_i32_586
  let c_m10_i32_587 : BitVec 32 := 4294967286#32
  let v895 : BitVec 32 := Scalar.addi v894 c_m10_i32_587
  let c32_i32_588 : BitVec 32 := 32#32
  let c0_i32_589 : BitVec 32 := 0#32
  let v896 : BitVec 1 := Scalar.cmpi .eq c32_i32_588 c0_i32_589
  let c1_i32_590 : BitVec 32 := 1#32
  let v897 : BitVec 32 := Scalar.select v896 c1_i32_590 c32_i32_588
  let v898 : BitVec 32 := Scalar.remsi v895 v897
  let c0_i32_592 : BitVec 32 := 0#32
  let v900 : BitVec 1 := Scalar.cmpi .slt v898 c0_i32_592
  let c0_i32_593 : BitVec 32 := 0#32
  let v901 : BitVec 1 := Scalar.cmpi .slt v897 c0_i32_593
  let v902 : BitVec 1 := Scalar.xori v900 v901
  let c0_i32_591 : BitVec 32 := 0#32
  let v899 : BitVec 1 := Scalar.cmpi .ne v898 c0_i32_591
  let v903 : BitVec 1 := Scalar.andi v902 v899
  let v904 : BitVec 32 := Scalar.addi v898 v897
  let v905 : BitVec 32 := Scalar.select v903 v904 v898
  let v906 : Index := Scalar.indexCast v905
  ![v906.toNat]
def k0_off75 (v907 : BitVec 32) : Fin 3 → Nat :=
  let c0_i32_597 : BitVec 32 := 0#32
  let c0_i32_598 : BitVec 32 := 0#32
  ![v907.toNat, 0, 0]

def k0_chk42 (v907 : BitVec 32) : Prop :=
  (∀ a, (k0_off75 v907) a + S1x32x1024.size a ≤ S32x32x1024.size a)
theorem k0_off75_inb : ∀ (v907 : BitVec 32) (k0_hw42 : k0_chk42 v907), ∀ a, (k0_off75 v907) a + S1x32x1024.size a ≤ S32x32x1024.size a := fun v907 k0_hw42 => k0_hw42

def k0_dev27 (v18 : BitVec 32) : Nat :=
  let c0_i32_596 : BitVec 32 := 0#32
  let c1_i32_595 : BitVec 32 := 1#32
  let v908 : BitVec 32 := Scalar.muli v18 c1_i32_595
  let v909 : BitVec 32 := Scalar.addi c0_i32_596 v908
  v909.toNat
def k0_off76 (v4 : BitVec 32) : Fin 1 → Nat :=
  let c64_i32_601 : BitVec 32 := 64#32
  let v918 : BitVec 32 := Scalar.addi v4 c64_i32_601
  let c_m6_i32 : BitVec 32 := 4294967290#32
  let v919 : BitVec 32 := Scalar.addi v918 c_m6_i32
  let c32_i32_602 : BitVec 32 := 32#32
  let c0_i32_603 : BitVec 32 := 0#32
  let v920 : BitVec 1 := Scalar.cmpi .eq c32_i32_602 c0_i32_603
  let c1_i32_604 : BitVec 32 := 1#32
  let v921 : BitVec 32 := Scalar.select v920 c1_i32_604 c32_i32_602
  let v922 : BitVec 32 := Scalar.remsi v919 v921
  let c0_i32_606 : BitVec 32 := 0#32
  let v924 : BitVec 1 := Scalar.cmpi .slt v922 c0_i32_606
  let c0_i32_607 : BitVec 32 := 0#32
  let v925 : BitVec 1 := Scalar.cmpi .slt v921 c0_i32_607
  let v926 : BitVec 1 := Scalar.xori v924 v925
  let c0_i32_605 : BitVec 32 := 0#32
  let v923 : BitVec 1 := Scalar.cmpi .ne v922 c0_i32_605
  let v927 : BitVec 1 := Scalar.andi v926 v923
  let v928 : BitVec 32 := Scalar.addi v922 v921
  let v929 : BitVec 32 := Scalar.select v927 v928 v922
  let v930 : Index := Scalar.indexCast v929
  ![v930.toNat]
def k0_off77 (v931 : BitVec 32) : Fin 3 → Nat :=
  let c0_i32_612 : BitVec 32 := 0#32
  let c0_i32_613 : BitVec 32 := 0#32
  ![v931.toNat, 0, 0]

def k0_chk43 (v931 : BitVec 32) : Prop :=
  (∀ a, (k0_off77 v931) a + S1x32x1024.size a ≤ S32x32x1024.size a)
theorem k0_off77_inb : ∀ (v931 : BitVec 32) (k0_hw43 : k0_chk43 v931), ∀ a, (k0_off77 v931) a + S1x32x1024.size a ≤ S32x32x1024.size a := fun v931 k0_hw43 => k0_hw43

def k0_off78 (v4 : BitVec 32) : Fin 1 → Nat :=
  let c64_i32_616 : BitVec 32 := 64#32
  let v940 : BitVec 32 := Scalar.addi v4 c64_i32_616
  let c_m6_i32_617 : BitVec 32 := 4294967290#32
  let v941 : BitVec 32 := Scalar.addi v940 c_m6_i32_617
  let c32_i32_618 : BitVec 32 := 32#32
  let c0_i32_619 : BitVec 32 := 0#32
  let v942 : BitVec 1 := Scalar.cmpi .eq c32_i32_618 c0_i32_619
  let c1_i32_620 : BitVec 32 := 1#32
  let v943 : BitVec 32 := Scalar.select v942 c1_i32_620 c32_i32_618
  let v944 : BitVec 32 := Scalar.remsi v941 v943
  let c0_i32_622 : BitVec 32 := 0#32
  let v946 : BitVec 1 := Scalar.cmpi .slt v944 c0_i32_622
  let c0_i32_623 : BitVec 32 := 0#32
  let v947 : BitVec 1 := Scalar.cmpi .slt v943 c0_i32_623
  let v948 : BitVec 1 := Scalar.xori v946 v947
  let c0_i32_621 : BitVec 32 := 0#32
  let v945 : BitVec 1 := Scalar.cmpi .ne v944 c0_i32_621
  let v949 : BitVec 1 := Scalar.andi v948 v945
  let v950 : BitVec 32 := Scalar.addi v944 v943
  let v951 : BitVec 32 := Scalar.select v949 v950 v944
  let v952 : Index := Scalar.indexCast v951
  ![v952.toNat]
def k0_off79 (v953 : BitVec 32) : Fin 3 → Nat :=
  let c0_i32_628 : BitVec 32 := 0#32
  let c0_i32_629 : BitVec 32 := 0#32
  ![v953.toNat, 0, 0]

def k0_chk44 (v953 : BitVec 32) : Prop :=
  (∀ a, (k0_off79 v953) a + S1x32x1024.size a ≤ S32x32x1024.size a)
theorem k0_off79_inb : ∀ (v953 : BitVec 32) (k0_hw44 : k0_chk44 v953), ∀ a, (k0_off79 v953) a + S1x32x1024.size a ≤ S32x32x1024.size a := fun v953 k0_hw44 => k0_hw44

def k0_dev28 (v32 : BitVec 32) : Nat :=
  let c0_i32_627 : BitVec 32 := 0#32
  let c1_i32_626 : BitVec 32 := 1#32
  let v954 : BitVec 32 := Scalar.muli v32 c1_i32_626
  let v955 : BitVec 32 := Scalar.addi c0_i32_627 v954
  v955.toNat
def k0_off80 (v4 : BitVec 32) : Fin 1 → Nat :=
  let c64_i32_632 : BitVec 32 := 64#32
  let v964 : BitVec 32 := Scalar.addi v4 c64_i32_632
  let c_m18_i32 : BitVec 32 := 4294967278#32
  let v965 : BitVec 32 := Scalar.addi v964 c_m18_i32
  let c32_i32_633 : BitVec 32 := 32#32
  let c0_i32_634 : BitVec 32 := 0#32
  let v966 : BitVec 1 := Scalar.cmpi .eq c32_i32_633 c0_i32_634
  let c1_i32_635 : BitVec 32 := 1#32
  let v967 : BitVec 32 := Scalar.select v966 c1_i32_635 c32_i32_633
  let v968 : BitVec 32 := Scalar.remsi v965 v967
  let c0_i32_637 : BitVec 32 := 0#32
  let v970 : BitVec 1 := Scalar.cmpi .slt v968 c0_i32_637
  let c0_i32_638 : BitVec 32 := 0#32
  let v971 : BitVec 1 := Scalar.cmpi .slt v967 c0_i32_638
  let v972 : BitVec 1 := Scalar.xori v970 v971
  let c0_i32_636 : BitVec 32 := 0#32
  let v969 : BitVec 1 := Scalar.cmpi .ne v968 c0_i32_636
  let v973 : BitVec 1 := Scalar.andi v972 v969
  let v974 : BitVec 32 := Scalar.addi v968 v967
  let v975 : BitVec 32 := Scalar.select v973 v974 v968
  let v976 : Index := Scalar.indexCast v975
  ![v976.toNat]
def k0_off81 (v977 : BitVec 32) : Fin 3 → Nat :=
  let c0_i32_643 : BitVec 32 := 0#32
  let c0_i32_644 : BitVec 32 := 0#32
  ![v977.toNat, 0, 0]

def k0_chk45 (v977 : BitVec 32) : Prop :=
  (∀ a, (k0_off81 v977) a + S1x32x1024.size a ≤ S32x32x1024.size a)
theorem k0_off81_inb : ∀ (v977 : BitVec 32) (k0_hw45 : k0_chk45 v977), ∀ a, (k0_off81 v977) a + S1x32x1024.size a ≤ S32x32x1024.size a := fun v977 k0_hw45 => k0_hw45

def k0_off82 (v4 : BitVec 32) : Fin 1 → Nat :=
  let c64_i32_647 : BitVec 32 := 64#32
  let v986 : BitVec 32 := Scalar.addi v4 c64_i32_647
  let c_m18_i32_648 : BitVec 32 := 4294967278#32
  let v987 : BitVec 32 := Scalar.addi v986 c_m18_i32_648
  let c32_i32_649 : BitVec 32 := 32#32
  let c0_i32_650 : BitVec 32 := 0#32
  let v988 : BitVec 1 := Scalar.cmpi .eq c32_i32_649 c0_i32_650
  let c1_i32_651 : BitVec 32 := 1#32
  let v989 : BitVec 32 := Scalar.select v988 c1_i32_651 c32_i32_649
  let v990 : BitVec 32 := Scalar.remsi v987 v989
  let c0_i32_653 : BitVec 32 := 0#32
  let v992 : BitVec 1 := Scalar.cmpi .slt v990 c0_i32_653
  let c0_i32_654 : BitVec 32 := 0#32
  let v993 : BitVec 1 := Scalar.cmpi .slt v989 c0_i32_654
  let v994 : BitVec 1 := Scalar.xori v992 v993
  let c0_i32_652 : BitVec 32 := 0#32
  let v991 : BitVec 1 := Scalar.cmpi .ne v990 c0_i32_652
  let v995 : BitVec 1 := Scalar.andi v994 v991
  let v996 : BitVec 32 := Scalar.addi v990 v989
  let v997 : BitVec 32 := Scalar.select v995 v996 v990
  let v998 : Index := Scalar.indexCast v997
  ![v998.toNat]
def k0_off83 (v999 : BitVec 32) : Fin 3 → Nat :=
  let c0_i32_658 : BitVec 32 := 0#32
  let c0_i32_659 : BitVec 32 := 0#32
  ![v999.toNat, 0, 0]

def k0_chk46 (v999 : BitVec 32) : Prop :=
  (∀ a, (k0_off83 v999) a + S1x32x1024.size a ≤ S32x32x1024.size a)
theorem k0_off83_inb : ∀ (v999 : BitVec 32) (k0_hw46 : k0_chk46 v999), ∀ a, (k0_off83 v999) a + S1x32x1024.size a ≤ S32x32x1024.size a := fun v999 k0_hw46 => k0_hw46

def k0_dev29 (v18 : BitVec 32) : Nat :=
  let c0_i32_657 : BitVec 32 := 0#32
  let c1_i32_656 : BitVec 32 := 1#32
  let v1000 : BitVec 32 := Scalar.muli v18 c1_i32_656
  let v1001 : BitVec 32 := Scalar.addi c0_i32_657 v1000
  v1001.toNat
def k0_off84 (v4 : BitVec 32) : Fin 1 → Nat :=
  let c64_i32_662 : BitVec 32 := 64#32
  let v1010 : BitVec 32 := Scalar.addi v4 c64_i32_662
  let c_m14_i32 : BitVec 32 := 4294967282#32
  let v1011 : BitVec 32 := Scalar.addi v1010 c_m14_i32
  let c32_i32_663 : BitVec 32 := 32#32
  let c0_i32_664 : BitVec 32 := 0#32
  let v1012 : BitVec 1 := Scalar.cmpi .eq c32_i32_663 c0_i32_664
  let c1_i32_665 : BitVec 32 := 1#32
  let v1013 : BitVec 32 := Scalar.select v1012 c1_i32_665 c32_i32_663
  let v1014 : BitVec 32 := Scalar.remsi v1011 v1013
  let c0_i32_667 : BitVec 32 := 0#32
  let v1016 : BitVec 1 := Scalar.cmpi .slt v1014 c0_i32_667
  let c0_i32_668 : BitVec 32 := 0#32
  let v1017 : BitVec 1 := Scalar.cmpi .slt v1013 c0_i32_668
  let v1018 : BitVec 1 := Scalar.xori v1016 v1017
  let c0_i32_666 : BitVec 32 := 0#32
  let v1015 : BitVec 1 := Scalar.cmpi .ne v1014 c0_i32_666
  let v1019 : BitVec 1 := Scalar.andi v1018 v1015
  let v1020 : BitVec 32 := Scalar.addi v1014 v1013
  let v1021 : BitVec 32 := Scalar.select v1019 v1020 v1014
  let v1022 : Index := Scalar.indexCast v1021
  ![v1022.toNat]
def k0_off85 (v1023 : BitVec 32) : Fin 3 → Nat :=
  let c0_i32_673 : BitVec 32 := 0#32
  let c0_i32_674 : BitVec 32 := 0#32
  ![v1023.toNat, 0, 0]

def k0_chk47 (v1023 : BitVec 32) : Prop :=
  (∀ a, (k0_off85 v1023) a + S1x32x1024.size a ≤ S32x32x1024.size a)
theorem k0_off85_inb : ∀ (v1023 : BitVec 32) (k0_hw47 : k0_chk47 v1023), ∀ a, (k0_off85 v1023) a + S1x32x1024.size a ≤ S32x32x1024.size a := fun v1023 k0_hw47 => k0_hw47

def k0_off86 (v4 : BitVec 32) : Fin 1 → Nat :=
  let c64_i32_677 : BitVec 32 := 64#32
  let v1032 : BitVec 32 := Scalar.addi v4 c64_i32_677
  let c_m14_i32_678 : BitVec 32 := 4294967282#32
  let v1033 : BitVec 32 := Scalar.addi v1032 c_m14_i32_678
  let c32_i32_679 : BitVec 32 := 32#32
  let c0_i32_680 : BitVec 32 := 0#32
  let v1034 : BitVec 1 := Scalar.cmpi .eq c32_i32_679 c0_i32_680
  let c1_i32_681 : BitVec 32 := 1#32
  let v1035 : BitVec 32 := Scalar.select v1034 c1_i32_681 c32_i32_679
  let v1036 : BitVec 32 := Scalar.remsi v1033 v1035
  let c0_i32_683 : BitVec 32 := 0#32
  let v1038 : BitVec 1 := Scalar.cmpi .slt v1036 c0_i32_683
  let c0_i32_684 : BitVec 32 := 0#32
  let v1039 : BitVec 1 := Scalar.cmpi .slt v1035 c0_i32_684
  let v1040 : BitVec 1 := Scalar.xori v1038 v1039
  let c0_i32_682 : BitVec 32 := 0#32
  let v1037 : BitVec 1 := Scalar.cmpi .ne v1036 c0_i32_682
  let v1041 : BitVec 1 := Scalar.andi v1040 v1037
  let v1042 : BitVec 32 := Scalar.addi v1036 v1035
  let v1043 : BitVec 32 := Scalar.select v1041 v1042 v1036
  let v1044 : Index := Scalar.indexCast v1043
  ![v1044.toNat]
def k0_off87 (v1045 : BitVec 32) : Fin 3 → Nat :=
  let c0_i32_689 : BitVec 32 := 0#32
  let c0_i32_690 : BitVec 32 := 0#32
  ![v1045.toNat, 0, 0]

def k0_chk48 (v1045 : BitVec 32) : Prop :=
  (∀ a, (k0_off87 v1045) a + S1x32x1024.size a ≤ S32x32x1024.size a)
theorem k0_off87_inb : ∀ (v1045 : BitVec 32) (k0_hw48 : k0_chk48 v1045), ∀ a, (k0_off87 v1045) a + S1x32x1024.size a ≤ S32x32x1024.size a := fun v1045 k0_hw48 => k0_hw48

def k0_dev30 (v32 : BitVec 32) : Nat :=
  let c0_i32_688 : BitVec 32 := 0#32
  let c1_i32_687 : BitVec 32 := 1#32
  let v1046 : BitVec 32 := Scalar.muli v32 c1_i32_687
  let v1047 : BitVec 32 := Scalar.addi c0_i32_688 v1046
  v1047.toNat
def k0_off88 (v4 : BitVec 32) : Fin 1 → Nat :=
  let c64_i32_693 : BitVec 32 := 64#32
  let v1056 : BitVec 32 := Scalar.addi v4 c64_i32_693
  let c_m26_i32 : BitVec 32 := 4294967270#32
  let v1057 : BitVec 32 := Scalar.addi v1056 c_m26_i32
  let c32_i32_694 : BitVec 32 := 32#32
  let c0_i32_695 : BitVec 32 := 0#32
  let v1058 : BitVec 1 := Scalar.cmpi .eq c32_i32_694 c0_i32_695
  let c1_i32_696 : BitVec 32 := 1#32
  let v1059 : BitVec 32 := Scalar.select v1058 c1_i32_696 c32_i32_694
  let v1060 : BitVec 32 := Scalar.remsi v1057 v1059
  let c0_i32_698 : BitVec 32 := 0#32
  let v1062 : BitVec 1 := Scalar.cmpi .slt v1060 c0_i32_698
  let c0_i32_699 : BitVec 32 := 0#32
  let v1063 : BitVec 1 := Scalar.cmpi .slt v1059 c0_i32_699
  let v1064 : BitVec 1 := Scalar.xori v1062 v1063
  let c0_i32_697 : BitVec 32 := 0#32
  let v1061 : BitVec 1 := Scalar.cmpi .ne v1060 c0_i32_697
  let v1065 : BitVec 1 := Scalar.andi v1064 v1061
  let v1066 : BitVec 32 := Scalar.addi v1060 v1059
  let v1067 : BitVec 32 := Scalar.select v1065 v1066 v1060
  let v1068 : Index := Scalar.indexCast v1067
  ![v1068.toNat]
def k0_off89 (v1069 : BitVec 32) : Fin 3 → Nat :=
  let c0_i32_704 : BitVec 32 := 0#32
  let c0_i32_705 : BitVec 32 := 0#32
  ![v1069.toNat, 0, 0]

def k0_chk49 (v1069 : BitVec 32) : Prop :=
  (∀ a, (k0_off89 v1069) a + S1x32x1024.size a ≤ S32x32x1024.size a)
theorem k0_off89_inb : ∀ (v1069 : BitVec 32) (k0_hw49 : k0_chk49 v1069), ∀ a, (k0_off89 v1069) a + S1x32x1024.size a ≤ S32x32x1024.size a := fun v1069 k0_hw49 => k0_hw49

def k0_off90 (v4 : BitVec 32) : Fin 1 → Nat :=
  let c64_i32_708 : BitVec 32 := 64#32
  let v1078 : BitVec 32 := Scalar.addi v4 c64_i32_708
  let c_m26_i32_709 : BitVec 32 := 4294967270#32
  let v1079 : BitVec 32 := Scalar.addi v1078 c_m26_i32_709
  let c32_i32_710 : BitVec 32 := 32#32
  let c0_i32_711 : BitVec 32 := 0#32
  let v1080 : BitVec 1 := Scalar.cmpi .eq c32_i32_710 c0_i32_711
  let c1_i32_712 : BitVec 32 := 1#32
  let v1081 : BitVec 32 := Scalar.select v1080 c1_i32_712 c32_i32_710
  let v1082 : BitVec 32 := Scalar.remsi v1079 v1081
  let c0_i32_714 : BitVec 32 := 0#32
  let v1084 : BitVec 1 := Scalar.cmpi .slt v1082 c0_i32_714
  let c0_i32_715 : BitVec 32 := 0#32
  let v1085 : BitVec 1 := Scalar.cmpi .slt v1081 c0_i32_715
  let v1086 : BitVec 1 := Scalar.xori v1084 v1085
  let c0_i32_713 : BitVec 32 := 0#32
  let v1083 : BitVec 1 := Scalar.cmpi .ne v1082 c0_i32_713
  let v1087 : BitVec 1 := Scalar.andi v1086 v1083
  let v1088 : BitVec 32 := Scalar.addi v1082 v1081
  let v1089 : BitVec 32 := Scalar.select v1087 v1088 v1082
  let v1090 : Index := Scalar.indexCast v1089
  ![v1090.toNat]
def k0_off91 (v1091 : BitVec 32) : Fin 3 → Nat :=
  let c0_i32_719 : BitVec 32 := 0#32
  let c0_i32_720 : BitVec 32 := 0#32
  ![v1091.toNat, 0, 0]

def k0_chk50 (v1091 : BitVec 32) : Prop :=
  (∀ a, (k0_off91 v1091) a + S1x32x1024.size a ≤ S32x32x1024.size a)
theorem k0_off91_inb : ∀ (v1091 : BitVec 32) (k0_hw50 : k0_chk50 v1091), ∀ a, (k0_off91 v1091) a + S1x32x1024.size a ≤ S32x32x1024.size a := fun v1091 k0_hw50 => k0_hw50

def k0_dev31 (v18 : BitVec 32) : Nat :=
  let c0_i32_718 : BitVec 32 := 0#32
  let c1_i32_717 : BitVec 32 := 1#32
  let v1092 : BitVec 32 := Scalar.muli v18 c1_i32_717
  let v1093 : BitVec 32 := Scalar.addi c0_i32_718 v1092
  v1093.toNat
def k0_off92 (v4 : BitVec 32) : Fin 1 → Nat :=
  let c64_i32_723 : BitVec 32 := 64#32
  let v1102 : BitVec 32 := Scalar.addi v4 c64_i32_723
  let c_m22_i32 : BitVec 32 := 4294967274#32
  let v1103 : BitVec 32 := Scalar.addi v1102 c_m22_i32
  let c32_i32_724 : BitVec 32 := 32#32
  let c0_i32_725 : BitVec 32 := 0#32
  let v1104 : BitVec 1 := Scalar.cmpi .eq c32_i32_724 c0_i32_725
  let c1_i32_726 : BitVec 32 := 1#32
  let v1105 : BitVec 32 := Scalar.select v1104 c1_i32_726 c32_i32_724
  let v1106 : BitVec 32 := Scalar.remsi v1103 v1105
  let c0_i32_728 : BitVec 32 := 0#32
  let v1108 : BitVec 1 := Scalar.cmpi .slt v1106 c0_i32_728
  let c0_i32_729 : BitVec 32 := 0#32
  let v1109 : BitVec 1 := Scalar.cmpi .slt v1105 c0_i32_729
  let v1110 : BitVec 1 := Scalar.xori v1108 v1109
  let c0_i32_727 : BitVec 32 := 0#32
  let v1107 : BitVec 1 := Scalar.cmpi .ne v1106 c0_i32_727
  let v1111 : BitVec 1 := Scalar.andi v1110 v1107
  let v1112 : BitVec 32 := Scalar.addi v1106 v1105
  let v1113 : BitVec 32 := Scalar.select v1111 v1112 v1106
  let v1114 : Index := Scalar.indexCast v1113
  ![v1114.toNat]
def k0_off93 (v1115 : BitVec 32) : Fin 3 → Nat :=
  let c0_i32_734 : BitVec 32 := 0#32
  let c0_i32_735 : BitVec 32 := 0#32
  ![v1115.toNat, 0, 0]

def k0_chk51 (v1115 : BitVec 32) : Prop :=
  (∀ a, (k0_off93 v1115) a + S1x32x1024.size a ≤ S32x32x1024.size a)
theorem k0_off93_inb : ∀ (v1115 : BitVec 32) (k0_hw51 : k0_chk51 v1115), ∀ a, (k0_off93 v1115) a + S1x32x1024.size a ≤ S32x32x1024.size a := fun v1115 k0_hw51 => k0_hw51

def k0_off94 (v4 : BitVec 32) : Fin 1 → Nat :=
  let c64_i32_738 : BitVec 32 := 64#32
  let v1124 : BitVec 32 := Scalar.addi v4 c64_i32_738
  let c_m22_i32_739 : BitVec 32 := 4294967274#32
  let v1125 : BitVec 32 := Scalar.addi v1124 c_m22_i32_739
  let c32_i32_740 : BitVec 32 := 32#32
  let c0_i32_741 : BitVec 32 := 0#32
  let v1126 : BitVec 1 := Scalar.cmpi .eq c32_i32_740 c0_i32_741
  let c1_i32_742 : BitVec 32 := 1#32
  let v1127 : BitVec 32 := Scalar.select v1126 c1_i32_742 c32_i32_740
  let v1128 : BitVec 32 := Scalar.remsi v1125 v1127
  let c0_i32_744 : BitVec 32 := 0#32
  let v1130 : BitVec 1 := Scalar.cmpi .slt v1128 c0_i32_744
  let c0_i32_745 : BitVec 32 := 0#32
  let v1131 : BitVec 1 := Scalar.cmpi .slt v1127 c0_i32_745
  let v1132 : BitVec 1 := Scalar.xori v1130 v1131
  let c0_i32_743 : BitVec 32 := 0#32
  let v1129 : BitVec 1 := Scalar.cmpi .ne v1128 c0_i32_743
  let v1133 : BitVec 1 := Scalar.andi v1132 v1129
  let v1134 : BitVec 32 := Scalar.addi v1128 v1127
  let v1135 : BitVec 32 := Scalar.select v1133 v1134 v1128
  let v1136 : Index := Scalar.indexCast v1135
  ![v1136.toNat]
def k0_off95 (v1137 : BitVec 32) : Fin 3 → Nat :=
  let c0_i32_750 : BitVec 32 := 0#32
  let c0_i32_751 : BitVec 32 := 0#32
  ![v1137.toNat, 0, 0]

def k0_chk52 (v1137 : BitVec 32) : Prop :=
  (∀ a, (k0_off95 v1137) a + S1x32x1024.size a ≤ S32x32x1024.size a)
theorem k0_off95_inb : ∀ (v1137 : BitVec 32) (k0_hw52 : k0_chk52 v1137), ∀ a, (k0_off95 v1137) a + S1x32x1024.size a ≤ S32x32x1024.size a := fun v1137 k0_hw52 => k0_hw52

def k0_dev32 (v32 : BitVec 32) : Nat :=
  let c0_i32_749 : BitVec 32 := 0#32
  let c1_i32_748 : BitVec 32 := 1#32
  let v1138 : BitVec 32 := Scalar.muli v32 c1_i32_748
  let v1139 : BitVec 32 := Scalar.addi c0_i32_749 v1138
  v1139.toNat
def k0_off96 (v4 : BitVec 32) : Fin 1 → Nat :=
  let c64_i32_754 : BitVec 32 := 64#32
  let v1148 : BitVec 32 := Scalar.addi v4 c64_i32_754
  let c_m3_i32 : BitVec 32 := 4294967293#32
  let v1149 : BitVec 32 := Scalar.addi v1148 c_m3_i32
  let c32_i32_755 : BitVec 32 := 32#32
  let c0_i32_756 : BitVec 32 := 0#32
  let v1150 : BitVec 1 := Scalar.cmpi .eq c32_i32_755 c0_i32_756
  let c1_i32_757 : BitVec 32 := 1#32
  let v1151 : BitVec 32 := Scalar.select v1150 c1_i32_757 c32_i32_755
  let v1152 : BitVec 32 := Scalar.remsi v1149 v1151
  let c0_i32_759 : BitVec 32 := 0#32
  let v1154 : BitVec 1 := Scalar.cmpi .slt v1152 c0_i32_759
  let c0_i32_760 : BitVec 32 := 0#32
  let v1155 : BitVec 1 := Scalar.cmpi .slt v1151 c0_i32_760
  let v1156 : BitVec 1 := Scalar.xori v1154 v1155
  let c0_i32_758 : BitVec 32 := 0#32
  let v1153 : BitVec 1 := Scalar.cmpi .ne v1152 c0_i32_758
  let v1157 : BitVec 1 := Scalar.andi v1156 v1153
  let v1158 : BitVec 32 := Scalar.addi v1152 v1151
  let v1159 : BitVec 32 := Scalar.select v1157 v1158 v1152
  let v1160 : Index := Scalar.indexCast v1159
  ![v1160.toNat]
def k0_off97 (v1161 : BitVec 32) : Fin 3 → Nat :=
  let c0_i32_765 : BitVec 32 := 0#32
  let c0_i32_766 : BitVec 32 := 0#32
  ![v1161.toNat, 0, 0]

def k0_chk53 (v1161 : BitVec 32) : Prop :=
  (∀ a, (k0_off97 v1161) a + S1x32x1024.size a ≤ S32x32x1024.size a)
theorem k0_off97_inb : ∀ (v1161 : BitVec 32) (k0_hw53 : k0_chk53 v1161), ∀ a, (k0_off97 v1161) a + S1x32x1024.size a ≤ S32x32x1024.size a := fun v1161 k0_hw53 => k0_hw53

def k0_off98 (v4 : BitVec 32) : Fin 1 → Nat :=
  let c64_i32_769 : BitVec 32 := 64#32
  let v1170 : BitVec 32 := Scalar.addi v4 c64_i32_769
  let c_m3_i32_770 : BitVec 32 := 4294967293#32
  let v1171 : BitVec 32 := Scalar.addi v1170 c_m3_i32_770
  let c32_i32_771 : BitVec 32 := 32#32
  let c0_i32_772 : BitVec 32 := 0#32
  let v1172 : BitVec 1 := Scalar.cmpi .eq c32_i32_771 c0_i32_772
  let c1_i32_773 : BitVec 32 := 1#32
  let v1173 : BitVec 32 := Scalar.select v1172 c1_i32_773 c32_i32_771
  let v1174 : BitVec 32 := Scalar.remsi v1171 v1173
  let c0_i32_775 : BitVec 32 := 0#32
  let v1176 : BitVec 1 := Scalar.cmpi .slt v1174 c0_i32_775
  let c0_i32_776 : BitVec 32 := 0#32
  let v1177 : BitVec 1 := Scalar.cmpi .slt v1173 c0_i32_776
  let v1178 : BitVec 1 := Scalar.xori v1176 v1177
  let c0_i32_774 : BitVec 32 := 0#32
  let v1175 : BitVec 1 := Scalar.cmpi .ne v1174 c0_i32_774
  let v1179 : BitVec 1 := Scalar.andi v1178 v1175
  let v1180 : BitVec 32 := Scalar.addi v1174 v1173
  let v1181 : BitVec 32 := Scalar.select v1179 v1180 v1174
  let v1182 : Index := Scalar.indexCast v1181
  ![v1182.toNat]
def k0_off99 (v1183 : BitVec 32) : Fin 3 → Nat :=
  let c0_i32_780 : BitVec 32 := 0#32
  let c0_i32_781 : BitVec 32 := 0#32
  ![v1183.toNat, 0, 0]

def k0_chk54 (v1183 : BitVec 32) : Prop :=
  (∀ a, (k0_off99 v1183) a + S1x32x1024.size a ≤ S32x32x1024.size a)
theorem k0_off99_inb : ∀ (v1183 : BitVec 32) (k0_hw54 : k0_chk54 v1183), ∀ a, (k0_off99 v1183) a + S1x32x1024.size a ≤ S32x32x1024.size a := fun v1183 k0_hw54 => k0_hw54

def k0_dev33 (v18 : BitVec 32) : Nat :=
  let c0_i32_779 : BitVec 32 := 0#32
  let c1_i32_778 : BitVec 32 := 1#32
  let v1184 : BitVec 32 := Scalar.muli v18 c1_i32_778
  let v1185 : BitVec 32 := Scalar.addi c0_i32_779 v1184
  v1185.toNat
def k0_off100 (v4 : BitVec 32) : Fin 1 → Nat :=
  let c64_i32_784 : BitVec 32 := 64#32
  let v1194 : BitVec 32 := Scalar.addi v4 c64_i32_784
  let c3_i32_785 : BitVec 32 := 3#32
  let v1195 : BitVec 32 := Scalar.addi v1194 c3_i32_785
  let c32_i32_786 : BitVec 32 := 32#32
  let c0_i32_787 : BitVec 32 := 0#32
  let v1196 : BitVec 1 := Scalar.cmpi .eq c32_i32_786 c0_i32_787
  let c1_i32_788 : BitVec 32 := 1#32
  let v1197 : BitVec 32 := Scalar.select v1196 c1_i32_788 c32_i32_786
  let v1198 : BitVec 32 := Scalar.remsi v1195 v1197
  let c0_i32_790 : BitVec 32 := 0#32
  let v1200 : BitVec 1 := Scalar.cmpi .slt v1198 c0_i32_790
  let c0_i32_791 : BitVec 32 := 0#32
  let v1201 : BitVec 1 := Scalar.cmpi .slt v1197 c0_i32_791
  let v1202 : BitVec 1 := Scalar.xori v1200 v1201
  let c0_i32_789 : BitVec 32 := 0#32
  let v1199 : BitVec 1 := Scalar.cmpi .ne v1198 c0_i32_789
  let v1203 : BitVec 1 := Scalar.andi v1202 v1199
  let v1204 : BitVec 32 := Scalar.addi v1198 v1197
  let v1205 : BitVec 32 := Scalar.select v1203 v1204 v1198
  let v1206 : Index := Scalar.indexCast v1205
  ![v1206.toNat]
def k0_off101 (v1207 : BitVec 32) : Fin 3 → Nat :=
  let c0_i32_796 : BitVec 32 := 0#32
  let c0_i32_797 : BitVec 32 := 0#32
  ![v1207.toNat, 0, 0]

def k0_chk55 (v1207 : BitVec 32) : Prop :=
  (∀ a, (k0_off101 v1207) a + S1x32x1024.size a ≤ S32x32x1024.size a)
theorem k0_off101_inb : ∀ (v1207 : BitVec 32) (k0_hw55 : k0_chk55 v1207), ∀ a, (k0_off101 v1207) a + S1x32x1024.size a ≤ S32x32x1024.size a := fun v1207 k0_hw55 => k0_hw55

def k0_off102 (v4 : BitVec 32) : Fin 1 → Nat :=
  let c64_i32_800 : BitVec 32 := 64#32
  let v1216 : BitVec 32 := Scalar.addi v4 c64_i32_800
  let c3_i32_801 : BitVec 32 := 3#32
  let v1217 : BitVec 32 := Scalar.addi v1216 c3_i32_801
  let c32_i32_802 : BitVec 32 := 32#32
  let c0_i32_803 : BitVec 32 := 0#32
  let v1218 : BitVec 1 := Scalar.cmpi .eq c32_i32_802 c0_i32_803
  let c1_i32_804 : BitVec 32 := 1#32
  let v1219 : BitVec 32 := Scalar.select v1218 c1_i32_804 c32_i32_802
  let v1220 : BitVec 32 := Scalar.remsi v1217 v1219
  let c0_i32_806 : BitVec 32 := 0#32
  let v1222 : BitVec 1 := Scalar.cmpi .slt v1220 c0_i32_806
  let c0_i32_807 : BitVec 32 := 0#32
  let v1223 : BitVec 1 := Scalar.cmpi .slt v1219 c0_i32_807
  let v1224 : BitVec 1 := Scalar.xori v1222 v1223
  let c0_i32_805 : BitVec 32 := 0#32
  let v1221 : BitVec 1 := Scalar.cmpi .ne v1220 c0_i32_805
  let v1225 : BitVec 1 := Scalar.andi v1224 v1221
  let v1226 : BitVec 32 := Scalar.addi v1220 v1219
  let v1227 : BitVec 32 := Scalar.select v1225 v1226 v1220
  let v1228 : Index := Scalar.indexCast v1227
  ![v1228.toNat]
def k0_off103 (v1229 : BitVec 32) : Fin 3 → Nat :=
  let c0_i32_812 : BitVec 32 := 0#32
  let c0_i32_813 : BitVec 32 := 0#32
  ![v1229.toNat, 0, 0]

def k0_chk56 (v1229 : BitVec 32) : Prop :=
  (∀ a, (k0_off103 v1229) a + S1x32x1024.size a ≤ S32x32x1024.size a)
theorem k0_off103_inb : ∀ (v1229 : BitVec 32) (k0_hw56 : k0_chk56 v1229), ∀ a, (k0_off103 v1229) a + S1x32x1024.size a ≤ S32x32x1024.size a := fun v1229 k0_hw56 => k0_hw56

def k0_dev34 (v32 : BitVec 32) : Nat :=
  let c0_i32_811 : BitVec 32 := 0#32
  let c1_i32_810 : BitVec 32 := 1#32
  let v1230 : BitVec 32 := Scalar.muli v32 c1_i32_810
  let v1231 : BitVec 32 := Scalar.addi c0_i32_811 v1230
  v1231.toNat
def k0_off104 (v4 : BitVec 32) : Fin 1 → Nat :=
  let c64_i32_816 : BitVec 32 := 64#32
  let v1240 : BitVec 32 := Scalar.addi v4 c64_i32_816
  let c_m11_i32 : BitVec 32 := 4294967285#32
  let v1241 : BitVec 32 := Scalar.addi v1240 c_m11_i32
  let c32_i32_817 : BitVec 32 := 32#32
  let c0_i32_818 : BitVec 32 := 0#32
  let v1242 : BitVec 1 := Scalar.cmpi .eq c32_i32_817 c0_i32_818
  let c1_i32_819 : BitVec 32 := 1#32
  let v1243 : BitVec 32 := Scalar.select v1242 c1_i32_819 c32_i32_817
  let v1244 : BitVec 32 := Scalar.remsi v1241 v1243
  let c0_i32_821 : BitVec 32 := 0#32
  let v1246 : BitVec 1 := Scalar.cmpi .slt v1244 c0_i32_821
  let c0_i32_822 : BitVec 32 := 0#32
  let v1247 : BitVec 1 := Scalar.cmpi .slt v1243 c0_i32_822
  let v1248 : BitVec 1 := Scalar.xori v1246 v1247
  let c0_i32_820 : BitVec 32 := 0#32
  let v1245 : BitVec 1 := Scalar.cmpi .ne v1244 c0_i32_820
  let v1249 : BitVec 1 := Scalar.andi v1248 v1245
  let v1250 : BitVec 32 := Scalar.addi v1244 v1243
  let v1251 : BitVec 32 := Scalar.select v1249 v1250 v1244
  let v1252 : Index := Scalar.indexCast v1251
  ![v1252.toNat]
def k0_off105 (v1253 : BitVec 32) : Fin 3 → Nat :=
  let c0_i32_827 : BitVec 32 := 0#32
  let c0_i32_828 : BitVec 32 := 0#32
  ![v1253.toNat, 0, 0]

def k0_chk57 (v1253 : BitVec 32) : Prop :=
  (∀ a, (k0_off105 v1253) a + S1x32x1024.size a ≤ S32x32x1024.size a)
theorem k0_off105_inb : ∀ (v1253 : BitVec 32) (k0_hw57 : k0_chk57 v1253), ∀ a, (k0_off105 v1253) a + S1x32x1024.size a ≤ S32x32x1024.size a := fun v1253 k0_hw57 => k0_hw57

def k0_off106 (v4 : BitVec 32) : Fin 1 → Nat :=
  let c64_i32_831 : BitVec 32 := 64#32
  let v1262 : BitVec 32 := Scalar.addi v4 c64_i32_831
  let c_m5_i32 : BitVec 32 := 4294967291#32
  let v1263 : BitVec 32 := Scalar.addi v1262 c_m5_i32
  let c32_i32_832 : BitVec 32 := 32#32
  let c0_i32_833 : BitVec 32 := 0#32
  let v1264 : BitVec 1 := Scalar.cmpi .eq c32_i32_832 c0_i32_833
  let c1_i32_834 : BitVec 32 := 1#32
  let v1265 : BitVec 32 := Scalar.select v1264 c1_i32_834 c32_i32_832
  let v1266 : BitVec 32 := Scalar.remsi v1263 v1265
  let c0_i32_836 : BitVec 32 := 0#32
  let v1268 : BitVec 1 := Scalar.cmpi .slt v1266 c0_i32_836
  let c0_i32_837 : BitVec 32 := 0#32
  let v1269 : BitVec 1 := Scalar.cmpi .slt v1265 c0_i32_837
  let v1270 : BitVec 1 := Scalar.xori v1268 v1269
  let c0_i32_835 : BitVec 32 := 0#32
  let v1267 : BitVec 1 := Scalar.cmpi .ne v1266 c0_i32_835
  let v1271 : BitVec 1 := Scalar.andi v1270 v1267
  let v1272 : BitVec 32 := Scalar.addi v1266 v1265
  let v1273 : BitVec 32 := Scalar.select v1271 v1272 v1266
  let v1274 : Index := Scalar.indexCast v1273
  ![v1274.toNat]
def k0_off107 (v1275 : BitVec 32) : Fin 3 → Nat :=
  let c0_i32_842 : BitVec 32 := 0#32
  let c0_i32_843 : BitVec 32 := 0#32
  ![v1275.toNat, 0, 0]

def k0_chk58 (v1275 : BitVec 32) : Prop :=
  (∀ a, (k0_off107 v1275) a + S1x32x1024.size a ≤ S32x32x1024.size a)
theorem k0_off107_inb : ∀ (v1275 : BitVec 32) (k0_hw58 : k0_chk58 v1275), ∀ a, (k0_off107 v1275) a + S1x32x1024.size a ≤ S32x32x1024.size a := fun v1275 k0_hw58 => k0_hw58

def k0_off108 (v4 : BitVec 32) : Fin 1 → Nat :=
  let c64_i32_846 : BitVec 32 := 64#32
  let v1284 : BitVec 32 := Scalar.addi v4 c64_i32_846
  let c_m19_i32 : BitVec 32 := 4294967277#32
  let v1285 : BitVec 32 := Scalar.addi v1284 c_m19_i32
  let c32_i32_847 : BitVec 32 := 32#32
  let c0_i32_848 : BitVec 32 := 0#32
  let v1286 : BitVec 1 := Scalar.cmpi .eq c32_i32_847 c0_i32_848
  let c1_i32_849 : BitVec 32 := 1#32
  let v1287 : BitVec 32 := Scalar.select v1286 c1_i32_849 c32_i32_847
  let v1288 : BitVec 32 := Scalar.remsi v1285 v1287
  let c0_i32_851 : BitVec 32 := 0#32
  let v1290 : BitVec 1 := Scalar.cmpi .slt v1288 c0_i32_851
  let c0_i32_852 : BitVec 32 := 0#32
  let v1291 : BitVec 1 := Scalar.cmpi .slt v1287 c0_i32_852
  let v1292 : BitVec 1 := Scalar.xori v1290 v1291
  let c0_i32_850 : BitVec 32 := 0#32
  let v1289 : BitVec 1 := Scalar.cmpi .ne v1288 c0_i32_850
  let v1293 : BitVec 1 := Scalar.andi v1292 v1289
  let v1294 : BitVec 32 := Scalar.addi v1288 v1287
  let v1295 : BitVec 32 := Scalar.select v1293 v1294 v1288
  let v1296 : Index := Scalar.indexCast v1295
  ![v1296.toNat]
def k0_off109 (v1297 : BitVec 32) : Fin 3 → Nat :=
  let c0_i32_857 : BitVec 32 := 0#32
  let c0_i32_858 : BitVec 32 := 0#32
  ![v1297.toNat, 0, 0]

def k0_chk59 (v1297 : BitVec 32) : Prop :=
  (∀ a, (k0_off109 v1297) a + S1x32x1024.size a ≤ S32x32x1024.size a)
theorem k0_off109_inb : ∀ (v1297 : BitVec 32) (k0_hw59 : k0_chk59 v1297), ∀ a, (k0_off109 v1297) a + S1x32x1024.size a ≤ S32x32x1024.size a := fun v1297 k0_hw59 => k0_hw59

def k0_off110 (v4 : BitVec 32) : Fin 1 → Nat :=
  let c64_i32_861 : BitVec 32 := 64#32
  let v1306 : BitVec 32 := Scalar.addi v4 c64_i32_861
  let c_m19_i32_862 : BitVec 32 := 4294967277#32
  let v1307 : BitVec 32 := Scalar.addi v1306 c_m19_i32_862
  let c32_i32_863 : BitVec 32 := 32#32
  let c0_i32_864 : BitVec 32 := 0#32
  let v1308 : BitVec 1 := Scalar.cmpi .eq c32_i32_863 c0_i32_864
  let c1_i32_865 : BitVec 32 := 1#32
  let v1309 : BitVec 32 := Scalar.select v1308 c1_i32_865 c32_i32_863
  let v1310 : BitVec 32 := Scalar.remsi v1307 v1309
  let c0_i32_867 : BitVec 32 := 0#32
  let v1312 : BitVec 1 := Scalar.cmpi .slt v1310 c0_i32_867
  let c0_i32_868 : BitVec 32 := 0#32
  let v1313 : BitVec 1 := Scalar.cmpi .slt v1309 c0_i32_868
  let v1314 : BitVec 1 := Scalar.xori v1312 v1313
  let c0_i32_866 : BitVec 32 := 0#32
  let v1311 : BitVec 1 := Scalar.cmpi .ne v1310 c0_i32_866
  let v1315 : BitVec 1 := Scalar.andi v1314 v1311
  let v1316 : BitVec 32 := Scalar.addi v1310 v1309
  let v1317 : BitVec 32 := Scalar.select v1315 v1316 v1310
  let v1318 : Index := Scalar.indexCast v1317
  ![v1318.toNat]
def k0_off111 (v1319 : BitVec 32) : Fin 3 → Nat :=
  let c0_i32_872 : BitVec 32 := 0#32
  let c0_i32_873 : BitVec 32 := 0#32
  ![v1319.toNat, 0, 0]

def k0_chk60 (v1319 : BitVec 32) : Prop :=
  (∀ a, (k0_off111 v1319) a + S1x32x1024.size a ≤ S32x32x1024.size a)
theorem k0_off111_inb : ∀ (v1319 : BitVec 32) (k0_hw60 : k0_chk60 v1319), ∀ a, (k0_off111 v1319) a + S1x32x1024.size a ≤ S32x32x1024.size a := fun v1319 k0_hw60 => k0_hw60

def k0_dev35 (v18 : BitVec 32) : Nat :=
  let c0_i32_871 : BitVec 32 := 0#32
  let c1_i32_870 : BitVec 32 := 1#32
  let v1320 : BitVec 32 := Scalar.muli v18 c1_i32_870
  let v1321 : BitVec 32 := Scalar.addi c0_i32_871 v1320
  v1321.toNat

def k0_chk3 (v18 : BitVec 32) : Prop :=
  ((k0_dev2 v18) < nD) ∧
  ((k0_dev9 v18) < nD) ∧
  ((k0_dev11 v18) < nD) ∧
  ((k0_dev13 v18) < nD) ∧
  ((k0_dev15 v18) < nD) ∧
  ((k0_dev17 v18) < nD) ∧
  ((k0_dev19 v18) < nD) ∧
  ((k0_dev21 v18) < nD) ∧
  ((k0_dev23 v18) < nD) ∧
  ((k0_dev25 v18) < nD) ∧
  ((k0_dev27 v18) < nD) ∧
  ((k0_dev29 v18) < nD) ∧
  ((k0_dev31 v18) < nD) ∧
  ((k0_dev33 v18) < nD) ∧
  ((k0_dev35 v18) < nD)
theorem k0_dev2_lt : ∀ (v18 : BitVec 32) (k0_hw3 : k0_chk3 v18), (k0_dev2 v18) < nD := fun v18 k0_hw3 => k0_hw3.1
theorem k0_dev9_lt : ∀ (v18 : BitVec 32) (k0_hw3 : k0_chk3 v18), (k0_dev9 v18) < nD := fun v18 k0_hw3 => k0_hw3.2.1
theorem k0_dev11_lt : ∀ (v18 : BitVec 32) (k0_hw3 : k0_chk3 v18), (k0_dev11 v18) < nD := fun v18 k0_hw3 => k0_hw3.2.2.1
theorem k0_dev13_lt : ∀ (v18 : BitVec 32) (k0_hw3 : k0_chk3 v18), (k0_dev13 v18) < nD := fun v18 k0_hw3 => k0_hw3.2.2.2.1
theorem k0_dev15_lt : ∀ (v18 : BitVec 32) (k0_hw3 : k0_chk3 v18), (k0_dev15 v18) < nD := fun v18 k0_hw3 => k0_hw3.2.2.2.2.1
theorem k0_dev17_lt : ∀ (v18 : BitVec 32) (k0_hw3 : k0_chk3 v18), (k0_dev17 v18) < nD := fun v18 k0_hw3 => k0_hw3.2.2.2.2.2.1
theorem k0_dev19_lt : ∀ (v18 : BitVec 32) (k0_hw3 : k0_chk3 v18), (k0_dev19 v18) < nD := fun v18 k0_hw3 => k0_hw3.2.2.2.2.2.2.1
theorem k0_dev21_lt : ∀ (v18 : BitVec 32) (k0_hw3 : k0_chk3 v18), (k0_dev21 v18) < nD := fun v18 k0_hw3 => k0_hw3.2.2.2.2.2.2.2.1
theorem k0_dev23_lt : ∀ (v18 : BitVec 32) (k0_hw3 : k0_chk3 v18), (k0_dev23 v18) < nD := fun v18 k0_hw3 => k0_hw3.2.2.2.2.2.2.2.2.1
theorem k0_dev25_lt : ∀ (v18 : BitVec 32) (k0_hw3 : k0_chk3 v18), (k0_dev25 v18) < nD := fun v18 k0_hw3 => k0_hw3.2.2.2.2.2.2.2.2.2.1
theorem k0_dev27_lt : ∀ (v18 : BitVec 32) (k0_hw3 : k0_chk3 v18), (k0_dev27 v18) < nD := fun v18 k0_hw3 => k0_hw3.2.2.2.2.2.2.2.2.2.2.1
theorem k0_dev29_lt : ∀ (v18 : BitVec 32) (k0_hw3 : k0_chk3 v18), (k0_dev29 v18) < nD := fun v18 k0_hw3 => k0_hw3.2.2.2.2.2.2.2.2.2.2.2.1
theorem k0_dev31_lt : ∀ (v18 : BitVec 32) (k0_hw3 : k0_chk3 v18), (k0_dev31 v18) < nD := fun v18 k0_hw3 => k0_hw3.2.2.2.2.2.2.2.2.2.2.2.2.1
theorem k0_dev33_lt : ∀ (v18 : BitVec 32) (k0_hw3 : k0_chk3 v18), (k0_dev33 v18) < nD := fun v18 k0_hw3 => k0_hw3.2.2.2.2.2.2.2.2.2.2.2.2.2.1
theorem k0_dev35_lt : ∀ (v18 : BitVec 32) (k0_hw3 : k0_chk3 v18), (k0_dev35 v18) < nD := fun v18 k0_hw3 => k0_hw3.2.2.2.2.2.2.2.2.2.2.2.2.2.2

def k0_off112 (v4 : BitVec 32) : Fin 1 → Nat :=
  let c64_i32_876 : BitVec 32 := 64#32
  let v1330 : BitVec 32 := Scalar.addi v4 c64_i32_876
  let c_m13_i32 : BitVec 32 := 4294967283#32
  let v1331 : BitVec 32 := Scalar.addi v1330 c_m13_i32
  let c32_i32_877 : BitVec 32 := 32#32
  let c0_i32_878 : BitVec 32 := 0#32
  let v1332 : BitVec 1 := Scalar.cmpi .eq c32_i32_877 c0_i32_878
  let c1_i32_879 : BitVec 32 := 1#32
  let v1333 : BitVec 32 := Scalar.select v1332 c1_i32_879 c32_i32_877
  let v1334 : BitVec 32 := Scalar.remsi v1331 v1333
  let c0_i32_881 : BitVec 32 := 0#32
  let v1336 : BitVec 1 := Scalar.cmpi .slt v1334 c0_i32_881
  let c0_i32_882 : BitVec 32 := 0#32
  let v1337 : BitVec 1 := Scalar.cmpi .slt v1333 c0_i32_882
  let v1338 : BitVec 1 := Scalar.xori v1336 v1337
  let c0_i32_880 : BitVec 32 := 0#32
  let v1335 : BitVec 1 := Scalar.cmpi .ne v1334 c0_i32_880
  let v1339 : BitVec 1 := Scalar.andi v1338 v1335
  let v1340 : BitVec 32 := Scalar.addi v1334 v1333
  let v1341 : BitVec 32 := Scalar.select v1339 v1340 v1334
  let v1342 : Index := Scalar.indexCast v1341
  ![v1342.toNat]
def k0_off113 (v1343 : BitVec 32) : Fin 3 → Nat :=
  let c0_i32_887 : BitVec 32 := 0#32
  let c0_i32_888 : BitVec 32 := 0#32
  ![v1343.toNat, 0, 0]

def k0_chk61 (v1343 : BitVec 32) : Prop :=
  (∀ a, (k0_off113 v1343) a + S1x32x1024.size a ≤ S32x32x1024.size a)
theorem k0_off113_inb : ∀ (v1343 : BitVec 32) (k0_hw61 : k0_chk61 v1343), ∀ a, (k0_off113 v1343) a + S1x32x1024.size a ≤ S32x32x1024.size a := fun v1343 k0_hw61 => k0_hw61

def k0_off114 (v4 : BitVec 32) : Fin 1 → Nat :=
  let c64_i32_891 : BitVec 32 := 64#32
  let v1352 : BitVec 32 := Scalar.addi v4 c64_i32_891
  let c_m13_i32_892 : BitVec 32 := 4294967283#32
  let v1353 : BitVec 32 := Scalar.addi v1352 c_m13_i32_892
  let c32_i32_893 : BitVec 32 := 32#32
  let c0_i32_894 : BitVec 32 := 0#32
  let v1354 : BitVec 1 := Scalar.cmpi .eq c32_i32_893 c0_i32_894
  let c1_i32_895 : BitVec 32 := 1#32
  let v1355 : BitVec 32 := Scalar.select v1354 c1_i32_895 c32_i32_893
  let v1356 : BitVec 32 := Scalar.remsi v1353 v1355
  let c0_i32_897 : BitVec 32 := 0#32
  let v1358 : BitVec 1 := Scalar.cmpi .slt v1356 c0_i32_897
  let c0_i32_898 : BitVec 32 := 0#32
  let v1359 : BitVec 1 := Scalar.cmpi .slt v1355 c0_i32_898
  let v1360 : BitVec 1 := Scalar.xori v1358 v1359
  let c0_i32_896 : BitVec 32 := 0#32
  let v1357 : BitVec 1 := Scalar.cmpi .ne v1356 c0_i32_896
  let v1361 : BitVec 1 := Scalar.andi v1360 v1357
  let v1362 : BitVec 32 := Scalar.addi v1356 v1355
  let v1363 : BitVec 32 := Scalar.select v1361 v1362 v1356
  let v1364 : Index := Scalar.indexCast v1363
  ![v1364.toNat]
def k0_off115 (v1365 : BitVec 32) : Fin 3 → Nat :=
  let c0_i32_903 : BitVec 32 := 0#32
  let c0_i32_904 : BitVec 32 := 0#32
  ![v1365.toNat, 0, 0]

def k0_chk62 (v1365 : BitVec 32) : Prop :=
  (∀ a, (k0_off115 v1365) a + S1x32x1024.size a ≤ S32x32x1024.size a)
theorem k0_off115_inb : ∀ (v1365 : BitVec 32) (k0_hw62 : k0_chk62 v1365), ∀ a, (k0_off115 v1365) a + S1x32x1024.size a ≤ S32x32x1024.size a := fun v1365 k0_hw62 => k0_hw62

def k0_dev36 (v32 : BitVec 32) : Nat :=
  let c0_i32_902 : BitVec 32 := 0#32
  let c1_i32_901 : BitVec 32 := 1#32
  let v1366 : BitVec 32 := Scalar.muli v32 c1_i32_901
  let v1367 : BitVec 32 := Scalar.addi c0_i32_902 v1366
  v1367.toNat

def k0_chk2 (v32 : BitVec 32) : Prop :=
  ((k0_dev1 v32) < nD) ∧
  ((k0_dev10 v32) < nD) ∧
  ((k0_dev12 v32) < nD) ∧
  ((k0_dev14 v32) < nD) ∧
  ((k0_dev16 v32) < nD) ∧
  ((k0_dev18 v32) < nD) ∧
  ((k0_dev20 v32) < nD) ∧
  ((k0_dev22 v32) < nD) ∧
  ((k0_dev24 v32) < nD) ∧
  ((k0_dev26 v32) < nD) ∧
  ((k0_dev28 v32) < nD) ∧
  ((k0_dev30 v32) < nD) ∧
  ((k0_dev32 v32) < nD) ∧
  ((k0_dev34 v32) < nD) ∧
  ((k0_dev36 v32) < nD)
theorem k0_dev1_lt : ∀ (v32 : BitVec 32) (k0_hw2 : k0_chk2 v32), (k0_dev1 v32) < nD := fun v32 k0_hw2 => k0_hw2.1
theorem k0_dev10_lt : ∀ (v32 : BitVec 32) (k0_hw2 : k0_chk2 v32), (k0_dev10 v32) < nD := fun v32 k0_hw2 => k0_hw2.2.1
theorem k0_dev12_lt : ∀ (v32 : BitVec 32) (k0_hw2 : k0_chk2 v32), (k0_dev12 v32) < nD := fun v32 k0_hw2 => k0_hw2.2.2.1
theorem k0_dev14_lt : ∀ (v32 : BitVec 32) (k0_hw2 : k0_chk2 v32), (k0_dev14 v32) < nD := fun v32 k0_hw2 => k0_hw2.2.2.2.1
theorem k0_dev16_lt : ∀ (v32 : BitVec 32) (k0_hw2 : k0_chk2 v32), (k0_dev16 v32) < nD := fun v32 k0_hw2 => k0_hw2.2.2.2.2.1
theorem k0_dev18_lt : ∀ (v32 : BitVec 32) (k0_hw2 : k0_chk2 v32), (k0_dev18 v32) < nD := fun v32 k0_hw2 => k0_hw2.2.2.2.2.2.1
theorem k0_dev20_lt : ∀ (v32 : BitVec 32) (k0_hw2 : k0_chk2 v32), (k0_dev20 v32) < nD := fun v32 k0_hw2 => k0_hw2.2.2.2.2.2.2.1
theorem k0_dev22_lt : ∀ (v32 : BitVec 32) (k0_hw2 : k0_chk2 v32), (k0_dev22 v32) < nD := fun v32 k0_hw2 => k0_hw2.2.2.2.2.2.2.2.1
theorem k0_dev24_lt : ∀ (v32 : BitVec 32) (k0_hw2 : k0_chk2 v32), (k0_dev24 v32) < nD := fun v32 k0_hw2 => k0_hw2.2.2.2.2.2.2.2.2.1
theorem k0_dev26_lt : ∀ (v32 : BitVec 32) (k0_hw2 : k0_chk2 v32), (k0_dev26 v32) < nD := fun v32 k0_hw2 => k0_hw2.2.2.2.2.2.2.2.2.2.1
theorem k0_dev28_lt : ∀ (v32 : BitVec 32) (k0_hw2 : k0_chk2 v32), (k0_dev28 v32) < nD := fun v32 k0_hw2 => k0_hw2.2.2.2.2.2.2.2.2.2.2.1
theorem k0_dev30_lt : ∀ (v32 : BitVec 32) (k0_hw2 : k0_chk2 v32), (k0_dev30 v32) < nD := fun v32 k0_hw2 => k0_hw2.2.2.2.2.2.2.2.2.2.2.2.1
theorem k0_dev32_lt : ∀ (v32 : BitVec 32) (k0_hw2 : k0_chk2 v32), (k0_dev32 v32) < nD := fun v32 k0_hw2 => k0_hw2.2.2.2.2.2.2.2.2.2.2.2.2.1
theorem k0_dev34_lt : ∀ (v32 : BitVec 32) (k0_hw2 : k0_chk2 v32), (k0_dev34 v32) < nD := fun v32 k0_hw2 => k0_hw2.2.2.2.2.2.2.2.2.2.2.2.2.2.1
theorem k0_dev36_lt : ∀ (v32 : BitVec 32) (k0_hw2 : k0_chk2 v32), (k0_dev36 v32) < nD := fun v32 k0_hw2 => k0_hw2.2.2.2.2.2.2.2.2.2.2.2.2.2.2

def k0_off116 (v4 : BitVec 32) : Fin 1 → Nat :=
  let c64_i32_907 : BitVec 32 := 64#32
  let v1376 : BitVec 32 := Scalar.addi v4 c64_i32_907
  let c_m27_i32 : BitVec 32 := 4294967269#32
  let v1377 : BitVec 32 := Scalar.addi v1376 c_m27_i32
  let c32_i32_908 : BitVec 32 := 32#32
  let c0_i32_909 : BitVec 32 := 0#32
  let v1378 : BitVec 1 := Scalar.cmpi .eq c32_i32_908 c0_i32_909
  let c1_i32_910 : BitVec 32 := 1#32
  let v1379 : BitVec 32 := Scalar.select v1378 c1_i32_910 c32_i32_908
  let v1380 : BitVec 32 := Scalar.remsi v1377 v1379
  let c0_i32_912 : BitVec 32 := 0#32
  let v1382 : BitVec 1 := Scalar.cmpi .slt v1380 c0_i32_912
  let c0_i32_913 : BitVec 32 := 0#32
  let v1383 : BitVec 1 := Scalar.cmpi .slt v1379 c0_i32_913
  let v1384 : BitVec 1 := Scalar.xori v1382 v1383
  let c0_i32_911 : BitVec 32 := 0#32
  let v1381 : BitVec 1 := Scalar.cmpi .ne v1380 c0_i32_911
  let v1385 : BitVec 1 := Scalar.andi v1384 v1381
  let v1386 : BitVec 32 := Scalar.addi v1380 v1379
  let v1387 : BitVec 32 := Scalar.select v1385 v1386 v1380
  let v1388 : Index := Scalar.indexCast v1387
  ![v1388.toNat]
def k0_off117 (v1389 : BitVec 32) : Fin 3 → Nat :=
  let c0_i32_918 : BitVec 32 := 0#32
  let c0_i32_919 : BitVec 32 := 0#32
  ![v1389.toNat, 0, 0]

def k0_chk63 (v1389 : BitVec 32) : Prop :=
  (∀ a, (k0_off117 v1389) a + S1x32x1024.size a ≤ S32x32x1024.size a)
theorem k0_off117_inb : ∀ (v1389 : BitVec 32) (k0_hw63 : k0_chk63 v1389), ∀ a, (k0_off117 v1389) a + S1x32x1024.size a ≤ S32x32x1024.size a := fun v1389 k0_hw63 => k0_hw63

def k0_off118 (v4 : BitVec 32) : Fin 1 → Nat :=
  let c64_i32_922 : BitVec 32 := 64#32
  let v1398 : BitVec 32 := Scalar.addi v4 c64_i32_922
  let c_m21_i32 : BitVec 32 := 4294967275#32
  let v1399 : BitVec 32 := Scalar.addi v1398 c_m21_i32
  let c32_i32_923 : BitVec 32 := 32#32
  let c0_i32_924 : BitVec 32 := 0#32
  let v1400 : BitVec 1 := Scalar.cmpi .eq c32_i32_923 c0_i32_924
  let c1_i32_925 : BitVec 32 := 1#32
  let v1401 : BitVec 32 := Scalar.select v1400 c1_i32_925 c32_i32_923
  let v1402 : BitVec 32 := Scalar.remsi v1399 v1401
  let c0_i32_927 : BitVec 32 := 0#32
  let v1404 : BitVec 1 := Scalar.cmpi .slt v1402 c0_i32_927
  let c0_i32_928 : BitVec 32 := 0#32
  let v1405 : BitVec 1 := Scalar.cmpi .slt v1401 c0_i32_928
  let v1406 : BitVec 1 := Scalar.xori v1404 v1405
  let c0_i32_926 : BitVec 32 := 0#32
  let v1403 : BitVec 1 := Scalar.cmpi .ne v1402 c0_i32_926
  let v1407 : BitVec 1 := Scalar.andi v1406 v1403
  let v1408 : BitVec 32 := Scalar.addi v1402 v1401
  let v1409 : BitVec 32 := Scalar.select v1407 v1408 v1402
  let v1410 : Index := Scalar.indexCast v1409
  ![v1410.toNat]
def k0_off119 (v1411 : BitVec 32) : Fin 3 → Nat :=
  let c0_i32_933 : BitVec 32 := 0#32
  let c0_i32_934 : BitVec 32 := 0#32
  ![v1411.toNat, 0, 0]

def k0_chk64 (v1411 : BitVec 32) : Prop :=
  (∀ a, (k0_off119 v1411) a + S1x32x1024.size a ≤ S32x32x1024.size a)
theorem k0_off119_inb : ∀ (v1411 : BitVec 32) (k0_hw64 : k0_chk64 v1411), ∀ a, (k0_off119 v1411) a + S1x32x1024.size a ≤ S32x32x1024.size a := fun v1411 k0_hw64 => k0_hw64

def k0_off120 (v4 : BitVec 32) : Fin 1 → Nat :=
  let c64_i32_937 : BitVec 32 := 64#32
  let v1420 : BitVec 32 := Scalar.addi v4 c64_i32_937
  let c_m4_i32 : BitVec 32 := 4294967292#32
  let v1421 : BitVec 32 := Scalar.addi v1420 c_m4_i32
  let c32_i32_938 : BitVec 32 := 32#32
  let c0_i32_939 : BitVec 32 := 0#32
  let v1422 : BitVec 1 := Scalar.cmpi .eq c32_i32_938 c0_i32_939
  let c1_i32_940 : BitVec 32 := 1#32
  let v1423 : BitVec 32 := Scalar.select v1422 c1_i32_940 c32_i32_938
  let v1424 : BitVec 32 := Scalar.remsi v1421 v1423
  let c0_i32_942 : BitVec 32 := 0#32
  let v1426 : BitVec 1 := Scalar.cmpi .slt v1424 c0_i32_942
  let c0_i32_943 : BitVec 32 := 0#32
  let v1427 : BitVec 1 := Scalar.cmpi .slt v1423 c0_i32_943
  let v1428 : BitVec 1 := Scalar.xori v1426 v1427
  let c0_i32_941 : BitVec 32 := 0#32
  let v1425 : BitVec 1 := Scalar.cmpi .ne v1424 c0_i32_941
  let v1429 : BitVec 1 := Scalar.andi v1428 v1425
  let v1430 : BitVec 32 := Scalar.addi v1424 v1423
  let v1431 : BitVec 32 := Scalar.select v1429 v1430 v1424
  let v1432 : Index := Scalar.indexCast v1431
  ![v1432.toNat]
def k0_off121 (v1433 : BitVec 32) : Fin 3 → Nat :=
  let c0_i32_948 : BitVec 32 := 0#32
  let c0_i32_949 : BitVec 32 := 0#32
  ![v1433.toNat, 0, 0]

def k0_chk65 (v1433 : BitVec 32) : Prop :=
  (∀ a, (k0_off121 v1433) a + S1x32x1024.size a ≤ S32x32x1024.size a)
theorem k0_off121_inb : ∀ (v1433 : BitVec 32) (k0_hw65 : k0_chk65 v1433), ∀ a, (k0_off121 v1433) a + S1x32x1024.size a ≤ S32x32x1024.size a := fun v1433 k0_hw65 => k0_hw65

def k0_off122 (v4 : BitVec 32) : Fin 1 → Nat :=
  let c64_i32_952 : BitVec 32 := 64#32
  let v1442 : BitVec 32 := Scalar.addi v4 c64_i32_952
  let c4_i32_953 : BitVec 32 := 4#32
  let v1443 : BitVec 32 := Scalar.addi v1442 c4_i32_953
  let c32_i32_954 : BitVec 32 := 32#32
  let c0_i32_955 : BitVec 32 := 0#32
  let v1444 : BitVec 1 := Scalar.cmpi .eq c32_i32_954 c0_i32_955
  let c1_i32_956 : BitVec 32 := 1#32
  let v1445 : BitVec 32 := Scalar.select v1444 c1_i32_956 c32_i32_954
  let v1446 : BitVec 32 := Scalar.remsi v1443 v1445
  let c0_i32_958 : BitVec 32 := 0#32
  let v1448 : BitVec 1 := Scalar.cmpi .slt v1446 c0_i32_958
  let c0_i32_959 : BitVec 32 := 0#32
  let v1449 : BitVec 1 := Scalar.cmpi .slt v1445 c0_i32_959
  let v1450 : BitVec 1 := Scalar.xori v1448 v1449
  let c0_i32_957 : BitVec 32 := 0#32
  let v1447 : BitVec 1 := Scalar.cmpi .ne v1446 c0_i32_957
  let v1451 : BitVec 1 := Scalar.andi v1450 v1447
  let v1452 : BitVec 32 := Scalar.addi v1446 v1445
  let v1453 : BitVec 32 := Scalar.select v1451 v1452 v1446
  let v1454 : Index := Scalar.indexCast v1453
  ![v1454.toNat]
def k0_off123 (v1455 : BitVec 32) : Fin 3 → Nat :=
  let c0_i32_964 : BitVec 32 := 0#32
  let c0_i32_965 : BitVec 32 := 0#32
  ![v1455.toNat, 0, 0]

def k0_chk66 (v1455 : BitVec 32) : Prop :=
  (∀ a, (k0_off123 v1455) a + S1x32x1024.size a ≤ S32x32x1024.size a)
theorem k0_off123_inb : ∀ (v1455 : BitVec 32) (k0_hw66 : k0_chk66 v1455), ∀ a, (k0_off123 v1455) a + S1x32x1024.size a ≤ S32x32x1024.size a := fun v1455 k0_hw66 => k0_hw66

def k0_off124 (v4 : BitVec 32) : Fin 1 → Nat :=
  let c64_i32_968 : BitVec 32 := 64#32
  let v1464 : BitVec 32 := Scalar.addi v4 c64_i32_968
  let c_m20_i32 : BitVec 32 := 4294967276#32
  let v1465 : BitVec 32 := Scalar.addi v1464 c_m20_i32
  let c32_i32_969 : BitVec 32 := 32#32
  let c0_i32_970 : BitVec 32 := 0#32
  let v1466 : BitVec 1 := Scalar.cmpi .eq c32_i32_969 c0_i32_970
  let c1_i32_971 : BitVec 32 := 1#32
  let v1467 : BitVec 32 := Scalar.select v1466 c1_i32_971 c32_i32_969
  let v1468 : BitVec 32 := Scalar.remsi v1465 v1467
  let c0_i32_973 : BitVec 32 := 0#32
  let v1470 : BitVec 1 := Scalar.cmpi .slt v1468 c0_i32_973
  let c0_i32_974 : BitVec 32 := 0#32
  let v1471 : BitVec 1 := Scalar.cmpi .slt v1467 c0_i32_974
  let v1472 : BitVec 1 := Scalar.xori v1470 v1471
  let c0_i32_972 : BitVec 32 := 0#32
  let v1469 : BitVec 1 := Scalar.cmpi .ne v1468 c0_i32_972
  let v1473 : BitVec 1 := Scalar.andi v1472 v1469
  let v1474 : BitVec 32 := Scalar.addi v1468 v1467
  let v1475 : BitVec 32 := Scalar.select v1473 v1474 v1468
  let v1476 : Index := Scalar.indexCast v1475
  ![v1476.toNat]
def k0_off125 (v1477 : BitVec 32) : Fin 3 → Nat :=
  let c0_i32_979 : BitVec 32 := 0#32
  let c0_i32_980 : BitVec 32 := 0#32
  ![v1477.toNat, 0, 0]

def k0_chk67 (v1477 : BitVec 32) : Prop :=
  (∀ a, (k0_off125 v1477) a + S1x32x1024.size a ≤ S32x32x1024.size a)
theorem k0_off125_inb : ∀ (v1477 : BitVec 32) (k0_hw67 : k0_chk67 v1477), ∀ a, (k0_off125 v1477) a + S1x32x1024.size a ≤ S32x32x1024.size a := fun v1477 k0_hw67 => k0_hw67

def k0_off126 (v4 : BitVec 32) : Fin 1 → Nat :=
  let c64_i32_983 : BitVec 32 := 64#32
  let v1486 : BitVec 32 := Scalar.addi v4 c64_i32_983
  let c_m12_i32 : BitVec 32 := 4294967284#32
  let v1487 : BitVec 32 := Scalar.addi v1486 c_m12_i32
  let c32_i32_984 : BitVec 32 := 32#32
  let c0_i32_985 : BitVec 32 := 0#32
  let v1488 : BitVec 1 := Scalar.cmpi .eq c32_i32_984 c0_i32_985
  let c1_i32_986 : BitVec 32 := 1#32
  let v1489 : BitVec 32 := Scalar.select v1488 c1_i32_986 c32_i32_984
  let v1490 : BitVec 32 := Scalar.remsi v1487 v1489
  let c0_i32_988 : BitVec 32 := 0#32
  let v1492 : BitVec 1 := Scalar.cmpi .slt v1490 c0_i32_988
  let c0_i32_989 : BitVec 32 := 0#32
  let v1493 : BitVec 1 := Scalar.cmpi .slt v1489 c0_i32_989
  let v1494 : BitVec 1 := Scalar.xori v1492 v1493
  let c0_i32_987 : BitVec 32 := 0#32
  let v1491 : BitVec 1 := Scalar.cmpi .ne v1490 c0_i32_987
  let v1495 : BitVec 1 := Scalar.andi v1494 v1491
  let v1496 : BitVec 32 := Scalar.addi v1490 v1489
  let v1497 : BitVec 32 := Scalar.select v1495 v1496 v1490
  let v1498 : Index := Scalar.indexCast v1497
  ![v1498.toNat]
def k0_off127 (v1499 : BitVec 32) : Fin 3 → Nat :=
  let c0_i32_994 : BitVec 32 := 0#32
  let c0_i32_995 : BitVec 32 := 0#32
  ![v1499.toNat, 0, 0]

def k0_chk68 (v1499 : BitVec 32) : Prop :=
  (∀ a, (k0_off127 v1499) a + S1x32x1024.size a ≤ S32x32x1024.size a)
theorem k0_off127_inb : ∀ (v1499 : BitVec 32) (k0_hw68 : k0_chk68 v1499), ∀ a, (k0_off127 v1499) a + S1x32x1024.size a ≤ S32x32x1024.size a := fun v1499 k0_hw68 => k0_hw68

def k0_off128 (v4 : BitVec 32) (c8_i32_1006 : BitVec 32) : Fin 1 → Nat :=
  let c64_i32_1005 : BitVec 32 := 64#32
  let v1514 : BitVec 32 := Scalar.addi v4 c64_i32_1005
  let v1515 : BitVec 32 := Scalar.addi v1514 c8_i32_1006
  let c32_i32_1007 : BitVec 32 := 32#32
  let c0_i32_1008 : BitVec 32 := 0#32
  let v1516 : BitVec 1 := Scalar.cmpi .eq c32_i32_1007 c0_i32_1008
  let c1_i32_1009 : BitVec 32 := 1#32
  let v1517 : BitVec 32 := Scalar.select v1516 c1_i32_1009 c32_i32_1007
  let v1518 : BitVec 32 := Scalar.remsi v1515 v1517
  let c0_i32_1011 : BitVec 32 := 0#32
  let v1520 : BitVec 1 := Scalar.cmpi .slt v1518 c0_i32_1011
  let c0_i32_1012 : BitVec 32 := 0#32
  let v1521 : BitVec 1 := Scalar.cmpi .slt v1517 c0_i32_1012
  let v1522 : BitVec 1 := Scalar.xori v1520 v1521
  let c0_i32_1010 : BitVec 32 := 0#32
  let v1519 : BitVec 1 := Scalar.cmpi .ne v1518 c0_i32_1010
  let v1523 : BitVec 1 := Scalar.andi v1522 v1519
  let v1524 : BitVec 32 := Scalar.addi v1518 v1517
  let v1525 : BitVec 32 := Scalar.select v1523 v1524 v1518
  let v1526 : Index := Scalar.indexCast v1525
  ![v1526.toNat]

def k0_chk1_0 (v4 : BitVec 32) : Prop :=
  (∀ (r : Fin 5), ∀ a, (k0_off2 v4 (k0_off2_at r)) a + S1.size a ≤ S32.size a) ∧
  (∀ a, (k0_off3 v4) a + S1.size a ≤ S32.size a) ∧
  (∀ a, (k0_off5 v4) a + S1.size a ≤ S32.size a) ∧
  (∀ a, (k0_off7 v4) a + S1.size a ≤ S32.size a) ∧
  (∀ a, (k0_off9 v4) a + S1.size a ≤ S32.size a) ∧
  (∀ a, (k0_off11 v4) a + S1.size a ≤ S32.size a) ∧
  (∀ a, (k0_off14 v4) a + S1.size a ≤ S32.size a) ∧
  (∀ a, (k0_off16 v4) a + S1.size a ≤ S32.size a) ∧
  (∀ a, (k0_off18 v4) a + S1.size a ≤ S32.size a) ∧
  (∀ a, (k0_off20 v4) a + S1.size a ≤ S32.size a) ∧
  (∀ a, (k0_off22 v4) a + S1.size a ≤ S32.size a) ∧
  (∀ a, (k0_off24 v4) a + S1.size a ≤ S32.size a) ∧
  (∀ a, (k0_off26 v4) a + S1.size a ≤ S32.size a) ∧
  (∀ a, (k0_off28 v4) a + S1.size a ≤ S32.size a) ∧
  (∀ a, (k0_off30 v4) a + S1.size a ≤ S32.size a) ∧
  (∀ a, (k0_off32 v4) a + S1.size a ≤ S32.size a) ∧
  (∀ a, (k0_off34 v4) a + S1.size a ≤ S32.size a) ∧
  (∀ a, (k0_off36 v4) a + S1.size a ≤ S32.size a) ∧
  (∀ a, (k0_off38 v4) a + S1.size a ≤ S32.size a) ∧
  (∀ a, (k0_off40 v4) a + S1.size a ≤ S32.size a) ∧
  (∀ a, (k0_off42 v4) a + S1.size a ≤ S32.size a) ∧
  (∀ a, (k0_off44 v4) a + S1.size a ≤ S32.size a) ∧
  (∀ a, (k0_off46 v4) a + S1.size a ≤ S32.size a) ∧
  (∀ a, (k0_off48 v4) a + S1.size a ≤ S32.size a) ∧
  (∀ a, (k0_off50 v4) a + S1.size a ≤ S32.size a) ∧
  (∀ a, (k0_off52 v4) a + S1.size a ≤ S32.size a) ∧
  (∀ a, (k0_off54 v4) a + S1.size a ≤ S32.size a) ∧
  (∀ a, (k0_off56 v4) a + S1.size a ≤ S32.size a) ∧
  (∀ a, (k0_off58 v4) a + S1.size a ≤ S32.size a) ∧
  (∀ a, (k0_off60 v4) a + S1.size a ≤ S32.size a) ∧
  (∀ a, (k0_off62 v4) a + S1.size a ≤ S32.size a) ∧
  (∀ a, (k0_off64 v4) a + S1.size a ≤ S32.size a)
def k0_chk1_1 (v4 : BitVec 32) : Prop :=
  (∀ a, (k0_off66 v4) a + S1.size a ≤ S32.size a) ∧
  (∀ a, (k0_off68 v4) a + S1.size a ≤ S32.size a) ∧
  (∀ a, (k0_off70 v4) a + S1.size a ≤ S32.size a) ∧
  (∀ a, (k0_off72 v4) a + S1.size a ≤ S32.size a) ∧
  (∀ a, (k0_off74 v4) a + S1.size a ≤ S32.size a) ∧
  (∀ a, (k0_off76 v4) a + S1.size a ≤ S32.size a) ∧
  (∀ a, (k0_off78 v4) a + S1.size a ≤ S32.size a) ∧
  (∀ a, (k0_off80 v4) a + S1.size a ≤ S32.size a) ∧
  (∀ a, (k0_off82 v4) a + S1.size a ≤ S32.size a) ∧
  (∀ a, (k0_off84 v4) a + S1.size a ≤ S32.size a) ∧
  (∀ a, (k0_off86 v4) a + S1.size a ≤ S32.size a) ∧
  (∀ a, (k0_off88 v4) a + S1.size a ≤ S32.size a) ∧
  (∀ a, (k0_off90 v4) a + S1.size a ≤ S32.size a) ∧
  (∀ a, (k0_off92 v4) a + S1.size a ≤ S32.size a) ∧
  (∀ a, (k0_off94 v4) a + S1.size a ≤ S32.size a) ∧
  (∀ a, (k0_off96 v4) a + S1.size a ≤ S32.size a) ∧
  (∀ a, (k0_off98 v4) a + S1.size a ≤ S32.size a) ∧
  (∀ a, (k0_off100 v4) a + S1.size a ≤ S32.size a) ∧
  (∀ a, (k0_off102 v4) a + S1.size a ≤ S32.size a) ∧
  (∀ a, (k0_off104 v4) a + S1.size a ≤ S32.size a) ∧
  (∀ a, (k0_off106 v4) a + S1.size a ≤ S32.size a) ∧
  (∀ a, (k0_off108 v4) a + S1.size a ≤ S32.size a) ∧
  (∀ a, (k0_off110 v4) a + S1.size a ≤ S32.size a) ∧
  (∀ a, (k0_off112 v4) a + S1.size a ≤ S32.size a) ∧
  (∀ a, (k0_off114 v4) a + S1.size a ≤ S32.size a) ∧
  (∀ a, (k0_off116 v4) a + S1.size a ≤ S32.size a) ∧
  (∀ a, (k0_off118 v4) a + S1.size a ≤ S32.size a) ∧
  (∀ a, (k0_off120 v4) a + S1.size a ≤ S32.size a) ∧
  (∀ a, (k0_off122 v4) a + S1.size a ≤ S32.size a) ∧
  (∀ a, (k0_off124 v4) a + S1.size a ≤ S32.size a) ∧
  (∀ a, (k0_off126 v4) a + S1.size a ≤ S32.size a) ∧
  (∀ (r : Fin 3), ∀ a, (k0_off128 v4 (BitVec.ofNat 32 (8 + 8 * r.val))) a + S1.size a ≤ S32.size a)
def k0_chk1 (v4 : BitVec 32) : Prop :=
  k0_chk1_0 v4 ∧
  k0_chk1_1 v4
theorem k0_off2_inb : ∀ (v4 : BitVec 32) (k0_hw1 : k0_chk1 v4), ∀ (r : Fin 5), ∀ a, (k0_off2 v4 (k0_off2_at r)) a + S1.size a ≤ S32.size a := fun v4 k0_hw1 r => k0_hw1.1.1 r
theorem k0_off3_inb : ∀ (v4 : BitVec 32) (k0_hw1 : k0_chk1 v4), ∀ a, (k0_off3 v4) a + S1.size a ≤ S32.size a := fun v4 k0_hw1 => k0_hw1.1.2.1
theorem k0_off5_inb : ∀ (v4 : BitVec 32) (k0_hw1 : k0_chk1 v4), ∀ a, (k0_off5 v4) a + S1.size a ≤ S32.size a := fun v4 k0_hw1 => k0_hw1.1.2.2.1
theorem k0_off7_inb : ∀ (v4 : BitVec 32) (k0_hw1 : k0_chk1 v4), ∀ a, (k0_off7 v4) a + S1.size a ≤ S32.size a := fun v4 k0_hw1 => k0_hw1.1.2.2.2.1
theorem k0_off9_inb : ∀ (v4 : BitVec 32) (k0_hw1 : k0_chk1 v4), ∀ a, (k0_off9 v4) a + S1.size a ≤ S32.size a := fun v4 k0_hw1 => k0_hw1.1.2.2.2.2.1
theorem k0_off11_inb : ∀ (v4 : BitVec 32) (k0_hw1 : k0_chk1 v4), ∀ a, (k0_off11 v4) a + S1.size a ≤ S32.size a := fun v4 k0_hw1 => k0_hw1.1.2.2.2.2.2.1
theorem k0_off14_inb : ∀ (v4 : BitVec 32) (k0_hw1 : k0_chk1 v4), ∀ a, (k0_off14 v4) a + S1.size a ≤ S32.size a := fun v4 k0_hw1 => k0_hw1.1.2.2.2.2.2.2.1
theorem k0_off16_inb : ∀ (v4 : BitVec 32) (k0_hw1 : k0_chk1 v4), ∀ a, (k0_off16 v4) a + S1.size a ≤ S32.size a := fun v4 k0_hw1 => k0_hw1.1.2.2.2.2.2.2.2.1
theorem k0_off18_inb : ∀ (v4 : BitVec 32) (k0_hw1 : k0_chk1 v4), ∀ a, (k0_off18 v4) a + S1.size a ≤ S32.size a := fun v4 k0_hw1 => k0_hw1.1.2.2.2.2.2.2.2.2.1
theorem k0_off20_inb : ∀ (v4 : BitVec 32) (k0_hw1 : k0_chk1 v4), ∀ a, (k0_off20 v4) a + S1.size a ≤ S32.size a := fun v4 k0_hw1 => k0_hw1.1.2.2.2.2.2.2.2.2.2.1
theorem k0_off22_inb : ∀ (v4 : BitVec 32) (k0_hw1 : k0_chk1 v4), ∀ a, (k0_off22 v4) a + S1.size a ≤ S32.size a := fun v4 k0_hw1 => k0_hw1.1.2.2.2.2.2.2.2.2.2.2.1
theorem k0_off24_inb : ∀ (v4 : BitVec 32) (k0_hw1 : k0_chk1 v4), ∀ a, (k0_off24 v4) a + S1.size a ≤ S32.size a := fun v4 k0_hw1 => k0_hw1.1.2.2.2.2.2.2.2.2.2.2.2.1
theorem k0_off26_inb : ∀ (v4 : BitVec 32) (k0_hw1 : k0_chk1 v4), ∀ a, (k0_off26 v4) a + S1.size a ≤ S32.size a := fun v4 k0_hw1 => k0_hw1.1.2.2.2.2.2.2.2.2.2.2.2.2.1
theorem k0_off28_inb : ∀ (v4 : BitVec 32) (k0_hw1 : k0_chk1 v4), ∀ a, (k0_off28 v4) a + S1.size a ≤ S32.size a := fun v4 k0_hw1 => k0_hw1.1.2.2.2.2.2.2.2.2.2.2.2.2.2.1
theorem k0_off30_inb : ∀ (v4 : BitVec 32) (k0_hw1 : k0_chk1 v4), ∀ a, (k0_off30 v4) a + S1.size a ≤ S32.size a := fun v4 k0_hw1 => k0_hw1.1.2.2.2.2.2.2.2.2.2.2.2.2.2.2.1
theorem k0_off32_inb : ∀ (v4 : BitVec 32) (k0_hw1 : k0_chk1 v4), ∀ a, (k0_off32 v4) a + S1.size a ≤ S32.size a := fun v4 k0_hw1 => k0_hw1.1.2.2.2.2.2.2.2.2.2.2.2.2.2.2.2.1
theorem k0_off34_inb : ∀ (v4 : BitVec 32) (k0_hw1 : k0_chk1 v4), ∀ a, (k0_off34 v4) a + S1.size a ≤ S32.size a := fun v4 k0_hw1 => k0_hw1.1.2.2.2.2.2.2.2.2.2.2.2.2.2.2.2.2.1
theorem k0_off36_inb : ∀ (v4 : BitVec 32) (k0_hw1 : k0_chk1 v4), ∀ a, (k0_off36 v4) a + S1.size a ≤ S32.size a := fun v4 k0_hw1 => k0_hw1.1.2.2.2.2.2.2.2.2.2.2.2.2.2.2.2.2.2.1
theorem k0_off38_inb : ∀ (v4 : BitVec 32) (k0_hw1 : k0_chk1 v4), ∀ a, (k0_off38 v4) a + S1.size a ≤ S32.size a := fun v4 k0_hw1 => k0_hw1.1.2.2.2.2.2.2.2.2.2.2.2.2.2.2.2.2.2.2.1
theorem k0_off40_inb : ∀ (v4 : BitVec 32) (k0_hw1 : k0_chk1 v4), ∀ a, (k0_off40 v4) a + S1.size a ≤ S32.size a := fun v4 k0_hw1 => k0_hw1.1.2.2.2.2.2.2.2.2.2.2.2.2.2.2.2.2.2.2.2.1
theorem k0_off42_inb : ∀ (v4 : BitVec 32) (k0_hw1 : k0_chk1 v4), ∀ a, (k0_off42 v4) a + S1.size a ≤ S32.size a := fun v4 k0_hw1 => k0_hw1.1.2.2.2.2.2.2.2.2.2.2.2.2.2.2.2.2.2.2.2.2.1
theorem k0_off44_inb : ∀ (v4 : BitVec 32) (k0_hw1 : k0_chk1 v4), ∀ a, (k0_off44 v4) a + S1.size a ≤ S32.size a := fun v4 k0_hw1 => k0_hw1.1.2.2.2.2.2.2.2.2.2.2.2.2.2.2.2.2.2.2.2.2.2.1
theorem k0_off46_inb : ∀ (v4 : BitVec 32) (k0_hw1 : k0_chk1 v4), ∀ a, (k0_off46 v4) a + S1.size a ≤ S32.size a := fun v4 k0_hw1 => k0_hw1.1.2.2.2.2.2.2.2.2.2.2.2.2.2.2.2.2.2.2.2.2.2.2.1
theorem k0_off48_inb : ∀ (v4 : BitVec 32) (k0_hw1 : k0_chk1 v4), ∀ a, (k0_off48 v4) a + S1.size a ≤ S32.size a := fun v4 k0_hw1 => k0_hw1.1.2.2.2.2.2.2.2.2.2.2.2.2.2.2.2.2.2.2.2.2.2.2.2.1
theorem k0_off50_inb : ∀ (v4 : BitVec 32) (k0_hw1 : k0_chk1 v4), ∀ a, (k0_off50 v4) a + S1.size a ≤ S32.size a := fun v4 k0_hw1 => k0_hw1.1.2.2.2.2.2.2.2.2.2.2.2.2.2.2.2.2.2.2.2.2.2.2.2.2.1
theorem k0_off52_inb : ∀ (v4 : BitVec 32) (k0_hw1 : k0_chk1 v4), ∀ a, (k0_off52 v4) a + S1.size a ≤ S32.size a := fun v4 k0_hw1 => k0_hw1.1.2.2.2.2.2.2.2.2.2.2.2.2.2.2.2.2.2.2.2.2.2.2.2.2.2.1
theorem k0_off54_inb : ∀ (v4 : BitVec 32) (k0_hw1 : k0_chk1 v4), ∀ a, (k0_off54 v4) a + S1.size a ≤ S32.size a := fun v4 k0_hw1 => k0_hw1.1.2.2.2.2.2.2.2.2.2.2.2.2.2.2.2.2.2.2.2.2.2.2.2.2.2.2.1
theorem k0_off56_inb : ∀ (v4 : BitVec 32) (k0_hw1 : k0_chk1 v4), ∀ a, (k0_off56 v4) a + S1.size a ≤ S32.size a := fun v4 k0_hw1 => k0_hw1.1.2.2.2.2.2.2.2.2.2.2.2.2.2.2.2.2.2.2.2.2.2.2.2.2.2.2.2.1
theorem k0_off58_inb : ∀ (v4 : BitVec 32) (k0_hw1 : k0_chk1 v4), ∀ a, (k0_off58 v4) a + S1.size a ≤ S32.size a := fun v4 k0_hw1 => k0_hw1.1.2.2.2.2.2.2.2.2.2.2.2.2.2.2.2.2.2.2.2.2.2.2.2.2.2.2.2.2.1
theorem k0_off60_inb : ∀ (v4 : BitVec 32) (k0_hw1 : k0_chk1 v4), ∀ a, (k0_off60 v4) a + S1.size a ≤ S32.size a := fun v4 k0_hw1 => k0_hw1.1.2.2.2.2.2.2.2.2.2.2.2.2.2.2.2.2.2.2.2.2.2.2.2.2.2.2.2.2.2.1
theorem k0_off62_inb : ∀ (v4 : BitVec 32) (k0_hw1 : k0_chk1 v4), ∀ a, (k0_off62 v4) a + S1.size a ≤ S32.size a := fun v4 k0_hw1 => k0_hw1.1.2.2.2.2.2.2.2.2.2.2.2.2.2.2.2.2.2.2.2.2.2.2.2.2.2.2.2.2.2.2.1
theorem k0_off64_inb : ∀ (v4 : BitVec 32) (k0_hw1 : k0_chk1 v4), ∀ a, (k0_off64 v4) a + S1.size a ≤ S32.size a := fun v4 k0_hw1 => k0_hw1.1.2.2.2.2.2.2.2.2.2.2.2.2.2.2.2.2.2.2.2.2.2.2.2.2.2.2.2.2.2.2.2
theorem k0_off66_inb : ∀ (v4 : BitVec 32) (k0_hw1 : k0_chk1 v4), ∀ a, (k0_off66 v4) a + S1.size a ≤ S32.size a := fun v4 k0_hw1 => k0_hw1.2.1
theorem k0_off68_inb : ∀ (v4 : BitVec 32) (k0_hw1 : k0_chk1 v4), ∀ a, (k0_off68 v4) a + S1.size a ≤ S32.size a := fun v4 k0_hw1 => k0_hw1.2.2.1
theorem k0_off70_inb : ∀ (v4 : BitVec 32) (k0_hw1 : k0_chk1 v4), ∀ a, (k0_off70 v4) a + S1.size a ≤ S32.size a := fun v4 k0_hw1 => k0_hw1.2.2.2.1
theorem k0_off72_inb : ∀ (v4 : BitVec 32) (k0_hw1 : k0_chk1 v4), ∀ a, (k0_off72 v4) a + S1.size a ≤ S32.size a := fun v4 k0_hw1 => k0_hw1.2.2.2.2.1
theorem k0_off74_inb : ∀ (v4 : BitVec 32) (k0_hw1 : k0_chk1 v4), ∀ a, (k0_off74 v4) a + S1.size a ≤ S32.size a := fun v4 k0_hw1 => k0_hw1.2.2.2.2.2.1
theorem k0_off76_inb : ∀ (v4 : BitVec 32) (k0_hw1 : k0_chk1 v4), ∀ a, (k0_off76 v4) a + S1.size a ≤ S32.size a := fun v4 k0_hw1 => k0_hw1.2.2.2.2.2.2.1
theorem k0_off78_inb : ∀ (v4 : BitVec 32) (k0_hw1 : k0_chk1 v4), ∀ a, (k0_off78 v4) a + S1.size a ≤ S32.size a := fun v4 k0_hw1 => k0_hw1.2.2.2.2.2.2.2.1
theorem k0_off80_inb : ∀ (v4 : BitVec 32) (k0_hw1 : k0_chk1 v4), ∀ a, (k0_off80 v4) a + S1.size a ≤ S32.size a := fun v4 k0_hw1 => k0_hw1.2.2.2.2.2.2.2.2.1
theorem k0_off82_inb : ∀ (v4 : BitVec 32) (k0_hw1 : k0_chk1 v4), ∀ a, (k0_off82 v4) a + S1.size a ≤ S32.size a := fun v4 k0_hw1 => k0_hw1.2.2.2.2.2.2.2.2.2.1
theorem k0_off84_inb : ∀ (v4 : BitVec 32) (k0_hw1 : k0_chk1 v4), ∀ a, (k0_off84 v4) a + S1.size a ≤ S32.size a := fun v4 k0_hw1 => k0_hw1.2.2.2.2.2.2.2.2.2.2.1
theorem k0_off86_inb : ∀ (v4 : BitVec 32) (k0_hw1 : k0_chk1 v4), ∀ a, (k0_off86 v4) a + S1.size a ≤ S32.size a := fun v4 k0_hw1 => k0_hw1.2.2.2.2.2.2.2.2.2.2.2.1
theorem k0_off88_inb : ∀ (v4 : BitVec 32) (k0_hw1 : k0_chk1 v4), ∀ a, (k0_off88 v4) a + S1.size a ≤ S32.size a := fun v4 k0_hw1 => k0_hw1.2.2.2.2.2.2.2.2.2.2.2.2.1
theorem k0_off90_inb : ∀ (v4 : BitVec 32) (k0_hw1 : k0_chk1 v4), ∀ a, (k0_off90 v4) a + S1.size a ≤ S32.size a := fun v4 k0_hw1 => k0_hw1.2.2.2.2.2.2.2.2.2.2.2.2.2.1
theorem k0_off92_inb : ∀ (v4 : BitVec 32) (k0_hw1 : k0_chk1 v4), ∀ a, (k0_off92 v4) a + S1.size a ≤ S32.size a := fun v4 k0_hw1 => k0_hw1.2.2.2.2.2.2.2.2.2.2.2.2.2.2.1
theorem k0_off94_inb : ∀ (v4 : BitVec 32) (k0_hw1 : k0_chk1 v4), ∀ a, (k0_off94 v4) a + S1.size a ≤ S32.size a := fun v4 k0_hw1 => k0_hw1.2.2.2.2.2.2.2.2.2.2.2.2.2.2.2.1
theorem k0_off96_inb : ∀ (v4 : BitVec 32) (k0_hw1 : k0_chk1 v4), ∀ a, (k0_off96 v4) a + S1.size a ≤ S32.size a := fun v4 k0_hw1 => k0_hw1.2.2.2.2.2.2.2.2.2.2.2.2.2.2.2.2.1
theorem k0_off98_inb : ∀ (v4 : BitVec 32) (k0_hw1 : k0_chk1 v4), ∀ a, (k0_off98 v4) a + S1.size a ≤ S32.size a := fun v4 k0_hw1 => k0_hw1.2.2.2.2.2.2.2.2.2.2.2.2.2.2.2.2.2.1
theorem k0_off100_inb : ∀ (v4 : BitVec 32) (k0_hw1 : k0_chk1 v4), ∀ a, (k0_off100 v4) a + S1.size a ≤ S32.size a := fun v4 k0_hw1 => k0_hw1.2.2.2.2.2.2.2.2.2.2.2.2.2.2.2.2.2.2.1
theorem k0_off102_inb : ∀ (v4 : BitVec 32) (k0_hw1 : k0_chk1 v4), ∀ a, (k0_off102 v4) a + S1.size a ≤ S32.size a := fun v4 k0_hw1 => k0_hw1.2.2.2.2.2.2.2.2.2.2.2.2.2.2.2.2.2.2.2.1
theorem k0_off104_inb : ∀ (v4 : BitVec 32) (k0_hw1 : k0_chk1 v4), ∀ a, (k0_off104 v4) a + S1.size a ≤ S32.size a := fun v4 k0_hw1 => k0_hw1.2.2.2.2.2.2.2.2.2.2.2.2.2.2.2.2.2.2.2.2.1
theorem k0_off106_inb : ∀ (v4 : BitVec 32) (k0_hw1 : k0_chk1 v4), ∀ a, (k0_off106 v4) a + S1.size a ≤ S32.size a := fun v4 k0_hw1 => k0_hw1.2.2.2.2.2.2.2.2.2.2.2.2.2.2.2.2.2.2.2.2.2.1
theorem k0_off108_inb : ∀ (v4 : BitVec 32) (k0_hw1 : k0_chk1 v4), ∀ a, (k0_off108 v4) a + S1.size a ≤ S32.size a := fun v4 k0_hw1 => k0_hw1.2.2.2.2.2.2.2.2.2.2.2.2.2.2.2.2.2.2.2.2.2.2.1
theorem k0_off110_inb : ∀ (v4 : BitVec 32) (k0_hw1 : k0_chk1 v4), ∀ a, (k0_off110 v4) a + S1.size a ≤ S32.size a := fun v4 k0_hw1 => k0_hw1.2.2.2.2.2.2.2.2.2.2.2.2.2.2.2.2.2.2.2.2.2.2.2.1
theorem k0_off112_inb : ∀ (v4 : BitVec 32) (k0_hw1 : k0_chk1 v4), ∀ a, (k0_off112 v4) a + S1.size a ≤ S32.size a := fun v4 k0_hw1 => k0_hw1.2.2.2.2.2.2.2.2.2.2.2.2.2.2.2.2.2.2.2.2.2.2.2.2.1
theorem k0_off114_inb : ∀ (v4 : BitVec 32) (k0_hw1 : k0_chk1 v4), ∀ a, (k0_off114 v4) a + S1.size a ≤ S32.size a := fun v4 k0_hw1 => k0_hw1.2.2.2.2.2.2.2.2.2.2.2.2.2.2.2.2.2.2.2.2.2.2.2.2.2.1
theorem k0_off116_inb : ∀ (v4 : BitVec 32) (k0_hw1 : k0_chk1 v4), ∀ a, (k0_off116 v4) a + S1.size a ≤ S32.size a := fun v4 k0_hw1 => k0_hw1.2.2.2.2.2.2.2.2.2.2.2.2.2.2.2.2.2.2.2.2.2.2.2.2.2.2.1
theorem k0_off118_inb : ∀ (v4 : BitVec 32) (k0_hw1 : k0_chk1 v4), ∀ a, (k0_off118 v4) a + S1.size a ≤ S32.size a := fun v4 k0_hw1 => k0_hw1.2.2.2.2.2.2.2.2.2.2.2.2.2.2.2.2.2.2.2.2.2.2.2.2.2.2.2.1
theorem k0_off120_inb : ∀ (v4 : BitVec 32) (k0_hw1 : k0_chk1 v4), ∀ a, (k0_off120 v4) a + S1.size a ≤ S32.size a := fun v4 k0_hw1 => k0_hw1.2.2.2.2.2.2.2.2.2.2.2.2.2.2.2.2.2.2.2.2.2.2.2.2.2.2.2.2.1
theorem k0_off122_inb : ∀ (v4 : BitVec 32) (k0_hw1 : k0_chk1 v4), ∀ a, (k0_off122 v4) a + S1.size a ≤ S32.size a := fun v4 k0_hw1 => k0_hw1.2.2.2.2.2.2.2.2.2.2.2.2.2.2.2.2.2.2.2.2.2.2.2.2.2.2.2.2.2.1
theorem k0_off124_inb : ∀ (v4 : BitVec 32) (k0_hw1 : k0_chk1 v4), ∀ a, (k0_off124 v4) a + S1.size a ≤ S32.size a := fun v4 k0_hw1 => k0_hw1.2.2.2.2.2.2.2.2.2.2.2.2.2.2.2.2.2.2.2.2.2.2.2.2.2.2.2.2.2.2.1
theorem k0_off126_inb : ∀ (v4 : BitVec 32) (k0_hw1 : k0_chk1 v4), ∀ a, (k0_off126 v4) a + S1.size a ≤ S32.size a := fun v4 k0_hw1 => k0_hw1.2.2.2.2.2.2.2.2.2.2.2.2.2.2.2.2.2.2.2.2.2.2.2.2.2.2.2.2.2.2.2.1
theorem k0_off128_inb : ∀ (v4 : BitVec 32) (k0_hw1 : k0_chk1 v4), ∀ (r : Fin 3), ∀ a, (k0_off128 v4 (BitVec.ofNat 32 (8 + 8 * r.val))) a + S1.size a ≤ S32.size a := fun v4 k0_hw1 r => k0_hw1.2.2.2.2.2.2.2.2.2.2.2.2.2.2.2.2.2.2.2.2.2.2.2.2.2.2.2.2.2.2.2.2 r

def k0_off129 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1016 : BitVec 32 := 0#32
  let c0_i32_1017 : BitVec 32 := 0#32
  ![v2.toNat, 0, 0]
abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S32 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S32 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Ring.lean ====
/-
  The combinatorics of the all-gather: the Hamiltonian ring over the 32 devices, the thirty-one copies a device
  sends in program order, what each carries and where it goes. Pure statements over finite types, all decided.
-/
module

public import Mathlib.Data.Fintype.Sum
public import Mathlib.Data.Fin.Basic
public import Mathlib.Algebra.Group.Fin.Basic
public import Mathlib.Logic.Equiv.Option
public import Mathlib.Tactic.FinCases
public import Mathlib.Data.Fin.VecNotation
public import Mathlib.Data.Fintype.Option
public import Mathlib.Data.Fintype.Card
public import Mathlib.Data.Fintype.Pi

@[expose] public section

set_option maxRecDepth 16384

namespace Cert.Ring

/-- The device at each position of the ring. -/
def ham : Fin 32 → Fin 32 :=
  ![0, 8, 16, 24, 27, 19, 11, 3, 4, 12, 20, 28, 31, 23, 15, 7, 6, 14, 22, 30, 29, 21, 13, 5, 2, 10, 18, 26, 25, 17, 9, 1]
/-- The ring position of each device. -/
def idx : Fin 32 → Fin 32 :=
  ![0, 31, 24, 7, 8, 23, 16, 15, 1, 30, 25, 6, 9, 22, 17, 14, 2, 29, 26, 5, 10, 21, 18, 13, 3, 28, 27, 4, 11, 20, 19, 12]

/-- The device at a device's position is that device. -/
theorem ham_idx (p : Fin 32) : ham (idx p) = p := by revert p; decide
/-- The position of the device at a position is that position. -/
theorem idx_ham (k : Fin 32) : idx (ham k) = k := by revert k; decide

/-- The device k positions after p on the ring. -/
def hop (p k : Fin 32) : Fin 32 := ham (idx p + k)

/-- Moving along the ring twice is moving by the sum. -/
theorem hop_hop (p a b : Fin 32) : hop (hop p a) b = hop p (a + b) := by
  unfold hop; rw [idx_ham, add_assoc]
/-- Moving by nothing stays. -/
theorem hop_zero (p : Fin 32) : hop p 0 = p := by unfold hop; rw [add_zero, ham_idx]
/-- Moving there and back stays. -/
theorem hop_cancel {p a b : Fin 32} (h : a + b = 0) : hop (hop p a) b = p := by rw [hop_hop, h, hop_zero]

/-- Moving k positions along the ring permutes the devices. -/
def hopE (k : Fin 32) : Fin 32 ≃ Fin 32 where
  toFun p := hop p k
  invFun p := hop p (-k)
  left_inv _ := hop_cancel (add_neg_cancel k)
  right_inv _ := hop_cancel (neg_add_cancel k)

/-- From one device, the positions number the devices. -/
def fromE (p : Fin 32) : Fin 32 ≃ Fin 32 where
  toFun k := hop p k
  invFun q := idx q - idx p
  left_inv k := by simp [hop, idx_ham]
  right_inv q := by simp [hop, ham_idx]

/-! ## The copies

Copies 0, 1, 2 seed the three far segments; from 3 on they alternate right and left, in program order. -/

/-- Among the right (or left) copies, the semaphore position: thirteen and fifteen are not used. -/
def lane (j : ℕ) : ℕ := if (j - 3) / 2 = 13 then 14 else (j - 3) / 2
/-- Where copy j goes, in ring positions after its sender. -/
def tgtOff (j : Fin 31) : Fin 32 :=
  if j = 0 then 8 else if j = 1 then 16 else if j = 2 then 24 else if j.val % 2 = 1 then 1 else -1
/-- Whose block copy j carries, in ring positions after its sender. -/
def srcOff (j : Fin 31) : Fin 32 :=
  if j.val < 3 then 0
  else if j.val % 2 = 1 then -(Fin.ofNat 32 (lane j / 4)) - Fin.ofNat 32 (8 * (lane j % 4))
  else Fin.ofNat 32 (lane j / 4) - Fin.ofNat 32 (8 * (lane j % 4))
/-- Whose block copy j brings, in ring positions after its receiver. -/
def inOff (j : Fin 31) : Fin 32 := srcOff j - tgtOff j
/-- The DMA semaphore copy j signals at its sender. -/
def sendNo (j : Fin 31) : ℕ :=
  if j.val < 3 then 5 + j else if j.val % 2 = 1 then 11 + lane j else 43 + lane j
/-- The DMA semaphore copy j signals at its receiver. -/
def recvNo (j : Fin 31) : ℕ :=
  if j.val < 3 then 8 + j else if j.val % 2 = 1 then 27 + lane j else 59 + lane j
/-- The barrier signal by which a device lets copy j into it. -/
def grp (j : Fin 31) : Fin 5 :=
  if j = 0 then 3 else if j = 1 then 4 else if j = 2 then 2 else if j.val % 2 = 1 then 0 else 1
/-- Where barrier signal d goes, in ring positions after the signaller. -/
def sigOff (d : Fin 5) : Fin 32 := ![31, 1, 8, 24, 16] d

/-- The signal that lets copy j in goes back to the device that sends it. -/
theorem sigOff_grp (j : Fin 31) : tgtOff j + sigOff (grp j) = 0 := by revert j; decide
/-- Copy j's target and the block it brings there make up the block it carries. -/
theorem srcOff_eq (j : Fin 31) : tgtOff j + inOff j = srcOff j := by revert j; decide

/-- The device copy j of p goes to. -/
abbrev tgt (p : Fin 32) (j : Fin 31) : Fin 32 := hop p (tgtOff j)
/-- The device whose block copy j of p carries. -/
abbrev org (p : Fin 32) (j : Fin 31) : Fin 32 := hop p (srcOff j)
/-- The device whose block copy j brings to p. -/
abbrev inn (p : Fin 32) (j : Fin 31) : Fin 32 := hop p (inOff j)
/-- The device barrier signal d of p goes to. -/
abbrev sigTo (p : Fin 32) (d : Fin 5) : Fin 32 := hop p (sigOff d)

/-- What copy j brings to its target is what it carries. -/
theorem inn_tgt (p : Fin 32) (j : Fin 31) : inn (tgt p j) j = org p j := by
  unfold inn tgt; rw [hop_hop, srcOff_eq]
/-- The device told by copy j's signal sends copy j back to the signaller. -/
theorem tgt_sigTo (p : Fin 32) (j : Fin 31) : tgt (sigTo p (grp j)) j = p := by
  unfold tgt sigTo; exact hop_cancel (by rw [add_comm]; exact sigOff_grp j)
/-- What that device's copy j carries is what copy j brings to the signaller. -/
theorem org_sigTo (p : Fin 32) (j : Fin 31) : org (sigTo p (grp j)) j = inn p j := by
  rw [← inn_tgt, tgt_sigTo]

/-- The slots of a device: its own, and one per copy into it. -/
def slotOff : Option (Fin 31) → Fin 32
  | none => 0
  | some j => inOff j
/-- No two slots hold the same block. -/
theorem slotOff_inj : Function.Injective slotOff := by unfold Function.Injective; decide +kernel
/-- Every block has a slot. -/
theorem slotOff_bij : Function.Bijective slotOff := (Fintype.bijective_iff_injective_and_card _).mpr ⟨slotOff_inj, by decide⟩
/-- The slots of device p are numbered by all the devices. -/
noncomputable def slotE (p : Fin 32) : Option (Fin 31) ≃ Fin 32 := (Equiv.ofBijective _ slotOff_bij).trans (fromE p)
/-- A device's own slot is its own number. -/
theorem slotE_none (p : Fin 32) : slotE p none = p := hop_zero p
/-- The slot of copy j is the number of the device whose block it brings. -/
theorem slotE_some (p : Fin 32) (j : Fin 31) : slotE p (some j) = inn p j := rfl

/-- What a copy is sent from: copy i's landing slot is passed on by at most two copies, given by place. -/
def kid (i : Fin 31) (b : Fin 2) : Option (Fin 31) :=
  if i.val < 3 then some (Fin.ofNat 31 (2 * i + 5 + b))
  else if b = 1 then none
  else if lane i + 4 < 13 then some (Fin.ofNat 31 (i + 8))
  else if lane i + 4 = 14 then some (Fin.ofNat 31 (i + 6))
  else none
/-- The landing slot copy j is sent from; none when it is the device's own block. -/
def src (j : Fin 31) : Option (Fin 31 × Fin 2) :=
  if j.val < 5 then none
  else if j.val < 11 then some (Fin.ofNat 31 ((j - 5) / 2), Fin.ofNat 2 ((j - 5) % 2))
  else if j.val < 29 then some (Fin.ofNat 31 (j - 8), 0) else some (Fin.ofNat 31 (j - 6), 0)

/-- The two tables agree: what a slot is passed on by, and what a copy is sent from. -/
theorem kid_src (i j : Fin 31) (b : Fin 2) : kid i b = some j ↔ src j = some (i, b) := by revert i j b; decide +kernel
/-- A copy carries the block that its source's slot has received, or the device's own. -/
theorem srcOff_src (j : Fin 31) : (match src j with | none => 0 | some (i, _) => inOff i) = srcOff j := by
  revert j; decide
/-- The first five copies, and no others, carry the device's own block. -/
theorem src_none (j : Fin 31) : src j = none ↔ j.val < 5 := by revert j; decide
/-- A copy is sent from the slot of an earlier one. -/
theorem src_lt (j i : Fin 31) (b : Fin 2) (h : src j = some (i, b)) : i.val < j.val := by revert j i b; decide +kernel

end Cert.Ring
-- ==== Proof.Slots.lean ====
/-
  The gather buffer by slots: slot d is the 32×1024 page d of the 32×32×1024 scratch buffer. What the buffer holds
  when every device's block has arrived, and the facts that tie a slot's page to that device's block.
-/
module

public import proofs.«01_k».proof.Proof.Gen.KernelIdeal.Launch
public import proofs.«01_k».proof.Proof.Gen.KernelIdeal.Points
public import proofs.«01_k».proof.Proof.Gen.KernelIdeal.Frame
public import proofs.«01_k».proof.Proof.Ring
public import Idealize.ShloMosaic.Lib.ValueLayout
public import Idealize.ShloMosaic.Lib.ViewIndex

@[expose] public section

set_option maxRecDepth 16384

noncomputable section

namespace Cert.KernelIdeal.Gather

open Idealize.ShloMosaic Idealize.ShloMosaic.TcCoe
open Idealize.ShloMosaic.ValueIdx
open Cert.Ring
open Facts₀ Facts

variable {F : FTy → Type} [FloatOps F]

/-- The gather buffer. -/
abbrev gM : Memref sig .tc .vmem S32x32x1024 .f32 := Memref.whole cc0_scratch0
/-- The staged block of x. -/
abbrev xM : Memref sig .tc .vmem S32x1024 .f32 := Memref.whole cc0_stg0_0

/-- A page of the gather buffer at offset o. -/
abbrev page (o : Fin 3 → ℕ) (h : ∀ a, o a + S1x32x1024.size a ≤ S32x32x1024.size a) : Memref sig .tc .vmem S32x1024 .f32 :=
  (gM.slice (Rect.unit (s := S32x32x1024) o S1x32x1024.size h) (fun _ => rfl)).squeeze S32x1024 squeezes_S1x32x1024_S32x1024

/-- Every slot lies inside the buffer. -/
theorem slot_inb (d : Fin 32) : ∀ a, (![d.val, 0, 0] : Fin 3 → ℕ) a + S1x32x1024.size a ≤ S32x32x1024.size a := by
  revert d; decide

/-- Slot d. -/
abbrev slotM (d : Fin 32) : Memref sig .tc .vmem S32x1024 .f32 := page ![d.val, 0, 0] (slot_inb d)

/-- A block of x per device. -/
abbrev Blocks (F : FTy → Type) : Type := Dev nD → S32x1024.Idx → Elt F .f32

/-- The buffer once every block has arrived: page d is device d's block. -/
def gath (X : Blocks F) : (cc0_scratch0 : Ref sig .tc).ty.Contents (Elt F) :=
  fun i => X (i 0) (ix2 (i 1) (i 2))

/-- An element of slot d, by row and column. -/
theorem slot_emb (d : Fin 32) (r : Fin 32) (l : Fin 1024) :
    (slotM d).view.emb (ix2 r l) = (ix3 d r l : S32x32x1024.Idx) := by
  show (Rect.unit (s := S32x32x1024) ![d.val, 0, 0] S1x32x1024.size (slot_inb d)).emb (Shape.reshapeEquiv _ (ix2 r l)) = _
  rw [show Shape.reshapeEquiv (squeezes_S1x32x1024_S32x1024.numel_eq) (ix2 r l) = ix3 (⟨0, Nat.one_pos⟩ : Fin 1) r l from reshapeEquiv_ix2_1ab _ r l]
  refine Shape.idx3_ext ?_ ?_ ?_ <;> rw [Rect.emb_apply]
  · show d.val + 1 * 0 = d.val; omega
  · show 0 + 1 * r.val = r.val; omega
  · show 0 + 1 * l.val = l.val; omega

/-- Slot d of the gathered buffer reads device d's block. -/
theorem slot_read (X : Blocks F) (d : Fin 32) : (slotM d).view.read (Elt F) (gath X) = X d := by
  funext i
  obtain ⟨r, l, rfl⟩ : ∃ (r : Fin 32) (l : Fin 1024), i = ix2 r l := ⟨i 0, i 1, eq_ix2 i⟩
  exact (congrArg (gath X) (slot_emb d r l)).trans rfl

/-- A block written into slot d agrees there with the gathered buffer. -/
theorem slot_write (X : Blocks F) (d : Fin 32) (fd : (cc0_scratch0 : Ref sig .tc).ty.Contents (Elt F)) (w : S32x1024.Idx → Elt F .f32) (hw : w = X d) :
    ∀ i ∈ (slotM d).view.set, (slotM d).view.write (Elt F) fd w Finset.univ i = gath X i := by
  intro i hi
  obtain ⟨x, -, rfl⟩ := Finset.mem_map.mp hi
  rw [View.write_emb_of_mem _ _ (Finset.mem_univ x), hw]
  exact (congrFun (slot_read X d) x).symm

/-- The elements of slot d: those whose page is d. -/
theorem slot_set (d : Fin 32) : (slotM d).view.set = (Rect.unit (s := S32x32x1024) ![d.val, 0, 0] S1x32x1024.size (slot_inb d)).set := by
  show ((gM.view.slice _).reshape _ _).set = _
  rw [View.set_reshape, View.set_slice]
  exact Finset.map_refl

/-- Two slots share no element. -/
theorem slot_disjoint (d e : Fin 32) (h : d ≠ e) : Disjoint (slotM d).view.set (slotM e).view.set := by
  rw [slot_set, slot_set]
  exact Idealize.ShloMosaic.Ring.lead_disjoint (NB := 32) (s := S32x32x1024) 0 1 (fun b => ![b.val, 0, 0]) S1x32x1024.size slot_inb (fun b => (Nat.one_mul _).symm) rfl d e h

/-- The slots make up the buffer. -/
theorem slot_cover : (Finset.univ.biUnion fun d : Fin 32 => (slotM d).view.set) = (Finset.univ : Finset S32x32x1024.Idx) := by
  rw [Finset.biUnion_congr rfl fun d _ => slot_set d]
  exact Idealize.ShloMosaic.Ring.lead_cover (NB := 32) (s := S32x32x1024) 0 1 (fun b => ![b.val, 0, 0]) S1x32x1024.size slot_inb (fun b => (Nat.one_mul _).symm)
    (by decide) rfl (by decide) rfl

end Cert.KernelIdeal.Gather
-- ==== Proof.Cells.lean ====
/-
  The protocol: one barrier cell, thirty-one send cells and thirty-one receive cells per device; what each signal
  and each copy hands over; the levels; what a device owes.

  Barrier: device p signals five devices; signal d lets into p the copies of group d, handing over p's landing slot
  for each of them, at any contents, and the news that the receive cell of that copy has not been used.
  Receive cell j of p: paid by copy j of the device it comes from, handing over the landing slot at its final contents.
  Send cell j of p: paid by the same copy at its source, handing back the share of what it was sent from.
-/
module

public import proofs.«01_k».proof.Proof.Slots
public import Idealize.ShloMosaic.Lib.Pipeline.Regions
public import Idealize.ShloMosaic.Lib.Rounds
public import Idealize.ShloMosaic.Lib.Transfers

@[expose] public section

set_option maxRecDepth 16384

noncomputable section

namespace Cert.KernelIdeal.Gather

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.Ring
open Facts₀ Facts

variable {F : FTy → Type} [FloatOps F]

/-- The pipeline's rounds beside the protocol's, whose duties on a cell are numbered by five. -/
abbrev UU : Type := UR sig nD τ × URounds (GSem nD τ sig) (Fin 5)

local notation "𝕄" => MT nD τ sig Unit (Elt F) ℕ UU ℕ

/-- Where the pipeline's rounds live. -/
abbrev EP : Emb (UR sig nD τ) (MT nD τ sig Unit (Elt F) ℕ UU ℕ) := embL
/-- Where the protocol's rounds live. -/
abbrev ER : Emb (URounds (GSem nD τ sig) (Fin 5)) (MT nD τ sig Unit (Elt F) ℕ UU ℕ) := embR

/-! ## Cells -/

/-- The number of copy j's semaphore at its sender is one of the pool's. -/
theorem sendNo_lt (j : Fin 31) : sendNo j < 75 := by revert j; decide
/-- The number of copy j's semaphore at its receiver is one of the pool's. -/
theorem recvNo_lt (j : Fin 31) : recvNo j < 75 := by revert j; decide

/-- The barrier semaphore. -/
abbrev barS : Sem sig := 0
/-- Copy j's semaphore at its sender. -/
abbrev sendS (j : Fin 31) : DmaSem sig := ⟨sendNo j, sendNo_lt j⟩
/-- Copy j's semaphore at its receiver. -/
abbrev recvS (j : Fin 31) : DmaSem sig := ⟨recvNo j, recvNo_lt j⟩

/-- Device c's barrier cell. -/
abbrev barCell (c : Dev nD) : GSem nD τ sig := ((c : Thread nD τ), .reg barS)
/-- Device c's send cell of copy j. -/
abbrev sendCell (c : Dev nD) (j : Fin 31) : GSem nD τ sig := ((c : Thread nD τ), .dma (sendS j))
/-- Device c's receive cell of copy j. -/
abbrev recvCell (c : Dev nD) (j : Fin 31) : GSem nD τ sig := ((c : Thread nD τ), .dma (recvS j))

/-- The part a semaphore plays. -/
inductive Part
  | bar
  | snd (j : Fin 31)
  | rcv (j : Fin 31)
  | other
deriving DecidableEq

/-- The part of DMA semaphore number n. -/
def partNo (n : ℕ) : Part :=
  match (List.finRange 31).find? (fun j => sendNo j = n) with
  | some j => .snd j
  | none => match (List.finRange 31).find? (fun j => recvNo j = n) with
    | some j => .rcv j
    | none => .other
/-- The part of a semaphore. -/
def part : SemLoc sig → Part
  | .reg _ => .bar
  | .dma s => partNo s.val

/-- A send semaphore plays the part of its copy's sending, and of no other copy's. -/
theorem part_send (j : Fin 31) : part (.dma (sendS j)) = .snd j := by revert j; decide +kernel
/-- A receive semaphore plays the part of its copy's arrival, and of no other copy's. -/
theorem part_recv (j : Fin 31) : part (.dma (recvS j)) = .rcv j := by revert j; decide +kernel
/-- The barrier semaphore plays the part of the barrier. -/
theorem part_bar : part (.reg barS) = .bar := rfl

/-- The units one copy of a block counts. -/
abbrev N : ℕ := (xM : Memref sig .tc .vmem S32x1024 .f32).view.dmaCredit
/-- A copy counts at least one unit. -/
theorem N_pos : 0 < N := View.dmaCredit_pos _ (by decide)

/-! ## What is held of the buffers -/

/-- Device c's slot d, at contents f. -/
abbrev slotP (c : Dev nD) (d : Fin 32) (q : PosShare TreeShare) (f : (cc0_scratch0 : Ref sig .tc).ty.Contents (Elt F)) : sProp 𝕄 :=
  (slotM d).view.loc (c : Thread nD τ) ↦[(slotM d).view.set]{q} f
/-- Device c's staged block of x. -/
abbrev xP (c : Dev nD) (q : PosShare TreeShare) (f : (cc0_stg0_0 : Ref sig .tc).ty.Contents (Elt F)) : sProp 𝕄 :=
  (xM : Memref sig .tc .vmem S32x1024 .f32).view.loc (c : Thread nD τ) ↦[(xM : Memref sig .tc .vmem S32x1024 .f32).view.set]{q} f

/-- The share of a source at place p of six. -/
abbrev sixth (p : Fin 6) : PosShare TreeShare := Transfers.dealOf fullShare (Finset.univ : Finset (Fin 6)) p

/-- A source and a place in it: a device's own block (none), or the landing slot of copy i, dealt in six shares. -/
abbrev Source : Type := Option (Fin 31) × Fin 6

/-- What copy j is sent from: the block's place j for the first five; afterwards a landing slot's first or second place. -/
def from' (j : Fin 31) : Source :=
  match src j with
  | none => (none, Fin.ofNat 6 j)
  | some (i, b) => (some i, ⟨b.val, by omega⟩)

variable (X : Blocks F)

/-- A share of a source, at the contents it has when it is sent from. -/
def srcP (c : Dev nD) : Source → sProp 𝕄
  | (none, p) => xP c (sixth p) (X c)
  | (some i, p) => slotP c (inn c i) (sixth p) (gath X)

/-! ## Payloads -/

/-- Device c's right to send copy j: the slot it lands in, and that its receive cell is unused. -/
def grant (c : Dev nD) (j : Fin 31) : sProp 𝕄 :=
  iprop((∃ f, slotP (F := F) (tgt c j) (org c j) fullShare f) ∗ reached ER (recvCell (tgt c j) j) 0)
/-- The copies of group d. -/
abbrev group (d : Fin 5) : Finset (Fin 31) := Finset.univ.filter fun j => grp j = d
/-- Paid to device c's barrier cell by signal d: the rights to send the copies of group d. -/
def barPay (c : Dev nD) (d : Fin 5) : sProp 𝕄 := bigSep (group d) fun j => grant (F := F) c j
/-- Paid to device c's receive cell j. -/
def recvPay (c : Dev nD) (j : Fin 31) : sProp 𝕄 := slotP c (inn c j) fullShare (gath X)
/-- Paid to device c's send cell j. -/
def sendPay (c : Dev nD) (j : Fin 31) : sProp 𝕄 := srcP X c (from' j)

/-- The payload by part. -/
def payOf (c : Dev nD) (d : Fin 5) : Part → sProp 𝕄
  | .bar => barPay c d
  | .snd j => sendPay X c j
  | .rcv j => recvPay X c j
  | .other => iprop(emp)
/-- The duties by part. -/
def dutiesOf : Part → Finset (Fin 5)
  | .bar => Finset.univ
  | .snd _ => {0}
  | .rcv _ => {0}
  | .other => ∅
/-- The units of a duty by part. -/
def amountOf' : Part → ℕ
  | .bar => 1
  | _ => N

/-- One round on every cell of the protocol. -/
def rd : Rounds.Schedule (GSem nD τ sig) (Fin 5) 𝕄 where
  duties g r := if r = 0 ∧ g.1.2 = .tc then dutiesOf (part g.2) else ∅
  unitless _ := False
  amount g _ _ := amountOf' (part g.2)
  payload g _ d := payOf X g.1.1 d (part g.2)
  amount_pos g _ _ _ := by
    cases h : part g.2 <;> simp only [amountOf'] <;> first | exact Nat.one_pos | exact N_pos

/-- A conjunction of what may be put into an invariant may be put into one. -/
instance bigSep_storable {I : Type} [DecidableEq I] (s : Finset I) (Φ : I → sProp 𝕄) [∀ i, BI.Storable (upEmb : UEmb _ 𝕄) (Φ i)] :
    BI.Storable (upEmb : UEmb _ 𝕄) (bigSep s Φ) := by infer_instance

/-- What a duty hands over may be put into an invariant. -/
instance rd_storable (g : GSem nD τ sig) (r : ℕ) (d : Fin 5) : BI.Storable (upEmb : UEmb _ 𝕄) ((rd X).payload g r d) := by
  show BI.Storable upEmb (payOf X g.1.1 d (part g.2))
  cases h : part g.2 with
  | bar => show BI.Storable upEmb (barPay (F := F) g.1.1 d); unfold barPay grant; infer_instance
  | snd j =>
    show BI.Storable upEmb (sendPay X g.1.1 j); unfold sendPay
    rcases hs : from' j with ⟨_ | i, p⟩ <;> unfold srcP <;> infer_instance
  | rcv j => show BI.Storable upEmb (recvPay X g.1.1 j); unfold recvPay; infer_instance
  | other => show BI.Storable upEmb (iprop(emp)); infer_instance

section Sched
variable (c : Dev nD) (j : Fin 31) (d : Fin 5)

/-- A barrier cell's round has five duties. -/
theorem duties_bar : (rd X).duties (barCell c) 0 = Finset.univ := by
  dsimp only [rd]; rw [if_pos ⟨rfl, rfl⟩]; rfl
/-- A send cell's round has one duty. -/
theorem duties_send : (rd X).duties (sendCell c j) 0 = {0} := by
  dsimp only [rd]; rw [if_pos ⟨rfl, rfl⟩, part_send]; rfl
/-- A receive cell's round has one duty. -/
theorem duties_recv : (rd X).duties (recvCell c j) 0 = {0} := by
  dsimp only [rd]; rw [if_pos ⟨rfl, rfl⟩, part_recv]; rfl
/-- No cell has a second round. -/
theorem duties_later (g : GSem nD τ sig) : ∀ r, 1 ≤ r → (rd X).duties g r = ∅ := fun r hr => by
  dsimp only [rd]; rw [if_neg (fun h => by omega)]
/-- A barrier duty is one unit. -/
theorem amount_bar : (rd X).amount (barCell c) 0 d = 1 := rfl
/-- A send cell's duty is a copy's units. -/
theorem amount_send : (rd X).amount (sendCell c j) 0 d = N := by dsimp only [rd]; rw [part_send]; rfl
/-- A receive cell's duty is a copy's units. -/
theorem amount_recv : (rd X).amount (recvCell c j) 0 d = N := by dsimp only [rd]; rw [part_recv]; rfl
/-- The barrier's round is five units in all. -/
theorem expect_bar : (rd X).expect (barCell c) 0 = 5 := by
  unfold Schedule.expect Schedule.amountOf; rw [duties_bar, Finset.sum_congr rfl fun d _ => amount_bar X c d]; rfl
/-- A send cell's round is a copy's units in all. -/
theorem expect_send : (rd X).expect (sendCell c j) 0 = N := by
  unfold Schedule.expect Schedule.amountOf; rw [duties_send, Finset.sum_singleton, amount_send]
/-- A receive cell's round is a copy's units in all. -/
theorem expect_recv : (rd X).expect (recvCell c j) 0 = N := by
  unfold Schedule.expect Schedule.amountOf; rw [duties_recv, Finset.sum_singleton, amount_recv]
/-- Barrier signal d hands over what it lets in. -/
theorem payload_bar : (rd X).payload (barCell c) 0 d = barPay c d := rfl
/-- A copy having left hands back its source. -/
theorem payload_send : (rd X).payload (sendCell c j) 0 d = sendPay X c j := by dsimp only [rd]; rw [part_send]; rfl
/-- A copy having arrived hands over its landing slot. -/
theorem payload_recv : (rd X).payload (recvCell c j) 0 d = recvPay X c j := by dsimp only [rd]; rw [part_recv]; rfl
/-- The whole of a send cell's round hands over the copy's source. -/
theorem rest_send : bigSep ((rd X).duties (sendCell c j) 0 \ ∅) (fun u => (rd X).payload (sendCell c j) 0 u) = sendPay X c j := by
  rw [Finset.sdiff_empty, duties_send, bigSep_singleton, payload_send]
/-- The whole of a receive cell's round hands over the landing slot. -/
theorem rest_recv : bigSep ((rd X).duties (recvCell c j) 0 \ ∅) (fun u => (rd X).payload (recvCell c j) 0 u) = recvPay X c j := by
  rw [Finset.sdiff_empty, duties_recv, bigSep_singleton, payload_recv]
/-- The barrier's five payloads are the rights to send all the copies. -/
theorem rest_bar : bigSep ((rd X).duties (barCell c) 0 \ ∅) (fun u => (rd X).payload (barCell c) 0 u) ⊢ bigSep Finset.univ fun j => grant (F := F) c j := by
  rw [Finset.sdiff_empty, duties_bar, bigSep_congr fun u _ => payload_bar X c u]
  unfold barPay
  rw [show (Finset.univ : Finset (Fin 31)) = Finset.univ.biUnion group from by ext j; simp]
  exact bigSep_biUnion Finset.univ group
end Sched

/-! ## Levels and dues -/

/-- The credit index of every TensorCore cell. -/
def L (g : GSem nD τ sig) : Finset Unit := if g.1.2 = .tc then {()} else ∅
/-- The level of a part: the barrier at 1, receive cell j at 2 + j, the rest at 0. -/
def lvOf : Part → ℕ
  | .bar => 1
  | .rcv j => 2 + j.val
  | _ => 0
/-- The level of a cell: that of its semaphore's part. -/
def lv (g : GSem nD τ sig) (_ : Unit) : ℕ := lvOf (part g.2)

/-- A cell that is not a TensorCore's has no credit. -/
theorem L_of_ne (g : GSem nD τ sig) (h : g.1.2 ≠ .tc) : L g = ∅ := if_neg h
/-- A TensorCore's cell has one kind of credit. -/
theorem L_tc (c : Dev nD) (sm : SemLoc sig) : L ((c : Thread nD τ), sm) = {()} := if_pos rfl

/-- What device c owes the receive cells once it has sent the first n copies. -/
def dues (c : Dev nD) (n : ℕ) : CellTallies nD τ sig Unit :=
  ∑ j ∈ Finset.univ.filter (fun j : Fin 31 => n ≤ j.val), tallyAt (recvCell (tgt c j) j) () N
/-- What it owes the barrier cells once it has made the first n signals. -/
def sigDues (c : Dev nD) (n : ℕ) : CellTallies nD τ sig Unit :=
  ∑ d ∈ Finset.univ.filter (fun d : Fin 5 => n ≤ d.val), tallyAt (barCell (sigTo c d)) () 1

/-- A sum over the indices from n on is its first term with the sum over the later ones. -/
theorem sum_from {A : Type} [AddCommMonoid A] {m : ℕ} (f : Fin m → A) (j : Fin m) :
    ∑ i ∈ Finset.univ.filter (fun i : Fin m => j.val ≤ i.val), f i = (∑ i ∈ Finset.univ.filter (fun i : Fin m => j.val + 1 ≤ i.val), f i) + f j := by
  rw [show Finset.univ.filter (fun i : Fin m => j.val ≤ i.val) = insert j (Finset.univ.filter (fun i : Fin m => j.val + 1 ≤ i.val)) from by
    ext i; simp only [Finset.mem_filter, Finset.mem_univ, true_and, Finset.mem_insert, Fin.ext_iff]; omega]
  rw [Finset.sum_insert (by simp), add_comm]

/-- Sending copy j pays for one copy of those owed. -/
theorem dues_step (c : Dev nD) (j : Fin 31) : dues c j.val = dues c (j.val + 1) + tallyAt (recvCell (tgt c j) j) () N := sum_from _ j
/-- Signal d pays for one signal of those owed. -/
theorem sigDues_step (c : Dev nD) (d : Fin 5) : sigDues c d.val = sigDues c (d.val + 1) + tallyAt (barCell (sigTo c d)) () 1 := sum_from _ d
/-- With every copy sent, no copy is owed. -/
theorem dues_end (c : Dev nD) (n : ℕ) (h : 31 ≤ n) : dues c n = 0 := by
  unfold dues; rw [Finset.filter_false_of_mem (fun j _ => by omega), Finset.sum_empty]
/-- With every signal made, none is owed. -/
theorem sigDues_end (c : Dev nD) : sigDues c 5 = 0 := by
  unfold sigDues; rw [Finset.filter_false_of_mem (fun j _ => by omega), Finset.sum_empty]

/-- A cell counted in a sum of single counts is one of them. -/
theorem sum_tally_pos {I : Type} [DecidableEq I] (s : Finset I) (cell : I → GSem nD τ sig) (k : ℕ) {g : GSem nD τ sig} {u : Unit}
    (h : 0 < (∑ i ∈ s, tallyAt (cell i) () k : CellTallies nD τ sig Unit) g u) : ∃ i ∈ s, g = cell i := by
  induction s using Finset.induction_on with
  | empty => exact absurd h (Nat.lt_irrefl 0)
  | insert i s hi ih =>
    rw [Finset.sum_insert hi] at h
    have h' : 0 < tallyAt (cell i) () k g u + (∑ i ∈ s, tallyAt (cell i) () k : CellTallies nD τ sig Unit) g u := h
    rw [tallyAt_apply] at h'
    by_cases hg : g = cell i
    · exact ⟨i, Finset.mem_insert_self _ _, hg⟩
    · rw [if_neg (fun e => hg e.1), Nat.zero_add] at h'
      obtain ⟨i', hi', e⟩ := ih h'
      exact ⟨i', Finset.mem_insert_of_mem hi', e⟩

/-- Device c, having sent its first n copies, may wait on its semaphore sm when that semaphore's level is below n's. -/
theorem mayWait_dues (c : Dev nD) (n : ℕ) (sm : SemLoc sig) (h : ∀ j : Fin 31, n ≤ j.val → lvOf (part sm) < 2 + j.val) :
    (levAts L lv : sProp 𝕄) ⊢ MayWait (c : Thread nD τ) sm () (dues c n) :=
  MayOwe.of_cut (L := L) (lev := lv) (lvOf (part sm)) (fun p hp => by rw [Finset.mem_singleton.mp hp, L_tc]; exact Finset.mem_singleton_self _)
    (fun g u hg => by
      obtain ⟨j, -, rfl⟩ := sum_tally_pos _ (fun j => recvCell (tgt c j) j) N hg
      rw [L_tc]; exact Finset.mem_singleton_self _)
    (fun p hp => by rw [Finset.mem_singleton.mp hp]; exact Nat.le_refl _)
    (fun g u hg => by
      obtain ⟨j, hj, rfl⟩ := sum_tally_pos _ (fun j => recvCell (tgt c j) j) N hg
      show lvOf (part sm) < lvOf (part (.dma (recvS j)))
      rw [part_recv]; exact h j (Finset.mem_filter.mp hj).2)

end Cert.KernelIdeal.Gather
-- ==== Proof.State.lean ====
/-
  What a device holds between two operations of the kernel, as one proposition in the number of operations done,
  and the steps by which a send, a wait for a copy to have left and a wait for a copy to arrive move it on.
-/
module

public import proofs.«01_k».proof.Proof.Cells

@[expose] public section

set_option maxRecDepth 16384

noncomputable section

namespace Cert.KernelIdeal.Gather

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.Ring
open Facts₀ Facts

variable {F : FTy → Type} [FloatOps F]

local notation "𝕄" => MT nD τ sig Unit (Elt F) ℕ UU ℕ

/-- The kernel calls nothing. -/
abbrev 𝒱₀ : Variants := Variants.none

/-- Program p run on device c to the postcondition Q. -/
abbrev run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## The invariants -/

/-- The cells of the protocol: a device's barrier cell (none), send cells (left) and receive cells (right). -/
abbrev CellName : Type := Dev nD × Option (Fin 31 ⊕ Fin 31)
/-- The cell of a name. -/
def cellAt : CellName → GSem nD τ sig
  | (c, none) => barCell c
  | (c, some (.inl j)) => sendCell c j
  | (c, some (.inr j)) => recvCell c j

variable (X : Blocks F) (K : GSem nD τ sig → ℕ)

/-- Every cell's invariant. -/
def invs : sProp 𝕄 := bigSep Finset.univ fun p : CellName => cellInv ER (rd X) (K (cellAt p)) (cellAt p)
/-- The invariants may be consulted again and again. -/
instance invs_persistent : BI.Persistent (invs X K) := by unfold invs; infer_instance
/-- The invariant of any one cell. -/
theorem inv_at (p : CellName) : invs X K ⊢ cellInv ER (rd X) (K (cellAt p)) (cellAt p) := bigSep_elim (Finset.mem_univ p)
/-- The invariant of a barrier cell. -/
theorem inv_bar (c : Dev nD) : invs X K ⊢ cellInv ER (rd X) (K (barCell c)) (barCell c) := inv_at X K (c, none)
/-- The invariant of a send cell. -/
theorem inv_send (c : Dev nD) (j : Fin 31) : invs X K ⊢ cellInv ER (rd X) (K (sendCell c j)) (sendCell c j) := inv_at X K (c, some (.inl j))
/-- The invariant of a receive cell. -/
theorem inv_recv (c : Dev nD) (j : Fin 31) : invs X K ⊢ cellInv ER (rd X) (K (recvCell c j)) (recvCell c j) := inv_at X K (c, some (.inr j))

/-! ## The state

Operations are counted by sends and by waits for sends: the thirty-one sends first, in order, then the waits. -/

/-- The operations done before copy j's send is waited for. -/
def waitAt (j : Fin 31) : ℕ :=
  if j.val < 3 then 31 + j else 34 + 2 * ((![0, 4, 7, 11] : Fin 4 → ℕ) (Fin.ofNat 4 (lane j)) + lane j / 4) + (j.val + 1) % 2

/-- After n operations copy j is: 0, not yet sent; 1, on its way; 2, known to have left. -/
def phase (n : ℕ) (j : Fin 31) : ℕ := if n ≤ j.val then 0 else if n ≤ waitAt j then 1 else 2

/-- What device c holds of copy j's sending, by phase. -/
def sendAt (c : Dev nD) (j : Fin 31) : ℕ → sProp 𝕄
  | 0 => iprop(dutyTok ER (sendCell c j) 0 0 ∗ reached ER (sendCell c j) 0 ∗ dutyTok ER (recvCell (tgt c j) j) 0 0 ∗ grant c j
      ∗ atPos ER (sendCell c j) 0 ∅ 0)
  | 1 => iprop(cred (tallyAt (sendCell c j) () N) ∗ atPos ER (sendCell c j) 0 ∅ 0)
  | _ => atPos ER (sendCell c j) 1 ∅ 0

/-- What device c holds of receive cell j, before and after the copy has arrived. -/
def recvAt (c : Dev nD) (j : Fin 31) : Bool → sProp 𝕄
  | false => iprop(cred (tallyAt (recvCell c j) () N) ∗ atPos ER (recvCell c j) 0 ∅ 0)
  | true => atPos ER (recvCell c j) 1 ∅ 0

/-- The copy sent from a source's place, if any. -/
def use (s : Source) : Option (Fin 31) := (List.finRange 31).find? fun j => from' j = s
/-- Whether a source's share at a place is lent to a copy on its way after n operations. -/
def lent (n : ℕ) (s : Source) : Bool :=
  match use s with
  | none => false
  | some j => phase n j = 1
/-- Whether a source is at hand once the first b copies have arrived. -/
def have' (b : ℕ) : Option (Fin 31) → Bool
  | none => true
  | some i => i.val < b

/-- The shares device c holds of its sources. -/
def srcs (c : Dev nD) (n b : ℕ) : sProp 𝕄 :=
  bigSep Finset.univ fun s : Source => if have' b s.1 && !lent n s then srcP X c s else iprop(emp)

/-- What device c holds after n operations, b copies having arrived. -/
def St (c : Dev nD) (n b : ℕ) : sProp 𝕄 :=
  iprop(levAts L lv ∗ invs X K ∗ (bigSep Finset.univ fun j => sendAt (F := F) c j (phase n j))
    ∗ (bigSep Finset.univ fun j => recvAt (F := F) c j (decide (j.val < b))) ∗ srcs X c n b ∗ ∃ W, owes (c : Thread nD τ) (dues c n) W)

/-! ## How the indices move -/

/-- Sending copy j changes the phase of no other copy. -/
theorem phase_send : ∀ j i : Fin 31, i ≠ j → phase (j.val + 1) i = phase j.val i := by decide +kernel
/-- Sending copy j sets it on its way. -/
theorem phase_at_send : ∀ j : Fin 31, phase j.val j = 0 ∧ phase (j.val + 1) j = 1 := by decide +kernel
/-- Waiting for copy j to have left changes the phase of no other copy. -/
theorem phase_wait : ∀ j i : Fin 31, i ≠ j → phase (waitAt j + 1) i = phase (waitAt j) i := by decide +kernel
/-- Waiting for copy j to have left ends its sending. -/
theorem phase_at_wait : ∀ j : Fin 31, phase (waitAt j) j = 1 ∧ phase (waitAt j + 1) j = 2 := by decide +kernel
/-- No copy's leaving is waited for before all are sent. -/
theorem waitAt_ge : ∀ j : Fin 31, 31 ≤ waitAt j := by decide +kernel
/-- The copy sent from a source's place is the one whose source that is. -/
theorem use_iff : ∀ (s : Source) (j : Fin 31), use s = some j ↔ from' j = s := by decide +kernel
/-- Copy j carries the block its source holds. -/
theorem from_slot : ∀ (j i : Fin 31) (p : Fin 6), from' j = (some i, p) → inOff i = srcOff j := by decide +kernel
/-- A copy sent from the device's own block carries that block. -/
theorem from_block : ∀ (j : Fin 31) (p : Fin 6), from' j = (none, p) → srcOff j = 0 := by decide +kernel

/-- Sending copy j lends no other copy's source. -/
theorem lent_send (j : Fin 31) (s : Source) (h : s ≠ from' j) : lent (j.val + 1) s = lent j.val s := by
  unfold lent
  cases e : use s with
  | none => rfl
  | some i =>
    have hi : i ≠ j := fun hij => h (hij ▸ ((use_iff s i).mp e).symm)
    show decide _ = decide _
    rw [phase_send j i hi]
/-- Waiting for copy j to have left gives back no other copy's source. -/
theorem lent_wait (j : Fin 31) (s : Source) (h : s ≠ from' j) : lent (waitAt j + 1) s = lent (waitAt j) s := by
  unfold lent
  cases e : use s with
  | none => rfl
  | some i =>
    have hi : i ≠ j := fun hij => h (hij ▸ ((use_iff s i).mp e).symm)
    show decide _ = decide _
    rw [phase_wait j i hi]
/-- Copy j's source is lent just while copy j is on its way. -/
theorem lent_from (n : ℕ) (j : Fin 31) : lent n (from' j) = decide (phase n j = 1) := by
  unfold lent; rw [(use_iff (from' j) j).mpr rfl]

/-- The source of copy j is taken from the shares at hand; without it they are the shares at hand once j is sent. -/
theorem srcs_take (c : Dev nD) (j : Fin 31) (b : ℕ) (hb : have' b (from' j).1 = true) :
    srcs X c j.val b ⊢ iprop(srcP X c (from' j) ∗ srcs X c (j.val + 1) b) := by
  unfold srcs
  refine (bigSep_univ_update (Ψ := fun s => if have' b s.1 && !lent (j.val + 1) s then srcP X c s else iprop(emp)) (from' j)
    (fun s hs => by rw [lent_send j s hs])).trans ?_
  rw [lent_from, lent_from, (phase_at_send j).1, (phase_at_send j).2, hb, if_pos (by decide), if_neg (by decide)]
  iintro ⟨H, Hk⟩
  isplitl [H]; · iexact H
  iapply Hk; iempintro
/-- Once copy j is known to have left, its source is back among the shares at hand. -/
theorem srcs_put (c : Dev nD) (j : Fin 31) (b : ℕ) (hb : have' b (from' j).1 = true) :
    iprop(srcP X c (from' j) ∗ srcs X c (waitAt j) b) ⊢ srcs X c (waitAt j + 1) b := by
  unfold srcs
  iintro ⟨H, Hs⟩
  ihave Hs := (bigSep_univ_update (Ψ := fun s => if have' b s.1 && !lent (waitAt j + 1) s then srcP X c s else iprop(emp)) (from' j)
    (fun s hs => by rw [lent_wait j s hs])) $$ Hs
  rw [lent_from (waitAt j + 1), (phase_at_wait j).2, hb, if_pos (c := (true && !decide ((2 : ℕ) = 1)) = true) (by decide)]
  icases Hs with ⟨-, Hk⟩
  iapply Hk; iexact H
/-- A landing slot that has filled is at hand, in its six shares. -/
theorem srcs_recv (c : Dev nD) (n : ℕ) (i : Fin 31) (h : ∀ p, lent n (some i, p) = false) :
    iprop(recvPay X c i ∗ srcs X c n i.val) ⊢ srcs X c n (i.val + 1) := by
  unfold srcs
  rw [bigSep_univ_prod, bigSep_univ_prod]
  iintro ⟨H, Hs⟩
  ihave Hs := (bigSep_univ_update (Ψ := fun o => bigSep Finset.univ fun p : Fin 6 => if have' (i.val + 1) o && !lent n (o, p) then srcP X c (o, p) else iprop(emp)) (some i)
    (fun o ho => by
      have e : have' (i.val + 1) o = have' i.val o := by
        cases o with
        | none => rfl
        | some i' =>
          have : i'.val ≠ i.val := fun e => ho (congrArg some (Fin.ext e))
          show decide _ = decide _
          exact decide_eq_decide.mpr (by omega)
      simp only [e])) $$ Hs
  icases Hs with ⟨-, Hk⟩
  iapply Hk
  have e : have' (i.val + 1) (some i) = true := by simp [have']
  simp only [e, h, Bool.not_false, Bool.and_self, if_true]
  unfold recvPay
  iapply (Entails.of_eq (Transfers.pointsTo_deal (Finset.univ : Finset (Fin 6)) Finset.univ_nonempty fullShare)) $$ H

/-! ## The steps -/

/-- A step carried through what is held beside it. -/
theorem step_frame {A A' P P' T R : sProp 𝕄} (h : A ⊢ iprop((A' -∗ P') -∗ P)) (hk : iprop(T ∗ A' ∗ R) ⊢ P') : iprop(T ∗ A ∗ R) ⊢ P := by
  iintro ⟨HT, HA, HR⟩
  iapply h $$ HA
  iintro HA
  iapply hk
  isplitl [HT]; · iexact HT
  isplitl [HA]; · iexact HA
  iexact HR

/-- What is held of copy j before it is sent: its two duties, the right to send it, its send cell unused. -/
theorem sendAt_before (c : Dev nD) (j : Fin 31) : sendAt (F := F) c j 0 = iprop(dutyTok ER (sendCell c j) 0 0 ∗ reached ER (sendCell c j) 0
    ∗ dutyTok ER (recvCell (tgt c j) j) 0 0 ∗ ((∃ f, slotP (tgt c j) (org c j) fullShare f) ∗ reached ER (recvCell (tgt c j) j) 0)
    ∗ atPos ER (sendCell c j) 0 ∅ 0) := rfl
/-- What is held of copy j on its way: credit for its leaving. -/
theorem sendAt_under (c : Dev nD) (j : Fin 31) : sendAt (F := F) c j 1 = iprop(cred (tallyAt (sendCell c j) () N) ∗ atPos ER (sendCell c j) 0 ∅ 0) := rfl
/-- What is held of copy j once it has left: its send cell, used. -/
theorem sendAt_done (c : Dev nD) (j : Fin 31) : sendAt (F := F) c j 2 = iprop(atPos ER (sendCell c j) 1 ∅ 0) := rfl

/-- Sending copy j, given what it is sent from. -/
theorem send_core (c : Dev nD) (j : Fin 31) (b : ℕ) {sp : Space} {src : Memref sig .tc sp S32x1024 .f32} {q : PosShare TreeShare}
    {fs : Buf (Elt F) (src.view.loc (c : Thread nD τ))} (hsrcP : srcP X c (from' j) = (src.view.loc (c : Thread nD τ) ↦[src.view.set]{q} fs))
    (hread : src.view.read (Elt F) fs = X (org c j)) (hb : have' b (from' j).1 = true)
    {hsc} {hsrc : src.view.WordExact} {hdst : (slotM (org c j)).view.WordExact}
    {hsem : DmaTarget.Typed sp (.dma (recvS j)) (.remote (tgt c j : Thread nD τ) (slotM (org c j)) (.dma (sendS j)) hsc)}
    {α : Type} {k : PUnit → Prog (TpuEff nD τ sig (Elt F) Λ₀ .tc) α} {Q : α → sProp 𝕄} :
    St X K c j.val b ⊢ iprop((St X K c (j.val + 1) b -∗ run c (k ⟨⟩) Q)
      -∗ run c (.op (.enqueueDma src (.remote (tgt c j : Thread nD τ) (slotM (org c j)) (.dma (sendS j)) hsc) (.dma (recvS j)) hsrc hdst hsem) k) Q) := by
  have key := fun (W : Waits sig Unit) (fd : Buf (Elt F) ((slotM (org c j)).view.loc (tgt c j : Thread nD τ))) =>
    Rounds.wp_send_pointsTo (defs := defs₀ (F := F)) 𝒱₀ ER (rd X) (c : Thread nD τ) none (c' := (tgt c j : Thread nD τ)) (src := src) (dst := slotM (org c j))
      (hsc := hsc) (hsrc := hsrc) (hdst := hdst) (hsem := hsem) (k := k) (Q := Q)
      (sS := .dma (sendS j)) (sem := .dma (recvS j)) (q := q) (fs := fs) (κ₁ := K (sendCell c j)) (κ₂ := K (recvCell (tgt c j) j))
      (r₁ := 0) (r₂ := 0) (d₁ := 0) (d₂ := 0) (fd := fd)
      (by rw [duties_send]; exact Finset.mem_singleton_self _) (by rw [duties_recv]; exact Finset.mem_singleton_self _)
      () () N rfl (amount_send X c j 0) (amount_recv X (tgt c j) j 0) (dues c (j.val + 1)) (dues_step c j) (W := W)
      (by rw [payload_send]; unfold sendPay; rw [hsrcP])
      (by rw [payload_recv]; unfold recvPay; rw [inn_tgt]
          exact Entails.of_eq (pointsTo_congr (slot_write X (org c j) fd _ hread))) (Es := Set.univ) (Γ := .empty)
  unfold St
  iintro ⟨#Hlev, #HI, Hs, Hr, Hsrc, ⟨%W, HO⟩⟩ Hk
  ihave Hs := (bigSep_univ_update (Ψ := fun i => sendAt (F := F) c i (phase (j.val + 1) i)) j (fun i hi => by rw [phase_send j i hi])) $$ Hs
  rw [(phase_at_send j).1, (phase_at_send j).2, sendAt_before, sendAt_under]
  icases Hs with ⟨Hj, Hs⟩
  ihave Hsrc := (srcs_take X c j b hb) $$ Hsrc
  icases Hsrc with ⟨Hx, Hsrc⟩
  ihave Hx := (Entails.of_eq hsrcP) $$ Hx
  icases Hj with ⟨Ht1, #Hr1, Ht2, ⟨⟨%fd, Hd⟩, #Hr2⟩, Hat⟩
  ihave #HI1 := (inv_send X K c j) $$ HI
  ihave #HI2 := (inv_recv X K (tgt c j) j) $$ HI
  iapply (key W fd) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitr; · iexact Hlev
  isplitr; · iexact HI
  isplitl [Hs Hc Hat]
  · iapply Hs
    isplitl [Hc]; · iexact Hc
    iexact Hat
  isplitl [Hr]; · iexact Hr
  isplitl [Hsrc]; · iexact Hsrc
  iexists W; iexact HO

/-- What is held of receive cell j before the arrival: credit for it, the cell unused. -/
theorem recvAt_before (c : Dev nD) (j : Fin 31) : recvAt (F := F) c j false = iprop(cred (tallyAt (recvCell c j) () N) ∗ atPos ER (recvCell c j) 0 ∅ 0) := rfl
/-- What is held of receive cell j after the arrival: the cell, used. -/
theorem recvAt_done (c : Dev nD) (j : Fin 31) : recvAt (F := F) c j true = iprop(atPos ER (recvCell c j) 1 ∅ 0) := rfl

/-- Waiting for copy j to have left. -/
theorem sendWait_core (c : Dev nD) (j : Fin 31) (hj : 31 ≤ waitAt j) (b : ℕ) (hb : have' b (from' j).1 = true)
    {sp sp' : Space} {s' : Shape} {e : EltTy} {src : Memref sig .tc sp s' e} {dst : Memref sig .tc sp' s' e} (hN : dst.view.dmaCredit = N) {h₁ h₂}
    {α : Type} {k : PUnit → Prog (TpuEff nD τ sig (Elt F) Λ₀ .tc) α} {Q : α → sProp 𝕄} :
    St X K c (waitAt j) b ⊢ iprop((St X K c (waitAt j + 1) b -∗ run c (k ⟨⟩) Q)
      -∗ run c (.op (.waitDma2 (sendS j) src dst h₁ h₂) k) Q) := by
  have key := fun (W : Waits sig Unit) => Rounds.wp_wait_rest_token (defs := defs₀ (F := F)) 𝒱₀ ER (rd X) (c : Thread nD τ) none (sm := .dma (sendS j))
    (κ := K (sendCell c j)) (k := k) (Q := Q)
    (wpE_waitDma2_eq (src := src) (dst := dst) (hsrc := h₁) (hdst := h₂) 𝒱₀ (c : Thread nD τ) none Set.univ) (Set.mem_univ _) () (O := dues c (waitAt j)) (W := W) (R := 0) (m := 0) (T := ∅)
    ((Nat.zero_add _).trans (hN.trans (expect_send X c j).symm))
  rw [dues_end c _ hj, hN] at key
  simp only [MayWait_zero] at key
  unfold St
  iintro ⟨#Hlev, #HI, Hs, Hr, Hsrc, ⟨%W, HO⟩⟩ Hk
  ihave Hs := (bigSep_univ_update (Ψ := fun i => sendAt (F := F) c i (phase (waitAt j + 1) i)) j (fun i hi => by rw [phase_wait j i hi])) $$ Hs
  rw [(phase_at_wait j).1, (phase_at_wait j).2, sendAt_under, sendAt_done, dues_end c _ hj, dues_end c (waitAt j + 1) (by omega)]
  icases Hs with ⟨⟨Hc, Hat⟩, Hs⟩
  ihave #HI1 := (inv_send X K c j) $$ HI
  iapply (key W) $$ [Hc HO Hat]
  · isplitr; · iexact HI1
    isplitl [Hc]; · iexact Hc
    isplitl [HO]; · iexact HO
    isplitr; · iempintro
    iexact Hat
  iintro ⟨HO, Hat, -, Hp⟩
  ihave Hp := ((Entails.of_eq (rest_send X c j)).trans (show sendPay X c j ⊢ srcP X c (from' j) from Entails.rfl)) $$ Hp
  iapply Hk
  isplitr; · iexact Hlev
  isplitr; · iexact HI
  isplitl [Hs Hat]
  · iapply Hs; iexact Hat
  isplitl [Hr]; · iexact Hr
  isplitl [Hsrc Hp]
  · iapply (srcs_put X c j b hb)
    isplitl [Hp]; · iexact Hp
    iexact Hsrc
  iexists _; iexact HO

/-- Waiting for copy i to arrive. -/
theorem recvWait_core (c : Dev nD) (n : ℕ) (i : Fin 31) (hn : i.val < n) (hl : ∀ p, lent n (some i, p) = false)
    {sp sp' : Space} {s' : Shape} {e : EltTy} {src : Memref sig .tc sp s' e} {dst : Memref sig .tc sp' s' e} (hN : dst.view.dmaCredit = N) {h₁ h₂}
    {α : Type} {k : PUnit → Prog (TpuEff nD τ sig (Elt F) Λ₀ .tc) α} {Q : α → sProp 𝕄} :
    St X K c n i.val ⊢ iprop((St X K c n (i.val + 1) -∗ run c (k ⟨⟩) Q)
      -∗ run c (.op (.waitDma2 (recvS i) src dst h₁ h₂) k) Q) := by
  have key := fun (W : Waits sig Unit) => Rounds.wp_wait_rest_token (defs := defs₀ (F := F)) 𝒱₀ ER (rd X) (c : Thread nD τ) none (sm := .dma (recvS i))
    (κ := K (recvCell c i)) (k := k) (Q := Q)
    (wpE_waitDma2_eq (src := src) (dst := dst) (hsrc := h₁) (hdst := h₂) 𝒱₀ (c : Thread nD τ) none Set.univ) (Set.mem_univ _) () (O := dues c n) (W := W) (R := 0) (m := 0) (T := ∅)
    ((Nat.zero_add _).trans (hN.trans (expect_recv X c i).symm))
  rw [hN] at key
  unfold St
  iintro ⟨#Hlev, #HI, Hs, Hr, Hsrc, ⟨%W, HO⟩⟩ Hk
  ihave Hr := (bigSep_univ_update (Ψ := fun j => recvAt (F := F) c j (decide (j.val < i.val + 1))) i (fun j hj => by
    have : j.val ≠ i.val := fun e => hj (Fin.ext e)
    rw [decide_eq_decide.mpr (show j.val < i.val + 1 ↔ j.val < i.val by omega)])) $$ Hr
  rw [decide_eq_false (lt_irrefl i.val), decide_eq_true (Nat.lt_succ_self i.val), recvAt_before, recvAt_done]
  icases Hr with ⟨⟨Hc, Hat⟩, Hr⟩
  ihave #HI1 := (inv_recv X K c i) $$ HI
  ihave Hmw := (mayWait_dues c n (.dma (recvS i)) (fun j hj => by rw [part_recv]; show 2 + i.val < 2 + j.val; omega)) $$ Hlev
  iapply (key W) $$ [Hc HO Hat Hmw]
  · isplitr; · iexact HI1
    isplitl [Hc]; · iexact Hc
    isplitl [HO]; · iexact HO
    isplitl [Hmw]; · iexact Hmw
    iexact Hat
  iintro ⟨HO, Hat, -, Hp⟩
  ihave Hp := (Entails.of_eq (rest_recv X c i)) $$ Hp
  iapply Hk
  isplitr; · iexact Hlev
  isplitr; · iexact HI
  isplitl [Hs]; · iexact Hs
  isplitl [Hr Hat]
  · iapply Hr; iexact Hat
  isplitl [Hsrc Hp]
  · iapply (srcs_recv X c n i hl)
    isplitl [Hp]; · iexact Hp
    iexact Hsrc
  iexists _; iexact HO

end Cert.KernelIdeal.Gather
-- ==== Proof.Steps.lean ====
/-
  The kernel's operations as steps of a device's state: table reads, assumptions, sends and waits, each stated for a
  program continued by any rest, so that a body is run by applying them in turn.
-/
module

public import proofs.«01_k».proof.Proof.State

@[expose] public section

set_option maxRecDepth 16384

noncomputable section

namespace Cert.KernelIdeal.Gather

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.Ring
open Facts₀ Facts

variable {F : FTy → Type} [FloatOps F]

local notation "𝕄" => MT nD τ sig Unit (Elt F) ℕ UU ℕ

/-! ## The tables -/

/-- The table of devices by place in the ring, and its entry at n. -/
def hamAt (n : ℕ) : BitVec 32 := BitVec.ofNat 32 (ham (Fin.ofNat 32 n)).val
/-- The table of places in the ring by device. -/
def idxAt (n : ℕ) : BitVec 32 := BitVec.ofNat 32 (idx (Fin.ofNat 32 n)).val

/-- The table of devices, as words. -/
def hamC : (cc0_stg2_0 : Ref sig .tc).ty.Contents (Elt F) := fun i => hamAt (i 0).val
/-- The table of positions, as words. -/
def idxC : (cc0_stg3_0 : Ref sig .tc).ty.Contents (Elt F) := fun i => idxAt (i 0).val

/-- The staged table of devices. -/
abbrev hM : Memref sig .tc .smem S32 .i32 := Memref.whole cc0_stg2_0
/-- The staged table of positions. -/
abbrev iM : Memref sig .tc .smem S32 .i32 := Memref.whole cc0_stg3_0

/-- The two tables, staged. -/
def Tab (c : Dev nD) : sProp 𝕄 :=
  iprop((hM.view.loc (c : Thread nD τ) ↦{fullShare} hamC (F := F)) ∗ (iM.view.loc (c : Thread nD τ) ↦{fullShare} idxC (F := F)))

variable {X : Blocks F} {K : GSem nD τ sig → ℕ} {c : Dev nD} {β : Type}

/-- A program's grouping is that of its binds. -/
theorem step_assoc {T : sProp 𝕄} {Q : β → sProp 𝕄} {α γ : Type} {p : Prog (TpuEff nD τ sig (Elt F) Λ₀ .tc) α} {f : α → Prog (TpuEff nD τ sig (Elt F) Λ₀ .tc) γ}
    {k : γ → Prog (TpuEff nD τ sig (Elt F) Λ₀ .tc) β} (h : T ⊢ run c (p >>= fun x => f x >>= k) Q) : T ⊢ run c ((p >>= f) >>= k) Q := by
  rw [show ((p >>= f) >>= k) = (p >>= fun x => f x >>= k) from Prog.bind_assoc _ _ _]; exact h

/-- A returned value is bound by the rest. -/
theorem step_pure {T : sProp 𝕄} {Q : β → sProp 𝕄} {α : Type} {x : α} {k : α → Prog (TpuEff nD τ sig (Elt F) Λ₀ .tc) β} (h : T ⊢ run c (k x) Q) :
    T ⊢ run c ((pure x : Prog (TpuEff nD τ sig (Elt F) Λ₀ .tc) α) >>= k) Q := h

/-- The device's own number. -/
theorem step_device {T : sProp 𝕄} {Q : β → sProp 𝕄} {k : Dev nD → Prog (TpuEff nD τ sig (Elt F) Λ₀ .tc) β} (h : T ⊢ run c (k c) Q) :
    T ⊢ run c (Prog.lift .deviceId >>= k) Q :=
  h.trans (Entails.of_eq (wp_deviceId (k := k) (Q := Q) 𝒱₀ (c : Thread nD τ) none Set.univ).symm)

/-- An assumption that holds. -/
theorem step_assume {T : sProp 𝕄} {Q : β → sProp 𝕄} {P : Prop} {d : Decidable P} {k : PLift P → Prog (TpuEff nD τ sig (Elt F) Λ₀ .tc) β} (hP : P)
    (h : T ⊢ run c (k ⟨hP⟩) Q) : T ⊢ run c (Prog.lift (TpuEff.assume P d) >>= k) Q :=
  h.trans (Entails.of_eq (wp_assume_of (k := k) (Q := Q) 𝒱₀ (c : Thread nD τ) none Set.univ hP).symm)

/-- The staged tables, spelled out. -/
theorem Tab_eq (c : Dev nD) : Tab (F := F) c
    = iprop((hM.view.loc (c : Thread nD τ) ↦{fullShare} hamC (F := F)) ∗ (iM.view.loc (c : Thread nD τ) ↦{fullShare} idxC (F := F))) := rfl

/-- A read of one entry of the table of devices. -/
theorem step_ham {R : sProp 𝕄} {Q : β → sProp 𝕄} {o : Fin 1 → ℕ} {ho : ∀ a, o a + S1.size a ≤ S32.size a} {h1} {hp : EltTy.i32.packing = EltTy.i32.packing}
    {k : Elt F .i32 → Prog (TpuEff nD τ sig (Elt F) Λ₀ .tc) β} (h : iprop(Tab c ∗ R) ⊢ run c (k (hamAt (o 0))) Q) :
    iprop(Tab c ∗ R) ⊢ run c (smemLoad hM (Rect.unit (s := S32) o S1.size ho) h1 hp >>= k) Q := by
  have e : ((hM.access (Rect.unit (s := S32) o S1.size ho)).read (Elt F) (hamC (F := F))) (Shape.Idx.first (h1.symm ▸ Nat.one_pos)) = hamAt (o 0) := by
    show hamAt _ = _
    congr 1
  have key := wp_smemLoadElt (defs := defs₀ (F := F)) 𝒱₀ (c : Thread nD τ) none Set.univ (Γ := .empty) (m := hM) (r := Rect.unit (s := S32) o S1.size ho)
    (x := Shape.Idx.first (h1.symm ▸ Nat.one_pos)) (hw := View.loads_smem_one hp h1) (k := k) (Q := Q) (q := fullShare) (f := hamC (F := F)) (S := Finset.univ) (Finset.subset_univ _)
  rw [e] at key
  rw [Tab_eq] at h ⊢
  iintro ⟨⟨Hh, Hi⟩, HR⟩
  iapply key $$ Hh
  iintro Hh
  iapply h
  isplitl [Hh Hi]
  · isplitl [Hh]; · iexact Hh
    iexact Hi
  iexact HR
/-- A read of one entry of the table of places. -/
theorem step_idx {R : sProp 𝕄} {Q : β → sProp 𝕄} {o : Fin 1 → ℕ} {ho : ∀ a, o a + S1.size a ≤ S32.size a} {h1} {hp : EltTy.i32.packing = EltTy.i32.packing}
    {k : Elt F .i32 → Prog (TpuEff nD τ sig (Elt F) Λ₀ .tc) β} (h : iprop(Tab c ∗ R) ⊢ run c (k (idxAt (o 0))) Q) :
    iprop(Tab c ∗ R) ⊢ run c (smemLoad iM (Rect.unit (s := S32) o S1.size ho) h1 hp >>= k) Q := by
  have e : ((iM.access (Rect.unit (s := S32) o S1.size ho)).read (Elt F) (idxC (F := F))) (Shape.Idx.first (h1.symm ▸ Nat.one_pos)) = idxAt (o 0) := by
    show idxAt _ = _
    congr 1
  have key := wp_smemLoadElt (defs := defs₀ (F := F)) 𝒱₀ (c : Thread nD τ) none Set.univ (Γ := .empty) (m := iM) (r := Rect.unit (s := S32) o S1.size ho)
    (x := Shape.Idx.first (h1.symm ▸ Nat.one_pos)) (hw := View.loads_smem_one hp h1) (k := k) (Q := Q) (q := fullShare) (f := idxC (F := F)) (S := Finset.univ) (Finset.subset_univ _)
  rw [e] at key
  rw [Tab_eq] at h ⊢
  iintro ⟨⟨Hh, Hi⟩, HR⟩
  iapply key $$ Hi
  iintro Hi
  iapply h
  isplitl [Hh Hi]
  · isplitl [Hh]; · iexact Hh
    iexact Hi
  iexact HR

/-! ## Sends and waits -/

/-- A page at slot d's offset is slot d. -/
theorem page_eq {o : Fin 3 → ℕ} {ho : ∀ a, o a + S1x32x1024.size a ≤ S32x32x1024.size a} {d : Fin 32} (h : o = ![d.val, 0, 0]) : page o ho = slotM d := by
  subst h; rfl

/-- A copy of any page counts a copy's units. -/
theorem page_credit {o : Fin 3 → ℕ} {ho : ∀ a, o a + S1x32x1024.size a ≤ S32x32x1024.size a} : (page o ho).view.dmaCredit = N := rfl

/-- A send of the device's own block. -/
theorem step_sendOwn {n b : ℕ} {R : sProp 𝕄} {Q : β → sProp 𝕄} {d : ℕ} {hd : d < nD} {o : Fin 3 → ℕ} {ho : ∀ a, o a + S1x32x1024.size a ≤ S32x32x1024.size a}
    {s1 s2 : DmaSem sig} {hsc} {hsrc : (xM : Memref sig .tc .vmem S32x1024 .f32).view.WordExact} {hdst : (page o ho).view.WordExact}
    {hsem : DmaTarget.Typed .vmem (.dma s2) (.remote (Dev.tc (⟨d, hd⟩ : Dev nD)) (page o ho) (.dma s1) hsc)}
    {k : PUnit → Prog (TpuEff nD τ sig (Elt F) Λ₀ .tc) β}
    (hn : n < 31) (hs1 : s1 = sendS ⟨n, hn⟩) (hs2 : s2 = recvS ⟨n, hn⟩) (hfrom : (from' ⟨n, hn⟩).1 = none)
    (hdev : d = (tgt c ⟨n, hn⟩).val) (hoff : o = ![(org c ⟨n, hn⟩).val, 0, 0])
    (h : iprop(Tab c ∗ St X K c (n + 1) b ∗ R) ⊢ run c (k ⟨⟩) Q) :
    iprop(Tab c ∗ St X K c n b ∗ R) ⊢ run c (Prog.lift (.enqueueDma xM (.remote (Dev.tc (⟨d, hd⟩ : Dev nD)) (page o ho) (.dma s1) hsc) (.dma s2) hsrc hdst hsem) >>= k) Q := by
  subst hs1 hs2 hdev hoff
  obtain ⟨p, hp⟩ : ∃ p, from' ⟨n, hn⟩ = (none, p) := ⟨_, Prod.ext hfrom rfl⟩
  refine step_frame (send_core X K c ⟨n, hn⟩ b (src := xM) (q := sixth p) (fs := X c) (by rw [hp]; rfl) ?_ (by rw [hfrom]; rfl)) h
  have : org c ⟨n, hn⟩ = c := by unfold org; rw [from_block _ p hp]; exact hop_zero c
  rw [this]; rfl

/-- A send of what has arrived in a slot. -/
theorem step_sendOn {n b : ℕ} {R : sProp 𝕄} {Q : β → sProp 𝕄} {d : ℕ} {hd : d < nD} {o o' : Fin 3 → ℕ} {ho : ∀ a, o a + S1x32x1024.size a ≤ S32x32x1024.size a}
    {ho' : ∀ a, o' a + S1x32x1024.size a ≤ S32x32x1024.size a}
    {s1 s2 : DmaSem sig} {hsc} {hsrc : (page o' ho').view.WordExact} {hdst : (page o ho).view.WordExact}
    {hsem : DmaTarget.Typed .vmem (.dma s2) (.remote (Dev.tc (⟨d, hd⟩ : Dev nD)) (page o ho) (.dma s1) hsc)}
    {k : PUnit → Prog (TpuEff nD τ sig (Elt F) Λ₀ .tc) β}
    (hn : n < 31) (hs1 : s1 = sendS ⟨n, hn⟩) (hs2 : s2 = recvS ⟨n, hn⟩) (hfrom : (from' ⟨n, hn⟩).1.isSome = true) (hb : have' b (from' ⟨n, hn⟩).1 = true)
    (hdev : d = (tgt c ⟨n, hn⟩).val) (hoff : o = ![(org c ⟨n, hn⟩).val, 0, 0]) (hoff' : o' = ![(org c ⟨n, hn⟩).val, 0, 0])
    (h : iprop(Tab c ∗ St X K c (n + 1) b ∗ R) ⊢ run c (k ⟨⟩) Q) :
    iprop(Tab c ∗ St X K c n b ∗ R) ⊢ run c (Prog.lift (.enqueueDma (page o' ho') (.remote (Dev.tc (⟨d, hd⟩ : Dev nD)) (page o ho) (.dma s1) hsc) (.dma s2) hsrc hdst hsem) >>= k) Q := by
  subst hs1 hs2 hdev hoff hoff'
  obtain ⟨i, hi⟩ := Option.isSome_iff_exists.mp hfrom
  obtain ⟨p, hp⟩ : ∃ p, from' ⟨n, hn⟩ = (some i, p) := ⟨_, Prod.ext hi rfl⟩
  have e : inn c i = org c ⟨n, hn⟩ := by unfold inn org; rw [from_slot _ i p hp]
  exact step_frame (send_core X K c ⟨n, hn⟩ b (src := slotM (org c ⟨n, hn⟩)) (q := sixth p) (fs := gath X) (by rw [hp, ← e]; rfl) (slot_read X _) hb) h

/-- A wait for a copy to arrive. -/
theorem step_recv {n b : ℕ} {R : sProp 𝕄} {Q : β → sProp 𝕄} {o : Fin 3 → ℕ} {ho : ∀ a, o a + S1x32x1024.size a ≤ S32x32x1024.size a} {s : DmaSem sig}
    {src : Memref sig .tc .vmem S32x1024 .f32} {h₁ h₂} {k : PUnit → Prog (TpuEff nD τ sig (Elt F) Λ₀ .tc) β}
    (hb : b < 31) (hs : s = recvS ⟨b, hb⟩) (hn : b < n) (hl : ∀ p, lent n (some ⟨b, hb⟩, p) = false)
    (h : iprop(Tab c ∗ St X K c n (b + 1) ∗ R) ⊢ run c (k ⟨⟩) Q) :
    iprop(Tab c ∗ St X K c n b ∗ R) ⊢ run c (Prog.lift (.waitDma2 s src (page o ho) h₁ h₂) >>= k) Q := by
  subst hs
  exact step_frame (recvWait_core X K c n ⟨b, hb⟩ hn hl (src := src) (dst := page o ho) (h₁ := h₁) (h₂ := h₂) page_credit) h

/-- The copy whose sending is waited for after n operations. -/
def waitee (n : ℕ) : Fin 31 := ((List.finRange 31).find? fun j => waitAt j = n).getD 0

/-- A wait for a copy to have left. -/
theorem step_sent {n b : ℕ} {R : sProp 𝕄} {Q : β → sProp 𝕄} {o : Fin 3 → ℕ} {ho : ∀ a, o a + S1x32x1024.size a ≤ S32x32x1024.size a} {s : DmaSem sig}
    {src : Memref sig .tc .vmem S32x1024 .f32} {h₁ h₂} {k : PUnit → Prog (TpuEff nD τ sig (Elt F) Λ₀ .tc) β}
    (hn : 31 ≤ n) (hw : waitAt (waitee n) = n) (hs : s = sendS (waitee n)) (hb : have' b (from' (waitee n)).1 = true)
    (h : iprop(Tab c ∗ St X K c (n + 1) b ∗ R) ⊢ run c (k ⟨⟩) Q) :
    iprop(Tab c ∗ St X K c n b ∗ R) ⊢ run c (Prog.lift (.waitDma2 s src (page o ho) h₁ h₂) >>= k) Q := by
  subst hs
  have key := sendWait_core X K c (waitee n) (hn.trans_eq hw.symm) b hb (F := F) (src := src) (dst := page o ho) (h₁ := h₁) (h₂ := h₂) page_credit (k := k) (Q := Q)
  rw [hw] at key
  exact step_frame key h

/-! ## The barrier -/

/-- What device c holds to make barrier signal e: the duty, and the slots the copies of that group land in. -/
def sigAt (c : Dev nD) (e : Fin 5) : sProp 𝕄 :=
  iprop((dutyTok ER (barCell (sigTo c e)) 0 e ∗ reached ER (barCell (sigTo c e)) 0)
    ∗ bigSep (group e) fun j => iprop((∃ f, slotP (F := F) c (inn c j) fullShare f) ∗ reached ER (recvCell c j) 0))

/-- The slots of a group, handed over, are the receiver's rights to send that group. -/
theorem sig_pay (c : Dev nD) (e : Fin 5) :
    (bigSep (group e) fun j => iprop((∃ f, slotP (F := F) c (inn c j) fullShare f) ∗ reached ER (recvCell c j) 0)) = barPay (F := F) (sigTo c e) e := by
  unfold barPay
  refine bigSep_congr fun j hj => ?_
  obtain rfl : grp j = e := (Finset.mem_filter.mp hj).2
  unfold grant
  rw [tgt_sigTo, org_sigTo]

variable (X K) in
/-- Before the barrier: the first d signals made. -/
def Bar (c : Dev nD) (d : ℕ) : sProp 𝕄 :=
  iprop(levAts L lv ∗ invs X K ∗ (bigSep Finset.univ fun e : Fin 5 => if d ≤ e.val then sigAt (F := F) c e else iprop(emp))
    ∗ ∃ W, owes (c : Thread nD τ) (sigDues c d + dues c 0) W)

/-- Making barrier signal d. -/
theorem signal_core (c : Dev nD) (d : Fin 5) {α : Type} {k : PUnit → Prog (TpuEff nD τ sig (Elt F) Λ₀ .tc) α} {Q : α → sProp 𝕄} :
    Bar X K c d.val ⊢ iprop((Bar X K c (d.val + 1) -∗ run c (k ⟨⟩) Q)
      -∗ run c (.op (.semSignal (sigTo c d : Thread nD τ) barS ((1 : ℕ) : ℤ)) k) Q) := by
  have key := fun (W : Waits sig Unit) => Rounds.wp_signal (defs := defs₀ (F := F)) 𝒱₀ ER (rd X) (c : Thread nD τ) none (Γ := .empty) (Es := Set.univ)
    (dst := (sigTo c d : Thread nD τ)) (sem := barS) (r := 0) (d := d) (k' := 1) (k := k) (Q := Q) (κ := K (barCell (sigTo c d)))
    (by rw [duties_bar]; exact Finset.mem_univ _) (amount_bar X _ d) () (sigDues c (d.val + 1) + dues c 0)
    (O₀ := sigDues c d.val + dues c 0) (by rw [sigDues_step, add_right_comm]) (W := W)
  unfold Bar
  iintro ⟨#Hlev, #HI, Hs, ⟨%W, HO⟩⟩ Hk
  ihave Hs := (bigSep_univ_update (Ψ := fun e : Fin 5 => if d.val + 1 ≤ e.val then sigAt (F := F) c e else iprop(emp)) d (fun e he => by
    have : e.val ≠ d.val := fun h => he (Fin.ext h)
    rw [if_congr (show d.val + 1 ≤ e.val ↔ d.val ≤ e.val by omega) rfl rfl])) $$ Hs
  rw [if_pos (le_refl d.val), if_neg (show ¬ d.val + 1 ≤ d.val by omega)]
  icases Hs with ⟨Hd, Hs⟩
  ihave Hd := (show sigAt (F := F) c d ⊢ iprop((dutyTok ER (barCell (sigTo c d)) 0 d ∗ reached ER (barCell (sigTo c d)) 0) ∗ (rd X).payload (barCell (sigTo c d)) 0 d) from by
    unfold sigAt; rw [sig_pay, payload_bar]) $$ Hd
  icases Hd with ⟨⟨Ht, Hr⟩, Hp⟩
  ihave #HI1 := (inv_bar X K (sigTo c d)) $$ HI
  iapply (key W) $$ [HO Ht Hr Hp]
  · isplitr; · iexact HI1
    isplitl [HO]; · iexact HO
    isplitl [Ht]; · iexact Ht
    isplitl [Hp]; · iexact Hp
    iexact Hr
  iintro HO
  iapply Hk
  isplitr; · iexact Hlev
  isplitr; · iexact HI
  isplitl [Hs]
  · iapply Hs; iempintro
  iexists W; iexact HO

/-- A barrier signal. -/
theorem step_signal {n d : ℕ} {R : sProp 𝕄} {Q : β → sProp 𝕄} {hd : d < nD} {s : Sem sig} {k : PUnit → Prog (TpuEff nD τ sig (Elt F) Λ₀ .tc) β}
    (hn : n < 5) (hs : s = barS) (hdev : d = (sigTo c ⟨n, hn⟩).val)
    (h : iprop(Tab c ∗ Bar X K c (n + 1) ∗ R) ⊢ run c (k ⟨⟩) Q) :
    iprop(Tab c ∗ Bar X K c n ∗ R) ⊢ run c (semSignalWord (⟨d, hd⟩ : Dev nD) s 1#32 >>= k) Q := by
  subst hs hdev
  exact step_frame (signal_core c ⟨n, hn⟩) h

/-- What device c holds for its copies but the rights the barrier brings. -/
def Own (X : Blocks F) (c : Dev nD) : sProp 𝕄 :=
  iprop((bigSep Finset.univ fun j : Fin 31 => iprop(dutyTok ER (sendCell c j) 0 0 ∗ reached ER (sendCell c j) 0
      ∗ dutyTok ER (recvCell (tgt c j) j) 0 0 ∗ atPos ER (sendCell c j) 0 ∅ 0))
    ∗ (bigSep Finset.univ fun j : Fin 31 => recvAt (F := F) c j false) ∗ srcs X c 0 0)

/-- With the rights the barrier brings a device is ready to send. -/
theorem ready (c : Dev nD) : (iprop((bigSep Finset.univ fun j : Fin 31 => iprop(dutyTok ER (sendCell c j) 0 0 ∗ reached ER (sendCell c j) 0
      ∗ dutyTok ER (recvCell (tgt c j) j) 0 0 ∗ atPos ER (sendCell c j) 0 ∅ 0)) ∗ bigSep Finset.univ fun j : Fin 31 => grant (F := F) c j) : sProp 𝕄)
    ⊢ bigSep Finset.univ fun j : Fin 31 => sendAt c j (phase 0 j) := by
  rw [← bigSep_sep']
  refine bigSep_mono fun j _ => ?_
  rw [show phase 0 j = 0 from if_pos (Nat.zero_le _)]
  show _ ⊢ iprop(_ ∗ _ ∗ _ ∗ grant c j ∗ _)
  iintro ⟨⟨H1, H2, H3, H4⟩, H5⟩
  isplitl [H1]; · iexact H1
  isplitl [H2]; · iexact H2
  isplitl [H3]; · iexact H3
  isplitl [H5]; · iexact H5
  iexact H4

/-- Waiting for the barrier's five signals, which bring the rights to send all the copies. -/
theorem barrier_core (c : Dev nD) {α : Type} {k : PUnit → Prog (TpuEff nD τ sig (Elt F) Λ₀ .tc) α} {Q : α → sProp 𝕄} :
    iprop(Bar X K c 5 ∗ Own X c ∗ cred (tallyAt (barCell c) () 5) ∗ atPos ER (barCell c) 0 ∅ 0)
      ⊢ iprop((St X K c 0 0 ∗ atPos ER (barCell c) 1 ∅ 0 -∗ run c (k ⟨⟩) Q)
      -∗ run c (.op (.semWait barS ((5 : ℕ) : ℤ)) k) Q) := by
  have key := fun (W : Waits sig Unit) => Rounds.wp_wait_rest_token (defs := defs₀ (F := F)) 𝒱₀ ER (rd X) (c : Thread nD τ) none (sm := .reg barS)
    (κ := K (barCell c)) (k := k) (Q := Q)
    (wpE_semWait_eq 𝒱₀ (c : Thread nD τ) none Set.univ) (Set.mem_univ _) () (O := dues c 0) (W := W) (R := 0) (m := 0) (T := ∅) (k' := 5)
    ((Nat.zero_add _).trans (expect_bar X c).symm)
  unfold Bar Own St
  iintro ⟨⟨#Hlev, #HI, -, ⟨%W, HO⟩⟩, ⟨Hs, Hr, Hsrc⟩, Hc, Hat⟩ Hk
  rw [sigDues_end, zero_add]
  ihave #HI1 := (inv_bar X K c) $$ HI
  ihave Hmw := (mayWait_dues c 0 (.reg barS) (fun j hj => by rw [part_bar]; show 1 < 2 + j.val; omega)) $$ Hlev
  iapply (key W) $$ [Hc HO Hat Hmw]
  · isplitr; · iexact HI1
    isplitl [Hc]; · iexact Hc
    isplitl [HO]; · iexact HO
    isplitl [Hmw]; · iexact Hmw
    iexact Hat
  iintro ⟨HO, Hat, -, Hp⟩
  ihave Hp := (rest_bar X c) $$ Hp
  iapply Hk
  isplitr [Hat]
  · isplitr; · iexact Hlev
    isplitr; · iexact HI
    isplitl [Hs Hp]
    · iapply (ready c)
      isplitl [Hs]; · iexact Hs
      iexact Hp
    isplitl [Hr]; · iexact Hr
    isplitl [Hsrc]; · iexact Hsrc
    iexists _; iexact HO
  iexact Hat

/-- The barrier wait. -/
theorem step_barrier {R : sProp 𝕄} {Q : β → sProp 𝕄} {s : Sem sig} {k : PUnit → Prog (TpuEff nD τ sig (Elt F) Λ₀ .tc) β} (hs : s = barS)
    (h : iprop(Tab c ∗ St X K c 0 0 ∗ atPos ER (barCell c) 1 ∅ 0 ∗ R) ⊢ run c (k ⟨⟩) Q) :
    iprop(Tab c ∗ Bar X K c 5 ∗ (Own X c ∗ cred (tallyAt (barCell c) () 5) ∗ atPos ER (barCell c) 0 ∅ 0) ∗ R) ⊢ run c (semWaitWord s 5#32 >>= k) Q := by
  subst hs
  have h' : iprop(Tab c ∗ (St X K c 0 0 ∗ atPos ER (barCell c) 1 ∅ 0) ∗ R) ⊢ run c (k ⟨⟩) Q := by
    iintro ⟨H1, ⟨H2, H3⟩, H4⟩
    iapply h
    isplitl [H1]; · iexact H1
    isplitl [H2]; · iexact H2
    isplitl [H3]; · iexact H3
    iexact H4
  have key := step_frame (barrier_core c) h'
  iintro ⟨H1, H2, H3, H4⟩
  iapply key
  isplitl [H1]; · iexact H1
  isplitl [H2 H3]
  · isplitl [H2]; · iexact H2
    iexact H3
  iexact H4

end Cert.KernelIdeal.Gather
-- ==== Proof.Own.lean ====
/-
  The body's other operations as steps: the device's block is read and stored in its own slot, the gathered buffer and
  the weights are read, and the product is stored. While copies are still leaving, the gathered buffer is read at one
  share of every slot; once all have left, everything is held whole again.
-/
module

public import proofs.«01_k».proof.Proof.Steps
public import proofs.«01_k».proof.Proof.Gen.KernelIdeal.Skeleton

@[expose] public section

set_option maxRecDepth 16384

noncomputable section

namespace Cert.KernelIdeal.Gather

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.Ring
open Facts₀ Facts
open Gen

variable {F : FTy → Type} [FloatOps F]

local notation "𝕄" => MT nD τ sig Unit (Elt F) ℕ UU ℕ

/-- The staged weights. -/
abbrev wM : Memref sig .tc .vmem S1024x32 .f32 := Memref.whole cc0_stg1_0
/-- The staged result. -/
abbrev oM : Memref sig .tc .vmem S1024x32 .f32 := Memref.whole cc0_stg4_0

/-- The elements of a whole buffer, read through the rectangle that covers it. -/
theorem emb_all {s : Shape} {o : Fin s.rank → ℕ} (h0 : ∀ a, o a = 0) (inb : ∀ a, o a + s.size a ≤ s.size a) (i : s.Idx) :
    (Rect.unit (s := s) o s.size inb).emb i = i := by
  funext a
  refine Fin.ext ?_
  rw [Rect.emb_apply]
  show o a + 1 * (i a).val = (i a).val
  rw [h0 a]; omega

/-- Reading a buffer through the rectangle that covers it gives its contents. -/
theorem read_all (b : Ref sig .tc) {o : Fin b.ty.shape.rank → ℕ} (h0 : ∀ a, o a = 0) (inb : ∀ a, o a + b.ty.shape.size a ≤ b.ty.shape.size a)
    (f : b.ty.Contents (Elt F)) : ((Memref.whole b).access (Rect.unit (s := b.ty.shape) o b.ty.shape.size inb)).read (Elt F) f = f := by
  funext i
  exact congrArg f (emb_all h0 inb i)

/-- Writing a buffer through the rectangle that covers it replaces its contents. -/
theorem write_all (b : Ref sig .tc) {o : Fin b.ty.shape.rank → ℕ} (h0 : ∀ a, o a = 0) (inb : ∀ a, o a + b.ty.shape.size a ≤ b.ty.shape.size a)
    (f w : b.ty.Contents (Elt F)) : ((Memref.whole b).access (Rect.unit (s := b.ty.shape) o b.ty.shape.size inb)).write (Elt F) f w Finset.univ = w := by
  funext i
  have e : ((Memref.whole b).access (Rect.unit (s := b.ty.shape) o b.ty.shape.size inb)).emb i = i := emb_all h0 inb i
  exact (congrArg _ e.symm).trans (View.write_emb_of_mem _ _ (Finset.mem_univ i))

/-- The offset of a whole array of two axes is zero. -/
theorem zero2 : ∀ a : Fin 2, (![0, 0] : Fin 2 → ℕ) a = 0 := by decide
/-- The offset of a whole array of three axes is zero. -/
theorem zero3 : ∀ a : Fin 3, (![0, 0, 0] : Fin 3 → ℕ) a = 0 := by decide

/-- Place five of a source is never lent. -/
theorem kept (o : Option (Fin 31)) : use (o, 5) = none := by revert o; decide +kernel
/-- So it is at hand however many operations are done. -/
theorem lent_kept (n : ℕ) (o : Option (Fin 31)) : lent n (o, 5) = false := by unfold lent; rw [kept]

variable {X : Blocks F} {K : GSem nD τ sig → ℕ} {c : Dev nD} {β : Type}

/-- A separating conjunction over an index that may be absent. -/
theorem over_option {α : Type} [Fintype α] [DecidableEq α] (Φ : Option α → sProp 𝕄) :
    bigSep Finset.univ Φ = iprop(Φ none ∗ bigSep Finset.univ fun a => Φ (some a)) := by
  have e : Finset.univ.erase (none : Option α) = Finset.univ.map Function.Embedding.some := by
    ext o; cases o <;> simp
  rw [bigSep_univ_split (none : Option α), e, bigSep_map]
  rfl

/-- A share of the device's block, taken from those at hand. -/
theorem srcs_block (n b : ℕ) : srcs X c n b ⊢ iprop(xP c (sixth 5) (X c) ∗ (xP c (sixth 5) (X c) -∗ srcs X c n b)) := by
  unfold srcs
  refine (bigSep_univ_update (Ψ := fun s => if have' b s.1 && !lent n s then srcP X c s else iprop(emp)) (none, 5) (fun _ _ => rfl)).trans ?_
  rw [lent_kept, if_pos (c := (have' b none && !false) = true) rfl]
  exact Entails.rfl

/-- A share of every landing slot, once all have filled. -/
theorem srcs_slots (n : ℕ) : srcs X c n 31 ⊢ iprop((bigSep Finset.univ fun i : Fin 31 => slotP c (inn c i) (sixth 5) (gath X))
    ∗ ((bigSep Finset.univ fun i : Fin 31 => slotP c (inn c i) (sixth 5) (gath X)) -∗ srcs X c n 31)) := by
  have e : srcs X c n 31 = iprop((bigSep Finset.univ fun o => srcP X c (o, 5))
      ∗ bigSep Finset.univ fun o => bigSep (Finset.univ.erase (5 : Fin 6)) fun p => if have' 31 o && !lent n (o, p) then srcP X c (o, p) else iprop(emp)) := by
    unfold srcs
    rw [bigSep_univ_prod, ← bigSep_sep']
    refine bigSep_congr fun o _ => ?_
    rw [bigSep_univ_split (5 : Fin 6), lent_kept, if_pos (c := (have' 31 o && !false) = true) (by
      cases o with
      | none => rfl
      | some i => show (decide (i.val < 31) && !false) = true; rw [decide_eq_true i.isLt]; rfl)]
    rfl
  have e' : (bigSep Finset.univ fun o : Option (Fin 31) => srcP X c (o, 5)) = iprop(srcP X c (none, 5) ∗ bigSep Finset.univ fun i : Fin 31 => slotP c (inn c i) (sixth 5) (gath X)) := by
    rw [over_option]; rfl
  rw [e, e']
  iintro ⟨⟨Hn, Hs⟩, Hr⟩
  isplitl [Hs]; · iexact Hs
  iintro Hs
  isplitr [Hr]
  · isplitl [Hn]; · iexact Hn
    iexact Hs
  iexact Hr

/-- The gathered buffer at a share is its slots at that share. -/
theorem slots_whole (q : PosShare TreeShare) (f : (cc0_scratch0 : Ref sig .tc).ty.Contents (Elt F)) :
    ((gM.view.loc (c : Thread nD τ) ↦{q} f) : sProp 𝕄) = iprop(slotP c c q f ∗ bigSep Finset.univ fun i : Fin 31 => slotP c (inn c i) q f) := by
  rw [show ((gM.view.loc (c : Thread nD τ) ↦{q} f) : sProp 𝕄) = bigSep Finset.univ fun d : Fin 32 => slotP c d q f from
    Idealize.ShloMosaic.Ring.pointsTo_blocks (ℓ := gM.view.loc (c : Thread nD τ)) (fun d : Fin 32 => (slotM d).view.set) slot_disjoint slot_cover f,
    bigSep_univ_equiv (slotE c), over_option, slotE_none]
  rfl

/-- A load of what the device's block holds. -/
theorem step_loadX {n b : ℕ} {A R : sProp 𝕄} {Q : β → sProp 𝕄} {inb} {hl} {k : (S32x1024.Idx → Elt F .f32) → Prog (TpuEff nD τ sig (Elt F) Λ₀ .tc) β}
    (h : iprop(Tab c ∗ St X K c n b ∗ A ∗ R) ⊢ run c (k (X c)) Q) :
    iprop(Tab c ∗ St X K c n b ∗ A ∗ R) ⊢ run c (Prog.lift (.load xM (Rect.unit (s := S32x1024) ![0, 0] S32x1024.size inb).toLoadRect hl) >>= k) Q := by
  have key := wp_load_rect (defs := defs₀ (F := F)) 𝒱₀ (c : Thread nD τ) none Set.univ (Γ := .empty) (m := xM) (r := Rect.unit (s := S32x1024) ![0, 0] S32x1024.size inb) (hl := hl)
    (k := k) (Q := Q) (q := sixth 5) (f := X c) (S := (xM : Memref sig .tc .vmem S32x1024 .f32).view.set)
    (by rw [show (xM : Memref sig .tc .vmem S32x1024 .f32).view.set = Finset.univ from View.set_whole _]; exact Finset.subset_univ _)
  rw [show ((xM.access (Rect.unit (s := S32x1024) ![0, 0] S32x1024.size inb)).read (Elt F) (X c)) = X c from read_all cc0_stg0_0 zero2 inb (X c)] at key
  unfold St at h ⊢
  iintro ⟨HT, ⟨H1, H2, H3, H4, H5, H6⟩, HA, HR⟩
  ihave H5 := (srcs_block n b) $$ H5
  icases H5 with ⟨Hx, Hk⟩
  iapply key $$ Hx
  iintro Hx
  iapply h
  isplitl [HT]; · iexact HT
  isplitr [HA HR]
  · isplitl [H1]; · iexact H1
    isplitl [H2]; · iexact H2
    isplitl [H3]; · iexact H3
    isplitl [H4]; · iexact H4
    isplitr [H6]
    · iapply Hk; iexact Hx
    iexact H6
  isplitl [HA]; · iexact HA
  iexact HR

/-- What a device holds of its buffers beside its copies: its own slot, the weights and the result. -/
def Mem (c : Dev nD) (s : (cc0_scratch0 : Ref sig .tc).ty.Contents (Elt F)) (w : (cc0_stg1_0 : Ref sig .tc).ty.Contents (Elt F))
    (o : (cc0_stg4_0 : Ref sig .tc).ty.Contents (Elt F)) : sProp 𝕄 :=
  iprop(slotP c c fullShare s ∗ (wM.view.loc (c : Thread nD τ) ↦{fullShare} w) ∗ (oM.view.loc (c : Thread nD τ) ↦{fullShare} o))
/-- The same, spelled out. -/
theorem Mem_eq (c : Dev nD) (s : (cc0_scratch0 : Ref sig .tc).ty.Contents (Elt F)) (w : (cc0_stg1_0 : Ref sig .tc).ty.Contents (Elt F))
    (o : (cc0_stg4_0 : Ref sig .tc).ty.Contents (Elt F)) : Mem c s w o
      = iprop(slotP c c fullShare s ∗ (wM.view.loc (c : Thread nD τ) ↦{fullShare} w) ∗ (oM.view.loc (c : Thread nD τ) ↦{fullShare} o)) := rfl

variable {n b : ℕ} {s : (cc0_scratch0 : Ref sig .tc).ty.Contents (Elt F)} {w : (cc0_stg1_0 : Ref sig .tc).ty.Contents (Elt F)}
  {v : (cc0_stg4_0 : Ref sig .tc).ty.Contents (Elt F)}

/-- The elements a store to the own slot touches. -/
theorem own_set (o : Fin 3 → ℕ) (inb : ∀ a, o a + S1x32x1024.size a ≤ S32x32x1024.size a) (d : Fin 32) (ho : o = ![d.val, 0, 0]) :
    (gM.access (Rect.unit (s := S32x32x1024) o S1x32x1024.size inb)).set = (slotM d).view.set := by
  subst ho
  rw [slot_set, View.set_slice]
  exact Finset.map_refl

/-- A load of the own slot, whatever it holds. -/
theorem step_loadSlot {A : sProp 𝕄} {Q : β → sProp 𝕄} {o : Fin 3 → ℕ} {inb : ∀ a, o a + S1x32x1024.size a ≤ S32x32x1024.size a} {hl}
    {k : (S1x32x1024.Idx → Elt F .f32) → Prog (TpuEff nD τ sig (Elt F) Λ₀ .tc) β} (ho : o = ![c.val, 0, 0])
    (h : ∀ x, iprop(Tab c ∗ St X K c n b ∗ A ∗ Mem c s w v) ⊢ run c (k x) Q) :
    iprop(Tab c ∗ St X K c n b ∗ A ∗ Mem c s w v)
      ⊢ run c (Prog.lift (.load gM (Rect.unit (s := S32x32x1024) o S1x32x1024.size inb).toLoadRect hl) >>= k) Q := by
  have key := wp_load_rect (defs := defs₀ (F := F)) 𝒱₀ (c : Thread nD τ) none Set.univ (Γ := .empty) (m := gM) (r := Rect.unit (s := S32x32x1024) o S1x32x1024.size inb) (hl := hl)
    (k := k) (Q := Q) (q := fullShare) (f := s) (S := (slotM c).view.set) (by rw [own_set o inb c ho])
  have h := h ((gM.access (Rect.unit (s := S32x32x1024) o S1x32x1024.size inb)).read (Elt F) s)
  rw [Mem_eq] at h ⊢
  iintro ⟨HT, HS, HA, Hs, HR⟩
  iapply key $$ Hs
  iintro Hs
  iapply h
  isplitl [HT]; · iexact HT
  isplitl [HS]; · iexact HS
  isplitl [HA]; · iexact HA
  isplitl [Hs]; · iexact Hs
  iexact HR

/-- The store of the device's block into its own slot. -/
theorem step_storeSlot {A : sProp 𝕄} {Q : β → sProp 𝕄} {o : Fin 3 → ℕ} {inb : ∀ a, o a + S1x32x1024.size a ≤ S32x32x1024.size a} {hx} {hm}
    {k : PUnit → Prog (TpuEff nD τ sig (Elt F) Λ₀ .tc) β} (ho : o = ![c.val, 0, 0])
    (h : iprop(Tab c ∗ St X K c n b ∗ A ∗ Mem c (gath X) w v) ⊢ run c (k ⟨⟩) Q) :
    iprop(Tab c ∗ St X K c n b ∗ A ∗ Mem c s w v)
      ⊢ run c (Prog.lift (.store gM (Rect.unit (s := S32x32x1024) o S1x32x1024.size inb) (k0_pay1 (X c)) Finset.univ hx hm) >>= k) Q := by
  have key := wp_store (defs := defs₀ (F := F)) 𝒱₀ (c : Thread nD τ) none Set.univ (Γ := .empty) (m := gM) (r := Rect.unit (s := S32x32x1024) o S1x32x1024.size inb) (w := k0_pay1 (X c))
    (Mk := Finset.univ) (hx := hx) (hm := hm) (k := k) (Q := Q) (f := s) (S := (slotM c).view.set) (by rw [View.setOn_univ, own_set o inb c ho])
  have e : ∀ i ∈ (slotM c).view.set, (gM.access (Rect.unit (s := S32x32x1024) o S1x32x1024.size inb)).write (Elt F) s (k0_pay1 (X c)) Finset.univ i = gath X i := by
    intro i hi
    rw [← own_set o inb c ho] at hi
    obtain ⟨x, -, rfl⟩ := Finset.mem_map.mp hi
    rw [View.write_emb_of_mem _ _ (Finset.mem_univ x)]
    obtain ⟨x0, x1, x2, rfl⟩ : ∃ (x0 : Fin 1) (x1 : Fin 32) (x2 : Fin 1024), x = ix3 x0 x1 x2 := ⟨x 0, x 1, x 2, eq_ix3 x⟩
    have e1 : (gM.access (Rect.unit (s := S32x32x1024) o S1x32x1024.size inb)).emb (ix3 x0 x1 x2) = (ix3 c x1 x2 : S32x32x1024.Idx) := by
      subst ho
      show (Rect.unit (s := S32x32x1024) _ S1x32x1024.size inb).emb _ = _
      refine Shape.idx3_ext ?_ ?_ ?_ <;> rw [Rect.emb_apply]
      · show c.val + 1 * x0.val = c.val; omega
      · show 0 + 1 * x1.val = x1.val; omega
      · show 0 + 1 * x2.val = x2.val; omega
    rw [e1]
    show shapeCast S1x32x1024 (shapeCast S32x1024 (X c) Gen.shapeCasts_S32x1024_S32x1024) Gen.shapeCasts_S32x1024_S1x32x1024 (ix3 x0 x1 x2) = X c (ix2 x1 x2)
    rw [shapeCast_self]
    refine (shapeCast_addUnit_apply ![32, 1024] (X c) Gen.shapeCasts_S32x1024_S1x32x1024 (ix3 x0 x1 x2)).trans ?_
    exact congrArg (X c) (eq_ix2 _)
  have ej : ((gM.view.loc (c : Thread nD τ) ↦[(slotM c).view.set]{fullShare} ((gM.access (Rect.unit (s := S32x32x1024) o S1x32x1024.size inb)).write (Elt F) s (k0_pay1 (X c)) Finset.univ)) : sProp 𝕄)
      ⊢ slotP c c fullShare (gath X) := Entails.of_eq (pointsTo_congr e)
  rw [Mem_eq] at h ⊢
  iintro ⟨HT, HS, HA, Hs, HR⟩
  iapply key $$ Hs
  iintro Hs
  ihave Hs := ej $$ Hs
  iapply h
  isplitl [HT]; · iexact HT
  isplitl [HS]; · iexact HS
  isplitl [HA]; · iexact HA
  isplitl [Hs]; · iexact Hs
  iexact HR

/-- The load of the whole gathered buffer, all copies having arrived. -/
theorem step_loadG {A : sProp 𝕄} {Q : β → sProp 𝕄} {inb} {hl}
    {k : (S32x32x1024.Idx → Elt F .f32) → Prog (TpuEff nD τ sig (Elt F) Λ₀ .tc) β} (hb : b = 31)
    (h : iprop(Tab c ∗ St X K c n b ∗ A ∗ Mem c (gath X) w v) ⊢ run c (k (gath X)) Q) :
    iprop(Tab c ∗ St X K c n b ∗ A ∗ Mem c (gath X) w v)
      ⊢ run c (Prog.lift (.load gM (Rect.unit (s := S32x32x1024) ![0, 0, 0] S32x32x1024.size inb).toLoadRect hl) >>= k) Q := by
  subst hb
  have key := wp_load_rect (defs := defs₀ (F := F)) 𝒱₀ (c : Thread nD τ) none Set.univ (Γ := .empty) (m := gM) (r := Rect.unit (s := S32x32x1024) ![0, 0, 0] S32x32x1024.size inb) (hl := hl)
    (k := k) (Q := Q) (q := sixth 5) (f := gath X) (S := Finset.univ) (Finset.subset_univ _)
  rw [show ((gM.access (Rect.unit (s := S32x32x1024) ![0, 0, 0] S32x32x1024.size inb)).read (Elt F) (gath X)) = gath X from read_all cc0_scratch0 zero3 inb (gath X)] at key
  have split : (slotP c c fullShare (gath X) : sProp 𝕄) = iprop(slotP c c (sixth 5) (gath X) ∗ bigSep (Finset.univ.erase (5 : Fin 6)) fun p => slotP c c (sixth p) (gath X)) := by
    refine (Transfers.pointsTo_deal (Finset.univ : Finset (Fin 6)) Finset.univ_nonempty fullShare).trans ?_
    rw [bigSep_univ_split (5 : Fin 6)]
    rfl
  rw [show ((gM.access (Rect.unit (s := S32x32x1024) ![0, 0, 0] S32x32x1024.size inb)).loc (c : Thread nD τ) ↦{sixth 5} gath X : sProp 𝕄) = _ from slots_whole (c := c) (sixth 5) (gath X)] at key
  rw [Mem_eq, split] at h ⊢
  unfold St at h ⊢
  iintro ⟨HT, ⟨H1, H2, H3, H4, H5, H6⟩, HA, ⟨Hs, Hs'⟩, HR⟩
  ihave H5 := (srcs_slots n) $$ H5
  icases H5 with ⟨Hx, Hk⟩
  iapply key $$ [Hs Hx]
  · isplitl [Hs]; · iexact Hs
    iexact Hx
  iintro ⟨Hs, Hx⟩
  iapply h
  isplitl [HT]; · iexact HT
  isplitr [HA HR Hs Hs']
  · isplitl [H1]; · iexact H1
    isplitl [H2]; · iexact H2
    isplitl [H3]; · iexact H3
    isplitl [H4]; · iexact H4
    isplitr [H6]
    · iapply Hk; iexact Hx
    iexact H6
  isplitl [HA]; · iexact HA
  isplitr [HR]
  · isplitl [Hs]; · iexact Hs
    iexact Hs'
  iexact HR

/-- The load of the weights. -/
theorem step_loadW {A S : sProp 𝕄} {Q : β → sProp 𝕄} {inb} {hl} {k : (S1024x32.Idx → Elt F .f32) → Prog (TpuEff nD τ sig (Elt F) Λ₀ .tc) β}
    (h : iprop(Tab c ∗ S ∗ A ∗ Mem c s w v) ⊢ run c (k w) Q) :
    iprop(Tab c ∗ S ∗ A ∗ Mem c s w v) ⊢ run c (Prog.lift (.load wM (Rect.unit (s := S1024x32) ![0, 0] S1024x32.size inb).toLoadRect hl) >>= k) Q := by
  have key := wp_load_rect (defs := defs₀ (F := F)) 𝒱₀ (c : Thread nD τ) none Set.univ (Γ := .empty) (m := wM) (r := Rect.unit (s := S1024x32) ![0, 0] S1024x32.size inb) (hl := hl)
    (k := k) (Q := Q) (q := fullShare) (f := w) (S := Finset.univ) (Finset.subset_univ _)
  rw [show ((wM.access (Rect.unit (s := S1024x32) ![0, 0] S1024x32.size inb)).read (Elt F) w) = w from read_all cc0_stg1_0 zero2 inb w] at key
  rw [Mem_eq] at h ⊢
  iintro ⟨HT, HS, HA, Hs, Hw, Ho⟩
  iapply key $$ Hw
  iintro Hw
  iapply h
  isplitl [HT]; · iexact HT
  isplitl [HS]; · iexact HS
  isplitl [HA]; · iexact HA
  isplitl [Hs]; · iexact Hs
  isplitl [Hw]; · iexact Hw
  iexact Ho

/-- A load of the result's buffer. -/
theorem step_loadO {A S : sProp 𝕄} {Q : β → sProp 𝕄} {inb} {hl} {k : (S1024x32.Idx → Elt F .f32) → Prog (TpuEff nD τ sig (Elt F) Λ₀ .tc) β}
    (h : iprop(Tab c ∗ S ∗ A ∗ Mem c s w v) ⊢ run c (k v) Q) :
    iprop(Tab c ∗ S ∗ A ∗ Mem c s w v) ⊢ run c (Prog.lift (.load oM (Rect.unit (s := S1024x32) ![0, 0] S1024x32.size inb).toLoadRect hl) >>= k) Q := by
  have key := wp_load_rect (defs := defs₀ (F := F)) 𝒱₀ (c : Thread nD τ) none Set.univ (Γ := .empty) (m := oM) (r := Rect.unit (s := S1024x32) ![0, 0] S1024x32.size inb) (hl := hl)
    (k := k) (Q := Q) (q := fullShare) (f := v) (S := Finset.univ) (Finset.subset_univ _)
  rw [show ((oM.access (Rect.unit (s := S1024x32) ![0, 0] S1024x32.size inb)).read (Elt F) v) = v from read_all cc0_stg4_0 zero2 inb v] at key
  rw [Mem_eq] at h ⊢
  iintro ⟨HT, HS, HA, Hs, Hw, Ho⟩
  iapply key $$ Ho
  iintro Ho
  iapply h
  isplitl [HT]; · iexact HT
  isplitl [HS]; · iexact HS
  isplitl [HA]; · iexact HA
  isplitl [Hs]; · iexact Hs
  isplitl [Hw]; · iexact Hw
  iexact Ho

/-- The store of the result. -/
theorem step_storeO {A S : sProp 𝕄} {Q : β → sProp 𝕄} {inb} {hx} {hm} {x : S1024x32.Idx → Elt F .f32} {k : PUnit → Prog (TpuEff nD τ sig (Elt F) Λ₀ .tc) β}
    (h : iprop(Tab c ∗ S ∗ A ∗ Mem c s w x) ⊢ run c (k ⟨⟩) Q) :
    iprop(Tab c ∗ S ∗ A ∗ Mem c s w v) ⊢ run c (Prog.lift (.store oM (Rect.unit (s := S1024x32) ![0, 0] S1024x32.size inb) x Finset.univ hx hm) >>= k) Q := by
  have key := wp_store (defs := defs₀ (F := F)) 𝒱₀ (c : Thread nD τ) none Set.univ (Γ := .empty) (m := oM) (r := Rect.unit (s := S1024x32) ![0, 0] S1024x32.size inb) (w := x)
    (Mk := Finset.univ) (hx := hx) (hm := hm) (k := k) (Q := Q) (f := v) (S := Finset.univ) (Finset.subset_univ _)
  rw [show ((oM.access (Rect.unit (s := S1024x32) ![0, 0] S1024x32.size inb)).write (Elt F) v x Finset.univ) = x from write_all cc0_stg4_0 zero2 inb v x] at key
  rw [Mem_eq] at h ⊢
  iintro ⟨HT, HS, HA, Hs, Hw, Ho⟩
  iapply key $$ Ho
  iintro Ho
  iapply h
  isplitl [HT]; · iexact HT
  isplitl [HS]; · iexact HS
  isplitl [HA]; · iexact HA
  isplitl [Hs]; · iexact Hs
  isplitl [Hw]; · iexact Hw
  iexact Ho

/-- The program's end. -/
theorem step_end {T : sProp 𝕄} {Q : β → sProp 𝕄} {x : β} (h : T ⊢ Q x) : T ⊢ run c (pure x : Prog (TpuEff nD τ sig (Elt F) Λ₀ .tc) β) Q :=
  h.trans fupd_intro

end Cert.KernelIdeal.Gather
-- ==== Proof.Body.lean ====
/-
  The body's run: every operation of the printed body is a step of the device's state, applied in the order printed.
-/
module

public import proofs.«01_k».proof.Proof.Own
public import proofs.«01_k».proof.Proof.Gen.KernelIdeal.Skeleton

@[expose] public section

set_option maxRecDepth 16384

noncomputable section

namespace Cert.KernelIdeal.Gather

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.Ring
open Facts₀ Facts
open Gen

variable {F : FTy → Type} [FloatOps F]

local notation "𝕄" => MT nD τ sig Unit (Elt F) ℕ UU ℕ

/-- What the body stores: the gathered blocks times the weights. -/
def outV (X : Blocks F) (w : (cc0_stg1_0 : Ref sig .tc).ty.Contents (Elt F)) : (cc0_stg4_0 : Ref sig .tc).ty.Contents (Elt F) :=
  k0_pay4 (k0_pay2 (gath X)) (k0_pay3 w)

set_option backward.isDefEq.respectTransparency false in
set_option backward.isDefEq.respectTransparency.types false in
set_option maxHeartbeats 40000000 in
/-- The body, run: the barrier, the copies sent and received, the product stored, the copies' leaving awaited. -/
theorem run_body (X : Blocks F) (K : GSem nD τ sig → ℕ) (c : Dev nD) (s : (cc0_scratch0 : Ref sig .tc).ty.Contents (Elt F))
    (w : (cc0_stg1_0 : Ref sig .tc).ty.Contents (Elt F)) (v : (cc0_stg4_0 : Ref sig .tc).ty.Contents (Elt F)) {Q : PUnit → sProp 𝕄}
    (hQ : iprop(Tab c ∗ St X K c 62 31 ∗ atPos ER (barCell c) 1 ∅ 0 ∗ Mem c (gath X) w (outV X w)) ⊢ Q ⟨⟩) :
    iprop(Tab c ∗ Bar X K c 0 ∗ (Own X c ∗ cred (tallyAt (barCell c) () 5) ∗ atPos ER (barCell c) 0 ∅ 0) ∗ Mem c s w v) ⊢
     run c (cc0_body (F := F) xM (Memref.isWhole_whole _) wM (Memref.isWhole_whole _) hM (Memref.isWhole_whole _) iM (Memref.isWhole_whole _)
     oM (Memref.isWhole_whole _) gM (Memref.isWhole_whole _) cc0_scratch1 cc0_scratch2 cc0_scratch3 cc0_scratch4 cc0_scratch5 cc0_scratch6) Q := by
  rw [cc0_body_eq_skeleton]; unfold cc0_body_skel
  rw [k0_part54_eq_skeleton]; unfold k0_part54_skel
  iterate 53 (
    first
    | (rw [k0_part1_eq_skeleton]; unfold k0_part1_skel)
    | (rw [k0_part2_eq_skeleton]; unfold k0_part2_skel)
    | (rw [k0_part3_eq_skeleton]; unfold k0_part3_skel)
    | (rw [k0_part4_eq_skeleton]; unfold k0_part4_skel)
    | (rw [k0_part5_eq_skeleton]; unfold k0_part5_skel)
    | (rw [k0_part6_eq_skeleton]; unfold k0_part6_skel)
    | (rw [k0_part7_eq_skeleton]; unfold k0_part7_skel)
    | (rw [k0_part8_eq_skeleton]; unfold k0_part8_skel)
    | (rw [k0_part9_eq_skeleton]; unfold k0_part9_skel)
    | (rw [k0_part10_eq_skeleton]; unfold k0_part10_skel)
    | (rw [k0_part11_eq_skeleton]; unfold k0_part11_skel)
    | (rw [k0_part12_eq_skeleton]; unfold k0_part12_skel)
    | (rw [k0_part13_eq_skeleton]; unfold k0_part13_skel)
    | (rw [k0_part14_eq_skeleton]; unfold k0_part14_skel)
    | (rw [k0_part15_eq_skeleton]; unfold k0_part15_skel)
    | (rw [k0_part16_eq_skeleton]; unfold k0_part16_skel)
    | (rw [k0_part17_eq_skeleton]; unfold k0_part17_skel)
    | (rw [k0_part18_eq_skeleton]; unfold k0_part18_skel)
    | (rw [k0_part19_eq_skeleton]; unfold k0_part19_skel)
    | (rw [k0_part20_eq_skeleton]; unfold k0_part20_skel)
    | (rw [k0_part21_eq_skeleton]; unfold k0_part21_skel)
    | (rw [k0_part22_eq_skeleton]; unfold k0_part22_skel)
    | (rw [k0_part23_eq_skeleton]; unfold k0_part23_skel)
    | (rw [k0_part24_eq_skeleton]; unfold k0_part24_skel)
    | (rw [k0_part25_eq_skeleton]; unfold k0_part25_skel)
    | (rw [k0_part26_eq_skeleton]; unfold k0_part26_skel)
    | (rw [k0_part27_eq_skeleton]; unfold k0_part27_skel)
    | (rw [k0_part28_eq_skeleton]; unfold k0_part28_skel)
    | (rw [k0_part29_eq_skeleton]; unfold k0_part29_skel)
    | (rw [k0_part30_eq_skeleton]; unfold k0_part30_skel)
    | (rw [k0_part31_eq_skeleton]; unfold k0_part31_skel)
    | (rw [k0_part32_eq_skeleton]; unfold k0_part32_skel)
    | (rw [k0_part33_eq_skeleton]; unfold k0_part33_skel)
    | (rw [k0_part34_eq_skeleton]; unfold k0_part34_skel)
    | (rw [k0_part35_eq_skeleton]; unfold k0_part35_skel)
    | (rw [k0_part36_eq_skeleton]; unfold k0_part36_skel)
    | (rw [k0_part37_eq_skeleton]; unfold k0_part37_skel)
    | (rw [k0_part38_eq_skeleton]; unfold k0_part38_skel)
    | (rw [k0_part39_eq_skeleton]; unfold k0_part39_skel)
    | (rw [k0_part40_eq_skeleton]; unfold k0_part40_skel)
    | (rw [k0_part41_eq_skeleton]; unfold k0_part41_skel)
    | (rw [k0_part42_eq_skeleton]; unfold k0_part42_skel)
    | (rw [k0_part43_eq_skeleton]; unfold k0_part43_skel)
    | (rw [k0_part44_eq_skeleton]; unfold k0_part44_skel)
    | (rw [k0_part45_eq_skeleton]; unfold k0_part45_skel)
    | (rw [k0_part46_eq_skeleton]; unfold k0_part46_skel)
    | (rw [k0_part47_eq_skeleton]; unfold k0_part47_skel)
    | (rw [k0_part48_eq_skeleton]; unfold k0_part48_skel)
    | (rw [k0_part49_eq_skeleton]; unfold k0_part49_skel)
    | (rw [k0_part50_eq_skeleton]; unfold k0_part50_skel)
    | (rw [k0_part51_eq_skeleton]; unfold k0_part51_skel)
    | (rw [k0_part52_eq_skeleton]; unfold k0_part52_skel)
    | (rw [k0_part53_eq_skeleton]; unfold k0_part53_skel)
    repeat first
      | with_reducible refine step_assoc ?_
      | with_reducible refine step_ham ?_
      | (with_reducible refine step_assume ?_ ?_
         · (clear hQ; revert c; decide +kernel))
      | (with_reducible refine step_recv ?_ ?_ ?_ ?_ ?_
         · decide
         · rfl
         · decide
         · decide +kernel)
      | (with_reducible refine step_sendOn ?_ ?_ ?_ ?_ ?_ ?_ ?_ ?_ ?_
         · decide
         · rfl
         · rfl
         · decide +kernel
         · decide +kernel
         · (clear hQ; revert c; decide +kernel)
         · (clear hQ; revert c; decide +kernel)
         · (clear hQ; revert c; decide +kernel))
      | (with_reducible refine step_sendOwn ?_ ?_ ?_ ?_ ?_ ?_ ?_
         · decide
         · rfl
         · rfl
         · decide +kernel
         · (clear hQ; revert c; decide +kernel)
         · (clear hQ; revert c; decide +kernel))
      | (with_reducible refine step_sent ?_ ?_ ?_ ?_ ?_
         · decide
         · decide +kernel
         · rfl
         · decide +kernel)
      | with_reducible refine step_device ?_
      | with_reducible refine step_idx ?_
      | (with_reducible refine step_signal ?_ ?_ ?_ ?_
         · decide
         · rfl
         · (clear hQ; revert c; decide +kernel))
      | (with_reducible refine step_barrier ?_ ?_
         · rfl)
      | with_reducible refine step_loadX ?_
      | (with_reducible refine step_loadSlot ?_ (fun _ => ?_)
         · (clear hQ; revert c; decide +kernel))
      | (with_reducible refine step_storeSlot ?_ ?_
         · (clear hQ; revert c; decide +kernel))
      | (with_reducible refine step_loadG ?_ ?_
         · rfl)
      | with_reducible refine step_loadW ?_
      | with_reducible refine step_loadO ?_
      | with_reducible refine step_storeO ?_
      | with_reducible refine step_pure ?_
      | with_reducible refine step_end ?_)
  exact hQ

end Cert.KernelIdeal.Gather
-- ==== Proof.End.lean ====
/-
  A device's holdings made ready before the kernel's first operation, and made whole again after its last: every
  semaphore opened and closed, the buffers cut into slots and shares and put together.
-/
module

public import proofs.«01_k».proof.Proof.Body

@[expose] public section

set_option maxRecDepth 16384

noncomputable section

namespace Cert.KernelIdeal.Gather

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.Ring
open Facts₀ Facts

variable {F : FTy → Type} [FloatOps F]

local notation "𝕄" => MT nD τ sig Unit (Elt F) ℕ UU ℕ

/-! ## The semaphores the kernel allocates -/

/-- The semaphores no copy uses. -/
def idleNo : Fin 8 → ℕ := ![24, 26, 40, 42, 56, 58, 72, 74]
/-- An idle semaphore's number is one of the pool's. -/
theorem idleNo_lt (k : Fin 8) : idleNo k < 75 := by revert k; decide
/-- An idle semaphore. -/
abbrev idleS (k : Fin 8) : DmaSem sig := ⟨idleNo k, idleNo_lt k⟩

/-- The kernel's own semaphores: one of each copy's sending, one of each copy's arrival, and the idle ones. -/
abbrev osem : Fin 31 ⊕ Fin 31 ⊕ Fin 8 → SemLoc sig
  | .inl j => .dma (sendS j)
  | .inr (.inl j) => .dma (recvS j)
  | .inr (.inr k) => .dma (idleS k)

/-- The idle semaphores, at zero. -/
def idles (c : Dev nD) : sProp 𝕄 := bigSep Finset.univ fun k : Fin 8 => semVal ((c : Thread nD τ), .dma (idleS k)) 0

/-- The kernel's own semaphores at zero: send cells, receive cells, idle ones. -/
theorem ownSems_eq (c : Dev nD) : (Pipeline.ownSems0 osem c : sProp 𝕄)
    = iprop((bigSep Finset.univ fun j : Fin 31 => semVal (sendCell c j) 0) ∗ (bigSep Finset.univ fun j : Fin 31 => semVal (recvCell c j) 0) ∗ idles c) := by
  unfold Pipeline.ownSems0 idles
  rw [bigSep_univ_sum, bigSep_univ_sum]
  rfl

variable (X : Blocks F) (K : GSem nD τ sig → ℕ) (c : Dev nD)

/-- A device's cells of one kind, opened. -/
theorem open_cells (cell : Fin 31 → GSem nD τ sig) (h : ∀ j, invs X K ⊢ cellInv ER (rd X) (K (cell j)) (cell j)) :
    iprop(invs X K ∗ (bigSep Finset.univ fun j => openTok ER (cell j)) ∗ bigSep Finset.univ fun j => semVal (cell j) 0)
      ⊢ (|={Set.univ}=> iprop((bigSep Finset.univ fun j => atPos ER (cell j) 0 ∅ 0) ∗ bigSep Finset.univ fun j => reached ER (cell j) 0) : sProp 𝕄) := by
  rw [← bigSep_sep', ← bigSep_sep']
  refine (bigSep_with_persistent (Ψ := fun j => iprop(|={Set.univ}=> (atPos ER (cell j) 0 ∅ 0 ∗ reached ER (cell j) 0))) fun j _ => ?_).trans (bigSep_fupd _ _)
  iintro ⟨#HI, Ho, Hv⟩
  iapply (Rounds.cell_open ER (rd X) (g := cell j) (Set.mem_univ (K (cell j))))
  isplitr; · iapply (h j); iexact HI
  isplitl [Ho] <;> iassumption

/-- A cell past its one round, closed. -/
theorem close_cell (g : GSem nD τ sig) (h : invs X K ⊢ cellInv ER (rd X) (K g) g) :
    iprop(invs X K ∗ atPos ER g 1 ∅ 0) ⊢ (|={Set.univ}=> semVal g 0 : sProp 𝕄) := by
  iintro ⟨#HI, Ha⟩
  iapply (Rounds.cell_close ER (rd X) (Set.mem_univ (K g)) (fun h => h) (duties_later X g))
  isplitr; · iapply h; iexact HI
  iexact Ha
/-- A device's cells of one kind, closed. -/
theorem close_cells (cell : Fin 31 → GSem nD τ sig) (h : ∀ j, invs X K ⊢ cellInv ER (rd X) (K (cell j)) (cell j)) :
    iprop(invs X K ∗ bigSep Finset.univ fun j => atPos ER (cell j) 1 ∅ 0) ⊢ (|={Set.univ}=> bigSep Finset.univ fun j => semVal (cell j) 0 : sProp 𝕄) :=
  (bigSep_with_persistent (Ψ := fun j => iprop(|={Set.univ}=> semVal (cell j) 0)) fun j _ => close_cell X K (cell j) (h j)).trans (bigSep_fupd _ _)

/-! ## Before the first operation -/

/-- What device c holds of the protocol from the launch, its own cells unopened. -/
def ghost : sProp 𝕄 :=
  iprop(invs X K ∗ atPos ER (barCell c) 0 ∅ 0 ∗ ((bigSep Finset.univ fun j : Fin 31 => openTok ER (sendCell c j)) ∗ bigSep Finset.univ fun j : Fin 31 => openTok ER (recvCell c j))
    ∗ (bigSep Finset.univ fun e : Fin 5 => iprop(dutyTok ER (barCell (sigTo c e)) 0 e ∗ reached ER (barCell (sigTo c e)) 0))
    ∗ (bigSep Finset.univ fun j : Fin 31 => dutyTok ER (sendCell c j) 0 0) ∗ bigSep Finset.univ fun j : Fin 31 => dutyTok ER (recvCell (tgt c j) j) 0 0)
/-- The credits device c waits with: its barrier's five, and a copy's for each arrival. -/
def purse : sProp 𝕄 := iprop(cred (tallyAt (barCell c) () 5) ∗ bigSep Finset.univ fun j : Fin 31 => cred (tallyAt (recvCell c j) () N))

/-- What it holds once they are open. -/
def opened : sProp 𝕄 :=
  iprop(levAts L lv ∗ invs X K ∗ atPos ER (barCell c) 0 ∅ 0
    ∗ ((bigSep Finset.univ fun j : Fin 31 => atPos ER (sendCell c j) 0 ∅ 0) ∗ bigSep Finset.univ fun j : Fin 31 => reached ER (sendCell c j) 0)
    ∗ ((bigSep Finset.univ fun j : Fin 31 => atPos ER (recvCell c j) 0 ∅ 0) ∗ bigSep Finset.univ fun j : Fin 31 => reached ER (recvCell c j) 0)
    ∗ (bigSep Finset.univ fun e : Fin 5 => iprop(dutyTok ER (barCell (sigTo c e)) 0 e ∗ reached ER (barCell (sigTo c e)) 0))
    ∗ ((bigSep Finset.univ fun j : Fin 31 => dutyTok ER (sendCell c j) 0 0) ∗ bigSep Finset.univ fun j : Fin 31 => dutyTok ER (recvCell (tgt c j) j) 0 0)
    ∗ purse c ∗ idles c)

/-- What the launch keeps for the kernel. -/
def Tk : sProp 𝕄 := iprop((∃ K, ghost X K c) ∗ purse c)
/-- What the kernel starts from: every cell's round opened. -/
def Xk : sProp 𝕄 := iprop(∃ K, opened X K c)

/-- The kernel's semaphores, as the call finds them at zero, are put under the protocol. -/
theorem opening : iprop(Tk X c ∗ Pipeline.ownSems0 osem c ∗ levAts L lv) ⊢ (|={Set.univ}=> Xk X c : sProp 𝕄) := by
  rw [ownSems_eq]
  unfold Tk Xk ghost opened
  iintro ⟨⟨⟨%K, #HI, Hat, ⟨Hos, Hor⟩, Hb, Hts, Htr⟩, Hp⟩, ⟨Hs, Hr, Hi⟩, #Hlev⟩
  imod (open_cells X K (fun j => sendCell c j) (inv_send X K c)) $$ [Hos Hs] with Hs
  · isplitr; · iexact HI
    isplitl [Hos] <;> iassumption
  imod (open_cells X K (fun j => recvCell c j) (inv_recv X K c)) $$ [Hor Hr] with Hr
  · isplitr; · iexact HI
    isplitl [Hor] <;> iassumption
  imodintro
  iexists K
  isplitr; · iexact Hlev
  isplitr; · iexact HI
  isplitl [Hat]; · iexact Hat
  isplitl [Hs]; · iexact Hs
  isplitl [Hr]; · iexact Hr
  isplitl [Hb]; · iexact Hb
  isplitl [Hts Htr]; · isplitl [Hts] <;> iassumption
  isplitl [Hp] <;> iassumption

/-- The block of x, whole, is all of its shares; no landing slot is at hand yet. -/
theorem srcs_start : xP c fullShare (X c) ⊢ srcs X c 0 0 := by
  have e : srcs X c 0 0 = bigSep Finset.univ fun p : Fin 6 => xP c (sixth p) (X c) := by
    unfold srcs
    rw [bigSep_univ_prod, over_option, bigSep_congr (Ψ := fun p : Fin 6 => xP c (sixth p) (X c)) fun p _ => ?_, bigSep_congr (Ψ := fun _ : Fin 31 => (iprop(emp) : sProp 𝕄)) fun i _ => ?_,
      show (bigSep Finset.univ fun _ : Fin 31 => (iprop(emp) : sProp 𝕄)) = iprop(emp) from bigSep_emp_const _]
    · exact BI.equiv_iff.mp sep_emp
    · refine (bigSep_congr fun p _ => if_neg (by simp [have'])).trans (bigSep_emp_const _)
    · refine if_pos ?_
      show (true && !lent 0 (none, p)) = true
      revert p; decide +kernel
  rw [e]
  exact Entails.of_eq (Transfers.pointsTo_deal (Finset.univ : Finset (Fin 6)) Finset.univ_nonempty fullShare)

/-- The slots the copies land in, by the signal that grants them. -/
theorem slots_grouped (Φ : Fin 31 → sProp 𝕄) : bigSep Finset.univ Φ = bigSep Finset.univ fun e : Fin 5 => bigSep (group e) Φ := by
  rw [bigSep_fiberwise Finset.univ grp Φ, show Finset.univ.image grp = (Finset.univ : Finset (Fin 5)) from by decide]

/-- Everything in place before the first signal. -/
theorem entry (s : (cc0_scratch0 : Ref sig .tc).ty.Contents (Elt F)) (W : Waits sig Unit) :
    iprop(opened X K c ∗ (gM.view.loc (c : Thread nD τ) ↦{fullShare} s) ∗ xP c fullShare (X c) ∗ owes (c : Thread nD τ) (sigDues c 0 + dues c 0) W)
      ⊢ iprop(Bar X K c 0 ∗ (Own X c ∗ cred (tallyAt (barCell c) () 5) ∗ atPos ER (barCell c) 0 ∅ 0) ∗ slotP c c fullShare s ∗ idles c) := by
  rw [slots_whole]
  have hsig : iprop((bigSep Finset.univ fun e : Fin 5 => iprop(dutyTok ER (barCell (sigTo c e)) 0 e ∗ reached ER (barCell (sigTo c e)) 0))
      ∗ (bigSep Finset.univ fun i : Fin 31 => slotP c (inn c i) fullShare s) ∗ bigSep Finset.univ fun j : Fin 31 => reached ER (recvCell c j) 0)
      ⊢ (bigSep Finset.univ fun e : Fin 5 => if 0 ≤ e.val then sigAt (F := F) c e else iprop(emp) : sProp 𝕄) := by
    rw [← bigSep_sep', slots_grouped, ← bigSep_sep']
    refine bigSep_mono fun e _ => ?_
    rw [if_pos (Nat.zero_le _)]
    unfold sigAt
    refine BI.sep_mono (BI.Entails.refl _) (bigSep_mono fun j _ => ?_)
    show (_ : sProp 𝕄) ⊢ (iprop(_ ∗ _) : sProp 𝕄)
    iintro ⟨H1, H2⟩
    isplitl [H1]; · iexists s; iexact H1
    iexact H2
  have hown : iprop(((bigSep Finset.univ fun j : Fin 31 => dutyTok ER (sendCell c j) 0 0) ∗ bigSep Finset.univ fun j : Fin 31 => dutyTok ER (recvCell (tgt c j) j) 0 0)
      ∗ ((bigSep Finset.univ fun j : Fin 31 => atPos ER (sendCell c j) 0 ∅ 0) ∗ bigSep Finset.univ fun j : Fin 31 => reached ER (sendCell c j) 0))
      ⊢ (bigSep Finset.univ fun j : Fin 31 => iprop(dutyTok ER (sendCell c j) 0 0 ∗ reached ER (sendCell c j) 0
      ∗ dutyTok ER (recvCell (tgt c j) j) 0 0 ∗ atPos ER (sendCell c j) 0 ∅ 0) : sProp 𝕄) := by
    rw [← bigSep_sep', ← bigSep_sep', ← bigSep_sep']
    refine bigSep_mono fun j _ => ?_
    show (_ : sProp 𝕄) ⊢ (iprop(_ ∗ _) : sProp 𝕄)
    iintro ⟨⟨H1, H2⟩, H3, H4⟩
    isplitl [H1]; · iexact H1
    isplitl [H4]; · iexact H4
    isplitl [H2]; · iexact H2
    iexact H3
  have hrecv : iprop((bigSep Finset.univ fun j : Fin 31 => cred (tallyAt (recvCell c j) () N)) ∗ bigSep Finset.univ fun j : Fin 31 => atPos ER (recvCell c j) 0 ∅ 0)
      ⊢ (bigSep Finset.univ fun j : Fin 31 => recvAt (F := F) c j false : sProp 𝕄) := by
    rw [← bigSep_sep']
    exact Entails.rfl
  unfold opened purse Bar Own
  iintro ⟨⟨#Hlev, #HI, Hat, Hs, ⟨Hra, Hrr⟩, Hb, Ht, ⟨Hcb, Hcr⟩, Hi⟩, ⟨Hme, Hg⟩, Hx, HO⟩
  isplitl [Hb Hg Hrr HO]
  · isplitr; · iexact Hlev
    isplitr; · iexact HI
    isplitl [Hb Hg Hrr]
    · iapply hsig
      isplitl [Hb]; · iexact Hb
      isplitl [Hg] <;> iassumption
    iexists W; iexact HO
  isplitr [Hme Hi]
  · isplitr [Hcb Hat]
    · isplitl [Ht Hs]
      · iapply hown
        isplitl [Ht] <;> iassumption
      isplitl [Hcr Hra]
      · iapply hrecv
        isplitl [Hcr] <;> iassumption
      iapply (srcs_start X c); iexact Hx
    isplitl [Hcb] <;> iassumption
  isplitl [Hme] <;> iassumption

/-! ## After the last -/

/-- With every copy known to have left, all the shares are at hand: the block of x and the landing slots, whole. -/
theorem srcs_end : srcs X c 62 31 ⊢ iprop(xP c fullShare (X c) ∗ bigSep Finset.univ fun i : Fin 31 => slotP c (inn c i) fullShare (gath X)) := by
  have e : srcs X c 62 31 = iprop((bigSep Finset.univ fun p : Fin 6 => xP c (sixth p) (X c))
      ∗ bigSep Finset.univ fun i : Fin 31 => bigSep Finset.univ fun p : Fin 6 => slotP c (inn c i) (sixth p) (gath X)) := by
    have hl : ∀ s : Source, (have' 31 s.1 && !lent 62 s) = true := by decide +kernel
    unfold srcs
    rw [bigSep_congr (Ψ := srcP X c) fun s _ => if_pos (hl s), bigSep_univ_prod, over_option]
    rfl
  rw [e]
  refine BI.sep_mono (Entails.of_eq (Transfers.pointsTo_deal (Finset.univ : Finset (Fin 6)) Finset.univ_nonempty fullShare).symm) (bigSep_mono fun i _ => ?_)
  exact Entails.of_eq (Transfers.pointsTo_deal (Finset.univ : Finset (Fin 6)) Finset.univ_nonempty fullShare).symm

/-- Everything given back once the last operation is done: the semaphores at zero, the buffers whole, nothing owed. -/
theorem ending : iprop(St X K c 62 31 ∗ atPos ER (barCell c) 1 ∅ 0 ∗ slotP c c fullShare (gath X) ∗ idles c)
    ⊢ (|={Set.univ}=> iprop(semVal (barCell c) 0 ∗ Pipeline.ownSems0 osem c ∗ (gM.view.loc (c : Thread nD τ) ↦{fullShare} gath X) ∗ xP c fullShare (X c)
      ∗ ∃ W, owes (c : Thread nD τ) (0 : CellTallies nD τ sig Unit) W) : sProp 𝕄) := by
  have hs : (bigSep Finset.univ fun j : Fin 31 => sendAt (F := F) c j (phase 62 j)) = bigSep Finset.univ fun j : Fin 31 => atPos ER (sendCell c j) 1 ∅ 0 :=
    bigSep_congr fun j _ => by
      rw [show phase 62 j = 2 from by revert j; decide +kernel]; rfl
  have hr : (bigSep Finset.univ fun j : Fin 31 => recvAt (F := F) c j (decide (j.val < 31))) = bigSep Finset.univ fun j : Fin 31 => atPos ER (recvCell c j) 1 ∅ 0 :=
    bigSep_congr fun j _ => by
      rw [decide_eq_true j.isLt]; rfl
  rw [slots_whole, ownSems_eq]
  unfold St
  rw [hs, hr, dues_end c 62 (by decide)]
  iintro ⟨⟨-, #HI, Hs, Hr, Hsrc, HO⟩, Hb, Hme, Hi⟩
  imod (close_cell X K (barCell c) (inv_bar X K c)) $$ [Hb] with Hb
  · isplitr; · iexact HI
    iexact Hb
  imod (close_cells X K (fun j => sendCell c j) (inv_send X K c)) $$ [Hs] with Hs
  · isplitr; · iexact HI
    iexact Hs
  imod (close_cells X K (fun j => recvCell c j) (inv_recv X K c)) $$ [Hr] with Hr
  · isplitr; · iexact HI
    iexact Hr
  imodintro
  ihave Hsrc := (srcs_end X c) $$ Hsrc
  icases Hsrc with ⟨Hx, Hg⟩
  isplitl [Hb]; · iexact Hb
  isplitl [Hs Hr Hi]
  · isplitl [Hs]; · iexact Hs
    isplitl [Hr] <;> iassumption
  isplitl [Hme Hg]
  · isplitl [Hme] <;> iassumption
  isplitl [Hx]; · iexact Hx
  iexact HO

end Cert.KernelIdeal.Gather
-- ==== Proof.Data.lean ====
/-
  What the staged arrays hold before and after the kernel, and the kernel's body as the pipeline calls it.
-/
module

public import proofs.«01_k».proof.Proof.End
public import proofs.«01_k».proof.Proof.Gen.KernelIdeal.Frame
public import Idealize.ShloMosaic.Lib.Pipeline.RegionTalk

@[expose] public section

set_option maxRecDepth 16384

noncomputable section

namespace Cert.KernelIdeal.Gather

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat BodyObligation)
open Cert.Ring
open Facts₀ Facts

variable {F : FTy → Type} [FloatOps F]

local notation "𝕄" => MT nD τ sig Unit (Elt F) ℕ UU ℕ

variable (m : (ℓ : Loc nD τ sig) → Buf (Elt F) ℓ)

/-- Every device's block of x, as launched. -/
def blocks : Blocks F := fun d => m ((d : Thread nD τ).loc main_arg0)
/-- A device's columns of w, as launched. -/
def cols (c : Dev nD) : (main_arg1 : Ref sig .tc).ty.Contents (Elt F) := m ((c : Thread nD τ).loc main_arg1)
/-- A device's columns of the product. -/
def prod (c : Dev nD) : (main_v1 : Ref sig .tc).ty.Contents (Elt F) := outV (blocks m) (cols m c)

/-- A device's buffers when the kernel starts. -/
abbrev start (c : Dev nD) : Valuation τ sig (Elt F) := StableHlo.after Gen.hostOps0 (fun b => m (c, b))

/-- The kernel finds the device's block of x as launched. -/
theorem start_arg0 (c : Dev nD) : start m c (Proc.devRef .tc main_arg0) = blocks m c := Gen.V_main_arg0 m c
/-- The kernel finds the device's columns of w as launched. -/
theorem start_arg1 (c : Dev nD) : start m c (Proc.devRef .tc main_arg1) = cols m c := Gen.V_main_arg1 m c

/-- The first table's literal is the table of devices. -/
theorem lit0_eq (i : Fin 32) : lit0 i = BitVec.ofNat 32 (ham (Fin.ofNat 32 i.val)).val := by revert i; decide
/-- The second table's literal is the table of positions. -/
theorem lit1_eq (i : Fin 32) : lit1 i = BitVec.ofNat 32 (idx (Fin.ofNat 32 i.val)).val := by revert i; decide
/-- An entry of a table is at its own index. -/
theorem row_of (i : S32.Idx) : (S32.rowMajor i).val = (i 0).val := by
  exact Shape.rowMajor_val_one i

/-- The kernel finds the table of devices. -/
theorem start_ham (c : Dev nD) : start m c (Proc.devRef .tc main_c) = hamC (F := F) := by
  show StableHlo.after Gen.hostOps0 _ (Proc.devRef .tc main_c) = _
  rw [StableHlo.after_cons, StableHlo.after_cons, StableHlo.after_nil, StableHlo.nullary_result_ne _ _ _ _ (by decide), StableHlo.nullary_result']
  funext i
  exact (lit0_eq _).trans (by rw [row_of]; rfl)
/-- The kernel finds the table of positions. -/
theorem start_idx (c : Dev nD) : start m c (Proc.devRef .tc main_c_0) = idxC (F := F) := by
  show StableHlo.after Gen.hostOps0 _ (Proc.devRef .tc main_c_0) = _
  rw [StableHlo.after_cons, StableHlo.after_cons, StableHlo.after_nil, StableHlo.nullary_result']
  funext i
  exact (lit1_eq _).trans (by rw [row_of]; rfl)

/-! ## A window's block is its whole array -/

/-- An element of a window's block is that element of the array. -/
theorem blk_emb (w : Fin 5) (i : ((cfg0.win w).xblock (cfg0.grid.coords Gen.t0_0)).Idx) (a : Fin (cfg0.win w).shape.rank) :
    (((cfg0.win w).rect Gen.t0_0).emb i a).val = (i a).val := by
  rw [Rect.emb_apply]
  fin_cases w <;> exact (show 0 * _ + 1 * (i a).val = (i a).val by omega)

/-- The block staged of x is the whole array. -/
theorem read_blk0 (f : (main_arg0 : Ref sig .tc).ty.Contents (Elt F)) : ((cfg0.win 0).blk Gen.t0_0).view.read (Elt F) f = f := by
  funext i; exact congrArg f (funext fun a => Fin.ext (blk_emb 0 i a))
/-- The block staged of w is the whole array. -/
theorem read_blk1 (f : (main_arg1 : Ref sig .tc).ty.Contents (Elt F)) : ((cfg0.win 1).blk Gen.t0_0).view.read (Elt F) f = f := by
  funext i; exact congrArg f (funext fun a => Fin.ext (blk_emb 1 i a))
/-- The block staged of the table of devices is the whole table. -/
theorem read_blk2 (f : (main_c : Ref sig .tc).ty.Contents (Elt F)) : ((cfg0.win 2).blk Gen.t0_0).view.read (Elt F) f = f := by
  funext i; exact congrArg f (funext fun a => Fin.ext (blk_emb 2 i a))
/-- The block staged of the table of positions is the whole table. -/
theorem read_blk3 (f : (main_c_0 : Ref sig .tc).ty.Contents (Elt F)) : ((cfg0.win 3).blk Gen.t0_0).view.read (Elt F) f = f := by
  funext i; exact congrArg f (funext fun a => Fin.ext (blk_emb 3 i a))
/-- The staged result written back is the whole result. -/
theorem write_blk4 (f g : (main_v1 : Ref sig .tc).ty.Contents (Elt F)) :
    ((cfg0.win 4).blk Gen.t0_0).view.write (Elt F) f g Finset.univ = g := by
  funext i
  have e : ((cfg0.win 4).blk Gen.t0_0).view.emb i = i := funext fun a => Fin.ext (blk_emb 4 i a)
  exact (congrArg _ e.symm).trans (View.write_emb_of_mem _ _ (Finset.mem_univ i))

/-! ## What the kernel is given and gives back -/

/-- What a device owes before the kernel: its five signals and its thirty-one copies. -/
abbrev O₀ (c : Dev nD) : CellTallies nD τ sig Unit := sigDues c 0 + dues c 0

/-- The scratch buffer, at contents not chosen. -/
def scratch (c : Dev nD) : sProp 𝕄 := iprop(∃ f, gM.view.loc (c : Thread nD τ) ↦{fullShare} f)

/-- What the body starts from beside its staged arrays. -/
def before (c : Dev nD) : sProp 𝕄 := iprop(Xk (blocks m) c ∗ scratch (F := F) c ∗ ∃ r, prngReg c r)
/-- What the body leaves beside its staged arrays. -/
def afterwards (c : Dev nD) : sProp 𝕄 := iprop(semVal (barCell c) 0 ∗ Pipeline.ownSems0 osem c ∗ scratch (F := F) c ∗ ∃ r, prngReg c r)

/-- The arrays as the kernel finds them; the staged inputs left as found, the staged result at the product. -/
def dat0 (c : Dev nD) : Pipeline.Dat τ (Elt F) Unit ℕ UU ℕ cfg0 c where
  A w := start m c (Proc.devRef .tc (Pipeline.arrRef spec0 w))
  after w _ := match w with
    | ⟨0, _⟩ => blocks m c
    | ⟨1, _⟩ => cols m c
    | ⟨2, _⟩ => hamC
    | ⟨3, _⟩ => idxC
    | ⟨4, _⟩ => prod m c
  Φ t := if t.val = 0 then before m c else afterwards c
  q _ := fullShare
  owed t := if t.val = 0 then O₀ c else 0

/-- The body finds its block of x staged. -/
theorem before0 (c : Dev nD) (d) : (dat0 m c).before 0 Gen.t0_0 d = blocks m c := by
  unfold Pipeline.Dat.before; rw [if_pos (by decide)]; exact (read_blk0 _).trans (start_arg0 m c)
/-- The body finds its columns of w staged. -/
theorem before1 (c : Dev nD) (d) : (dat0 m c).before 1 Gen.t0_0 d = cols m c := by
  unfold Pipeline.Dat.before; rw [if_pos (by decide)]; exact (read_blk1 _).trans (start_arg1 m c)
/-- The body finds the table of devices staged. -/
theorem before2 (c : Dev nD) (d) : (dat0 m c).before 2 Gen.t0_0 d = hamC (F := F) := by
  unfold Pipeline.Dat.before; rw [if_pos (by decide)]; exact (read_blk2 _).trans (start_ham m c)
/-- The body finds the table of positions staged. -/
theorem before3 (c : Dev nD) (d) : (dat0 m c).before 3 Gen.t0_0 d = idxC (F := F) := by
  unfold Pipeline.Dat.before; rw [if_pos (by decide)]; exact (read_blk3 _).trans (start_idx m c)

/-- The result array, once the kernel is done. -/
theorem arr_out (c : Dev nD) : (dat0 m c).arrAt 4 cfg0.N = prod m c := by
  have h := (dat0 m c).arrAt_succ 4 Gen.t0_0
  rw [if_pos (Gen.flush0_4 _)] at h
  exact h.trans (write_blk4 _ _)

/-- What a device owes, as the pipeline states it. -/
theorem owesAt_of (c : Dev nD) (t : Fin (cfg0.N + 1)) (O : CellTallies nD τ sig Unit) (h : (dat0 m c).owed t = O) (W : Waits sig Unit) :
    (owes (c : Thread nD τ) O W : sProp 𝕄) ⊢ ((dat0 m c).owesAt () t : sProp 𝕄) := by
  show _ ⊢ iprop(∃ W' : Waits sig Unit, ⌜↑W' ⊆ (dat0 m c).bound () t⌝ ∗ owes (c : Thread nD τ) ((dat0 m c).owed t) W')
  rw [h]
  iintro HO
  iexists W
  isplitr
  · ipureintro; exact fun _ _ => Or.inl trivial
  iexact HO
/-- What a device owes, taken from the pipeline's statement of it. -/
theorem of_owesAt (c : Dev nD) (t : Fin (cfg0.N + 1)) (O : CellTallies nD τ sig Unit) (h : (dat0 m c).owed t = O) :
    ((dat0 m c).owesAt () t : sProp 𝕄) ⊢ iprop(∃ W, owes (c : Thread nD τ) O W) := by
  show iprop(∃ W' : Waits sig Unit, ⌜↑W' ⊆ (dat0 m c).bound () t⌝ ∗ owes (c : Thread nD τ) ((dat0 m c).owed t) W') ⊢ _
  rw [h]
  iintro ⟨%W, -, HO⟩
  iexists W; iexact HO

/-- Before the body a device owes its signals and its copies. -/
theorem owed_first (c : Dev nD) (t : Fin (cfg0.N + 1)) (h : t.val = 0) : (dat0 m c).owed t = O₀ c := if_pos h
/-- After the body it owes nothing. -/
theorem owed_last (c : Dev nD) (t : Fin (cfg0.N + 1)) (h : t.val ≠ 0) : (dat0 m c).owed t = 0 := if_neg h

/-- The staged block of x, held whole. -/
theorem slot_eq (c : Dev nD) : xP (F := F) c fullShare (blocks m c) = iprop(xM.view.loc (c : Thread nD τ) ↦{fullShare} blocks m c) := by
  unfold xP; rw [show xM.view.set = Finset.univ from View.set_whole _]

/-- The staged buffers, at what they hold. -/
def staged (c : Dev nD) (v : (cc0_stg4_0 : Ref sig .tc).ty.Contents (Elt F)) : sProp 𝕄 :=
  iprop(xP c fullShare (blocks m c) ∗ (wM.view.loc (c : Thread nD τ) ↦{fullShare} cols m c) ∗ Tab c ∗ (oM.view.loc (c : Thread nD τ) ↦{fullShare} v))

/-- The body, run from the opened semaphores to the closed. -/
theorem body_run (c : Dev nD) (v : (cc0_stg4_0 : Ref sig .tc).ty.Contents (Elt F)) :
    iprop(before m c ∗ (∃ W, owes (c : Thread nD τ) (O₀ c) W) ∗ staged m c v)
      ⊢ run c (cc0_body (F := F) xM (Memref.isWhole_whole _) wM (Memref.isWhole_whole _) hM (Memref.isWhole_whole _) iM (Memref.isWhole_whole _)
     oM (Memref.isWhole_whole _) gM (Memref.isWhole_whole _) cc0_scratch1 cc0_scratch2 cc0_scratch3 cc0_scratch4 cc0_scratch5 cc0_scratch6)
     fun _ => iprop(afterwards c ∗ (∃ W, owes (c : Thread nD τ) (0 : CellTallies nD τ sig Unit) W) ∗ staged m c (prod m c)) := by
  refine BIBase.Entails.trans ?_ (wp_fupd _ _ _ _ _)
  unfold before scratch Xk staged
  iintro ⟨⟨⟨%K, HX⟩, ⟨%s, Hs⟩, Hp⟩, ⟨%W, HO⟩, Hx, Hw, HT, Ho⟩
  ihave H := (entry (blocks m) K c s W) $$ [HX Hs Hx HO]
  · isplitl [HX]; · iexact HX
    isplitl [Hs]; · iexact Hs
    isplitl [Hx] <;> iassumption
  icases H with ⟨HB, HR, Hme, Hi⟩
  ihave Hrun := (run_body (blocks m) K c s (cols m c) v
    (Q := fun _ => iprop(Tab c ∗ St (blocks m) K c 62 31 ∗ atPos ER (barCell c) 1 ∅ 0 ∗ Mem c (gath (blocks m)) (cols m c) (prod m c))) Entails.rfl) $$ [HT HB HR Hme Hw Ho]
  · isplitl [HT]; · iexact HT
    isplitl [HB]; · iexact HB
    isplitl [HR]; · iexact HR
    rw [Mem_eq]
    isplitl [Hme]; · iexact Hme
    isplitl [Hw] <;> iassumption
  iapply (wp_wand _ _ _) $$ Hrun
  iintro %a
  rw [Mem_eq]
  iintro ⟨HT, HS, Ha, Hme, Hw, Ho⟩
  imod (ending (blocks m) K c) $$ [HS Ha Hme Hi] with H
  · isplitl [HS]; · iexact HS
    isplitl [Ha]; · iexact Ha
    isplitl [Hme] <;> iassumption
  icases H with ⟨Hb, Hos, Hg, Hx, HO⟩
  imodintro
  unfold afterwards scratch
  isplitl [Hb Hos Hg Hp]
  · isplitl [Hb]; · iexact Hb
    isplitl [Hos]; · iexact Hos
    isplitl [Hg]; · iexists (gath (blocks m)); iexact Hg
    iexact Hp
  isplitl [HO]; · iexact HO
  isplitl [Hx]; · iexact Hx
  isplitl [Hw]; · iexact Hw
  isplitl [HT] <;> iassumption

set_option backward.isDefEq.respectTransparency.types false in
/-- The body, called by the pipeline: it finds the staged arrays, and leaves the product. -/
theorem body_ok (c : Dev nD) : BodyObligation (dat0 (F := F) m c) defs₀ 𝒱₀ () Set.univ := fun t => by
  obtain rfl := Gen.fin_N0 t
  rw [Gen.bigSep_W0, Gen.bigSep_W0]
  simp only [owns_whole]
  rw [show (dat0 m c).Φ Gen.t0_0.castSucc = before m c from rfl, show (dat0 m c).Φ Gen.t0_0.succ = afterwards (F := F) c from rfl]
  simp only [before0, before1, before2, before3]
  iintro ⟨HB, HO, ⟨%d0, H0⟩, ⟨%d1, H1⟩, ⟨%d2, H2⟩, ⟨%d3, H3⟩, ⟨%d4, H4⟩⟩
  ihave HO := (of_owesAt m c _ (O₀ c) (owed_first m c _ rfl)) $$ HO
  iapply (wp_wand _ _ _) $$ [HB HO H0 H1 H2 H3 H4]
  · iapply (body_run m c d4)
    unfold staged Tab
    isplitl [HB]; · iexact HB
    isplitl [HO]; · iexact HO
    isplitl [H0]; · iapply (Entails.of_eq (slot_eq m c).symm); iexact H0
    isplitl [H1]; · iexact H1
    isplitl [H2 H3]
    · isplitl [H2] <;> iassumption
    iexact H4
  iintro %a
  unfold staged Tab
  iintro ⟨HA, ⟨%W, HO⟩, H0, H1, ⟨H2, H3⟩, H4⟩
  isplitl [HA]; · iexact HA
  isplitl [HO]; · iapply (owesAt_of m c _ 0 (owed_last m c _ (by decide)) W); iexact HO
  isplitl [H0]; · iapply (Entails.of_eq (slot_eq m c)); iexact H0
  isplitl [H1]; · iexact H1
  isplitl [H2]; · iexact H2
  isplitl [H3]; · iexact H3
  iexact H4

end Cert.KernelIdeal.Gather
-- ==== Proof.Fund.lean ====
/-
  The launch: every cell's invariant made, the tokens of the duties each device pays handed to it, and the credits it
  waits with.
-/
module

public import proofs.«01_k».proof.Proof.Data

@[expose] public section

set_option maxRecDepth 16384

noncomputable section

namespace Cert.KernelIdeal.Gather

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.Ring
open Facts₀ Facts

variable {F : FTy → Type} [FloatOps F]

local notation "𝕄" => MT nD τ sig Unit (Elt F) ℕ UU ℕ

/-! ## The cells and the tokens, listed -/

/-- The semaphore of a send cell or a receive cell. -/
def copySem : Fin 31 ⊕ Fin 31 → SemLoc sig
  | .inl j => .dma (sendS j)
  | .inr j => .dma (recvS j)
/-- No two copies share a semaphore. -/
theorem copySem_inj : Function.Injective copySem := by
  intro a b h
  have h' := congrArg part h
  rcases a with a | a <;> rcases b with b | b <;> simp only [copySem, part_send, part_recv, Part.snd.injEq, Part.rcv.injEq, reduceCtorEq] at h' <;> rw [h']
/-- No copy's semaphore is the barrier's. -/
theorem copySem_ne (s : Fin 31 ⊕ Fin 31) : copySem s ≠ .reg barS := by
  rcases s with j | j <;> simp [copySem]

/-- The barrier cells, by device. -/
def barEmb : Dev nD ↪ GSem nD τ sig := ⟨fun c => barCell c, fun _ _ h => congrArg (fun g : GSem nD τ sig => g.1.1) h⟩
/-- The copies' cells, by device and copy. -/
def copyEmb : Dev nD × (Fin 31 ⊕ Fin 31) ↪ GSem nD τ sig :=
  ⟨fun p => ((p.1 : Thread nD τ), copySem p.2), fun _ _ h =>
    Prod.ext (congrArg (fun g : GSem nD τ sig => g.1.1) h) (copySem_inj (congrArg Prod.snd h))⟩

/-- All the barrier cells. -/
abbrev barCells : Finset (GSem nD τ sig) := Finset.univ.map barEmb
/-- All the copies' cells. -/
abbrev copyCells : Finset (GSem nD τ sig) := Finset.univ.map copyEmb

/-- No barrier cell is a copy's. -/
theorem disjoint_cells : Disjoint barCells copyCells := by
  rw [Finset.disjoint_left]
  rintro g h₁ h₂
  obtain ⟨c, -, rfl⟩ := Finset.mem_map.mp h₁
  obtain ⟨p, -, h⟩ := Finset.mem_map.mp h₂
  exact copySem_ne p.2 (congrArg Prod.snd h)

/-- Every cell of the protocol is a barrier cell or a copy's. -/
theorem cellAt_mem (p : CellName) : cellAt p ∈ barCells ∪ copyCells := by
  rcases p with ⟨c, _ | (j | j)⟩
  · exact Finset.mem_union_left _ (Finset.mem_map_of_mem barEmb (Finset.mem_univ c))
  · exact Finset.mem_union_right _ (Finset.mem_map_of_mem copyEmb (Finset.mem_univ (c, Sum.inl j)))
  · exact Finset.mem_union_right _ (Finset.mem_map_of_mem copyEmb (Finset.mem_univ (c, Sum.inr j)))

/-- A duty's semaphore and number: the barrier's five, and one on each send cell and receive cell. -/
def duty : Fin 5 ⊕ (Fin 31 ⊕ Fin 31) → SemLoc sig × Fin 5
  | .inl e => (.reg barS, e)
  | .inr s => (copySem s, 0)
/-- No two duties share a semaphore and a number. -/
theorem duty_inj : Function.Injective duty := by
  intro a b h
  rcases a with a | a <;> rcases b with b | b
  · exact congrArg Sum.inl (congrArg Prod.snd h)
  · exact absurd (congrArg Prod.fst h).symm (copySem_ne b)
  · exact absurd (congrArg Prod.fst h) (copySem_ne a)
  · exact congrArg Sum.inr (copySem_inj (congrArg Prod.fst h))

/-- Every duty's token. -/
def tokens : Finset (GSem nD τ sig × ℕ × Fin 5) :=
  Finset.univ.map ⟨fun p : Dev nD × (Fin 5 ⊕ (Fin 31 ⊕ Fin 31)) => (((p.1 : Thread nD τ), (duty p.2).1), 0, (duty p.2).2), fun _ _ h =>
    Prod.ext (congrArg (fun t : GSem nD τ sig × ℕ × Fin 5 => t.1.1.1) h)
      (duty_inj (Prod.ext (congrArg (fun t : GSem nD τ sig × ℕ × Fin 5 => t.1.2) h) (congrArg (fun t : GSem nD τ sig × ℕ × Fin 5 => t.2.2) h)))⟩

/-! ## Handing out -/

/-- A conjunction over all devices and an index, each device's parts handed on along the ring. -/
theorem handed {I : Type} [Fintype I] [DecidableEq I] (off : I → Fin 32) (Φ : Dev nD → I → sProp 𝕄) :
    (bigSep Finset.univ fun c => bigSep Finset.univ fun i => Φ c i) = bigSep Finset.univ fun c : Dev nD => bigSep Finset.univ fun i => Φ (hop c (off i)) i := by
  have swap (Ψ : Dev nD → I → sProp 𝕄) : (bigSep Finset.univ fun c => bigSep Finset.univ fun i => Ψ c i) = bigSep Finset.univ fun i => bigSep Finset.univ fun c => Ψ c i :=
    ((bigSep_univ_prod fun p : Dev nD × I => Ψ p.1 p.2).symm.trans (bigSep_univ_equiv (Equiv.prodComm I (Dev nD)) fun p : Dev nD × I => Ψ p.1 p.2)).trans
      (bigSep_univ_prod fun p : I × Dev nD => Ψ p.2 p.1)
  rw [swap Φ, swap fun c i => Φ (hop c (off i)) i]
  exact bigSep_congr fun i _ => bigSep_univ_equiv (hopE (off i)) (fun c => Φ c i)

/-- The tokens of the duties device c pays. -/
def pays (c : Dev nD) : sProp 𝕄 :=
  iprop((bigSep Finset.univ fun e : Fin 5 => dutyTok ER (barCell (sigTo c e)) 0 e)
    ∗ (bigSep Finset.univ fun j : Fin 31 => dutyTok ER (sendCell c j) 0 0) ∗ bigSep Finset.univ fun j : Fin 31 => dutyTok ER (recvCell (tgt c j) j) 0 0)

/-- All the duties' tokens are what the devices pay, each its own. -/
theorem tokens_pays : bigSep tokens (fun t => (dutyTok ER t.1 t.2.1 t.2.2 : sProp 𝕄)) = bigSep Finset.univ fun c : Dev nD => pays c := by
  have h1 : bigSep tokens (fun t => (dutyTok ER t.1 t.2.1 t.2.2 : sProp 𝕄)) = bigSep Finset.univ fun c : Dev nD =>
      iprop((bigSep Finset.univ fun e : Fin 5 => dutyTok ER (barCell c) 0 e)
        ∗ (bigSep Finset.univ fun j : Fin 31 => dutyTok ER (sendCell c j) 0 0) ∗ bigSep Finset.univ fun j : Fin 31 => dutyTok ER (recvCell c j) 0 0) := by
    unfold tokens
    rw [bigSep_map, bigSep_univ_prod]
    refine bigSep_congr fun c _ => ?_
    rw [bigSep_univ_sum, bigSep_univ_sum]
    rfl
  rw [h1]
  unfold pays
  rw [bigSep_sep', bigSep_sep', bigSep_sep', bigSep_sep', handed sigOff (fun c e => (dutyTok ER (barCell c) 0 e : sProp 𝕄)),
    handed tgtOff (fun c j => (dutyTok ER (recvCell c j) 0 0 : sProp 𝕄))]

variable (X : Blocks F)

/-- What every device may consult: all the invariants, and that every barrier cell is in its first round. -/
def records (κ : GSem nD τ sig → ℕ) : sProp 𝕄 :=
  iprop((bigSep (barCells ∪ copyCells) fun g => cellInv ER (rd X) (κ g) g) ∗ bigSep barCells fun g => reached ER g 0)
/-- The records may be consulted again and again. -/
instance records_persistent (κ : GSem nD τ sig → ℕ) : BI.Persistent (records X κ) := by unfold records; infer_instance

/-- Any cell's invariant, from the records. -/
theorem records_inv (κ : GSem nD τ sig → ℕ) (p : CellName) : records X κ ⊢ cellInv ER (rd X) (κ (cellAt p)) (cellAt p) := by
  unfold records
  iintro ⟨HI, -⟩
  iapply (show (bigSep (barCells ∪ copyCells) fun g => (cellInv ER (rd X) (κ g) g : sProp 𝕄)) ⊢ cellInv ER (rd X) (κ (cellAt p)) (cellAt p) from
    bigSep_elim (cellAt_mem p)) $$ HI
/-- Any barrier cell is in its first round, from the records. -/
theorem records_reached (κ : GSem nD τ sig → ℕ) (c : Dev nD) : records X κ ⊢ reached ER (barCell c) 0 := by
  unfold records
  iintro ⟨-, HR⟩
  iapply (show (bigSep barCells fun g => (reached ER g 0 : sProp 𝕄)) ⊢ reached ER (barCell c) 0 from
    bigSep_elim (Finset.mem_map_of_mem barEmb (Finset.mem_univ c))) $$ HR

/-- Facts one may consult again and again, gathered. -/
theorem gather_facts {I : Type} [Fintype I] [DecidableEq I] (R : sProp 𝕄) [BI.Persistent R] (Φ : I → sProp 𝕄) (h : ∀ i, R ⊢ Φ i) :
    R ⊢ bigSep Finset.univ Φ := by
  have e : (bigSep (Finset.univ : Finset I) fun _ => (iprop(emp) : sProp 𝕄)) = iprop(emp) := bigSep_emp_const _
  have k := bigSep_with_persistent (S := Finset.univ) (R := R) (Φ := fun _ : I => (iprop(emp) : sProp 𝕄)) (Ψ := Φ) fun i _ => by
    iintro ⟨#HR, -⟩
    iapply (h i); iexact HR
  rw [e] at k
  refine BIBase.Entails.trans ?_ k
  iintro HR
  isplitl [HR]; · iexact HR
  iempintro

/-- All the invariants, from the records. -/
theorem records_invs (κ : GSem nD τ sig → ℕ) : records X κ ⊢ invs X κ := gather_facts _ _ (records_inv X κ)

/-- What stays with device c alone. -/
def alone (c : Dev nD) : sProp 𝕄 :=
  iprop(atPos ER (barCell c) 0 ∅ 0 ∗ ((bigSep Finset.univ fun j : Fin 31 => openTok ER (sendCell c j)) ∗ bigSep Finset.univ fun j : Fin 31 => openTok ER (recvCell c j)) ∗ pays c)

/-- What a device's kernel is launched with, from the records and what is the device's alone. -/
theorem ghost_of (κ : GSem nD τ sig → ℕ) (c : Dev nD) : iprop(records X κ ∗ alone (F := F) c) ⊢ iprop(∃ K, ghost X K c) := by
  unfold alone pays ghost
  iintro ⟨#HR, Ha, Ho, Hb, Hs, Hr⟩
  iexists κ
  isplitr; · iapply (records_invs X κ); iexact HR
  isplitl [Ha]; · iexact Ha
  isplitl [Ho]; · iexact Ho
  isplitl [Hb]
  · rw [bigSep_sep']
    isplitl [Hb]; · iexact Hb
    iapply (gather_facts (records X κ) (fun e : Fin 5 => reached ER (barCell (sigTo c e)) 0) fun e => records_reached X κ (sigTo c e)); iexact HR
  isplitl [Hs] <;> iassumption

/-! ## The credits -/

/-- A sum of single counts, read at a cell. -/
theorem sum_tally {I : Type} [DecidableEq I] (s : Finset I) (cell : I → GSem nD τ sig) (k : ℕ) (g : GSem nD τ sig) :
    (∑ i ∈ s, tallyAt (cell i) () k : CellTallies nD τ sig Unit) g () = ∑ i ∈ s, if g = cell i then k else 0 := by
  rw [Finset.sum_apply, Finsupp.finset_sum_apply]
  refine Finset.sum_congr rfl fun i _ => ?_
  rw [tallyAt_apply]; simp

/-- Along the ring, one device at a time reaches a given one. -/
theorem one_reaches (k : Fin 32) (n : ℕ) (c : Dev nD) (sm : SemLoc sig) :
    (∑ d : Dev nD, if (((c : Dev nD) : Thread nD τ), sm) = (((hop d k : Dev nD) : Thread nD τ), sm) then n else 0) = n := by
  refine (Equiv.sum_comp (hopE k) (fun d : Dev nD => if (((c : Dev nD) : Thread nD τ), sm) = ((d : Thread nD τ), sm) then n else 0)).trans ?_
  have e (d : Dev nD) : ((((c : Dev nD) : Thread nD τ), sm) = ((d : Thread nD τ), sm)) ↔ c = d :=
    ⟨fun h => congrArg (fun g : GSem nD τ sig => g.1.1) h, fun h => by rw [h]⟩
  simp only [e, Finset.sum_ite_eq, Finset.mem_univ, if_true]

/-- What a device owes a cell. -/
theorem O₀_apply (d : Dev nD) (g : GSem nD τ sig) : O₀ d g ()
    = (∑ e : Fin 5, if g = barCell (sigTo d e) then 1 else 0) + ∑ j : Fin 31, if g = recvCell (tgt d j) j then N else 0 := by
  show sigDues d 0 g () + dues d 0 g () = _
  unfold sigDues dues
  rw [sum_tally, sum_tally, Finset.filter_true_of_mem (fun e _ => Nat.zero_le _), Finset.filter_true_of_mem (fun e _ => Nat.zero_le _)]

/-- No barrier cell is a receive cell. -/
theorem recv_ne (a b : Dev nD) (j : Fin 31) : barCell a ≠ recvCell b j := fun h => nomatch congrArg (fun g : GSem nD τ sig => part g.2) h |>.trans (part_recv j)
/-- A receive cell is of one copy only. -/
theorem recv_same {a b : Dev nD} {i j : Fin 31} (h : recvCell a i = recvCell b j) : i = j := by
  have := congrArg (fun g : GSem nD τ sig => part g.2) h
  simp only [part_recv, Part.rcv.injEq] at this
  exact this

/-- All the devices together owe a barrier cell its five units. -/
theorem owed_bar (c : Dev nD) : (∑ d : Dev nD, O₀ d (barCell c) ()) = 5 := by
  rw [Finset.sum_congr rfl fun d _ => (O₀_apply d _).trans (congrArg _ (Finset.sum_eq_zero fun j _ => if_neg (recv_ne c _ j))), Finset.sum_congr rfl fun d _ => Nat.add_zero _, Finset.sum_comm,
    Finset.sum_congr rfl fun e _ => one_reaches (sigOff e) 1 c _]
  rfl
/-- All the devices together owe a receive cell one copy's units. -/
theorem owed_recv (c : Dev nD) (j : Fin 31) : (∑ d : Dev nD, O₀ d (recvCell c j) ()) = N := by
  rw [Finset.sum_congr rfl fun d _ => (O₀_apply d _).trans (congrArg₂ _ (Finset.sum_eq_zero fun e _ => if_neg (recv_ne _ c j).symm)
    (Finset.sum_eq_single j (fun i _ hi => if_neg fun h => hi (recv_same h).symm) fun h => absurd (Finset.mem_univ j) h)), Finset.sum_congr rfl fun d _ => Nat.zero_add _]
  exact one_reaches (tgtOff j) N c _

/-- The credit on a cell is what all the devices together owe it. -/
theorem credit_at (g : GSem nD τ sig) (n : ℕ) (h : (∑ d : Dev nD, O₀ d g ()) = n) :
    tallyOn g (launchCredit (Pipeline.owing O₀) 0 g) = (tallyAt g () n : CellTallies nD τ sig Unit) := by
  unfold tallyAt; refine congrArg _ (Finsupp.ext fun u => ?_); cases u
  rw [Finsupp.single_eq_same, Pipeline.launchCredit_owing, h]

/-- The semaphores a device has credit on. -/
def paidEmb : Option (Fin 31) ↪ SemLoc sig :=
  ⟨fun | none => .reg barS | some j => .dma (recvS j), fun a b h => by
    have h' := congrArg part h
    rcases a with _ | a <;> rcases b with _ | b <;> simp only [part_recv, part_bar, Part.rcv.injEq, reduceCtorEq] at h' ⊢
    rw [h']⟩

/-- The credits of a device's launch are for its barrier and its thirty-one arrivals. -/
theorem credits (c : Dev nD) : (Pipeline.launchCred O₀ c : sProp 𝕄) ⊢ purse (F := F) c := by
  unfold Pipeline.launchCred purse
  refine (bigSep_subset (Finset.subset_univ (Finset.univ.map paidEmb))).trans ?_
  rw [bigSep_map, over_option]
  refine Entails.of_eq (congrArg₂ (fun A B : sProp 𝕄 => iprop(A ∗ B)) ?_ (bigSep_congr fun j _ => ?_))
  · exact congrArg _ (credit_at (barCell c) 5 (owed_bar c))
  · exact congrArg _ (credit_at (recvCell c j) N (owed_recv c j))

end Cert.KernelIdeal.Gather
-- ==== Proof.Launch.lean ====
/-
  The whole run: the two tables written, the kernel entered on every device at once, and what every final state holds.
-/
module

public import proofs.«01_k».proof.Proof.Fund

@[expose] public section

set_option maxRecDepth 16384

noncomputable section

namespace Cert.KernelIdeal.Gather

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.Ring
open Facts₀ Facts

variable {F : FTy → Type} [FloatOps F]

local notation "𝕄" => MT nD τ sig Unit (Elt F) ℕ UU ℕ

variable (m : (ℓ : Loc nD τ sig) → Buf (Elt F) ℓ)

/-! ## Before and after the kernel -/

/-- The buffers that outlive the kernel: the five staged arrays. -/
abbrev kept5 : Finset (DevRef τ sig) := Pipeline.arrRefs (τ := τ) spec0
/-- They are all the buffers that are not the kernel's own. -/
theorem kept5_eq : kept5 = (StableHlo.tcRefs τ sig).filter fun b => ¬ b.isScoped := by decide

/-- A device's buffers at launch are those five. -/
theorem unscopedBufs_held (c : Dev nD) (W : Valuation τ sig (Elt F)) :
    (unscopedBufs c (fun b => W b) : sProp 𝕄) = StableHlo.held (c : Thread nD τ) kept5 W := by
  rw [kept5_eq]
  unfold unscopedBufs StableHlo.held StableHlo.tcRefs
  rw [Finset.filter_map, BI.bigSep_map]
  rfl
/-- Its one semaphore at launch is the barrier's. -/
theorem unscopedSems_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- A device's buffers as launched. -/
abbrev launched (c : Dev nD) : Valuation τ sig (Elt F) := fun b => m (c, b)
/-- A device's buffers once the kernel is done: the result at the product. -/
abbrev done (c : Dev nD) : Valuation τ sig (Elt F) := Function.update (start m c) (Proc.devRef .tc main_v1) (prod m c)

/-- What rides along until the kernel is entered. -/
def ride (c : Dev nD) : sProp 𝕄 := iprop(Tk (blocks m) c ∗ (∃ r, prngReg c r) ∗ ∃ W, owes (c : Thread nD τ) (O₀ c) W)

/-- Only the result changes. -/
theorem done_other (c : Dev nD) (b : DevRef τ sig) (h : b ≠ Proc.devRef .tc main_v1) : done m c b = start m c b := Function.update_of_ne h _ _

/-! ## The two segments -/

/-- The call's prefetched tables: none. -/
abbrev adm : (p : Fin 1) → (pcfgs (F := F) p).Adm := fun p => (cfgs p).toPCfg_adm
/-- The call's arrays and what its body holds. -/
def pdats : (p : Fin 1) → (c : Dev nD) → Pipeline.Dat τ (Elt F) Unit ℕ UU ℕ (Pipeline.pin (pcfgs (F := F)) adm p) c
  | 0 => dat0 m

/-- The call's staging is in order. -/
theorem kit : Pipeline.PLaunchFacts (nD := nD) (τ := τ) (pcfgs (F := F)) 0 where
  cellOf_inj a := by rw [Subsingleton.elim a adm]; exact Gen.cellOf_inj
  win := Gen.winFacts0
  pre := Pipeline.PreFacts.none _
  block_pos := Gen.block_pos0
  arr_whole := Gen.arr_whole0
  stage_whole := Gen.stage_whole0

/-- The host's operations touch only the five arrays. -/
theorem ops_sub : ∀ op ∈ (Gen.hostOps0 : List (HloOp τ sig (Elt F))), op.bufs ⊆ kept5 := fun op h => by
  simp only [List.mem_cons, List.not_mem_nil, or_false] at h
  rcases h with rfl | rfl
  · show ({Proc.devRef .tc main_c} : Finset (DevRef τ sig)) ⊆ kept5; decide
  · show ({Proc.devRef .tc main_c_0} : Finset (DevRef τ sig)) ⊆ kept5; decide
/-- They allocate nothing. -/
theorem ops_fresh : ∀ op ∈ (Gen.hostOps0 : List (HloOp τ sig (Elt F))), op.fresh = ∅ := fun op h => by
  simp only [List.mem_cons, List.not_mem_nil, or_false] at h
  rcases h with rfl | rfl <;> rfl

/-- The host's two tables. -/
def seg0 : Pipeline.HostSeg (Name := ℕ) (U := UU) (pcfgs (F := F)) defs₀ 𝒱₀ L lv :=
  Pipeline.HostSeg.ofOps _ _ _ _ _ kept5 Gen.hostOps0 ops_sub ops_fresh (launched m) (ride m)

/-- Whatever a device owes is on cells above the staging semaphores. -/
theorem owed_above (c : Dev nD) (t : Fin (cfg0.N + 1)) (g : GSem nD τ sig) (i : Unit) (h : 0 < (dat0 m c).owed t g i) : i ∈ L g ∧ (0 : ℕ) < lv g i := by
  have e : (dat0 m c).owed t = if t.val = 0 then O₀ c else 0 := rfl
  rw [e] at h
  split at h
  · have h' : 0 < sigDues c 0 g i + dues c 0 g i := h
    rcases Nat.add_pos_iff_pos_or_pos.mp h' with h | h
    · obtain ⟨d, -, rfl⟩ := sum_tally_pos _ (fun d => barCell (sigTo c d)) 1 h
      exact ⟨by rw [L_tc]; exact Finset.mem_singleton_self _, Nat.one_pos⟩
    · obtain ⟨j, -, rfl⟩ := sum_tally_pos _ (fun j => recvCell (tgt c j) j) N h
      refine ⟨by rw [L_tc]; exact Finset.mem_singleton_self _, ?_⟩
      show 0 < lvOf (part (.dma (recvS j)))
      rw [part_recv]; exact Nat.add_pos_left (by decide) _
  · exact absurd h (Nat.lt_irrefl 0)

/-- The staging semaphores are at level zero. -/
theorem staging_low (w : Fin 5) (s : Fin (cfg0.win w).nbuf) : lvOf (part (.dma ((cfg0.win w).sem s))) = 0 := by
  revert w; decide

/-- The call finds the arrays as the host left them. -/
theorem arr_before (c : Dev nD) (w : Fin cfg0.W) : (dat0 m c).arrAt w 0 = start m c (Proc.devRef .tc (Pipeline.arrRef spec0 w)) := rfl
/-- The call leaves its inputs as found, and the product. -/
theorem arr_after (c : Dev nD) (w : Fin cfg0.W) : (dat0 m c).arrAt w cfg0.N = done m c (Proc.devRef .tc (Pipeline.arrRef spec0 w)) := by
  have keep (w : Fin cfg0.W) (h : (cfg0.win w).isOut = false) (hne : Proc.devRef (τ := τ) .tc (Pipeline.arrRef spec0 w) ≠ Proc.devRef .tc main_v1) :
      (dat0 m c).arrAt w cfg0.N = done m c (Proc.devRef .tc (Pipeline.arrRef spec0 w)) :=
    ((dat0 m c).arrAt_in w h _).trans (done_other m c _ hne).symm
  match w with
  | 0 => exact keep 0 rfl (by decide)
  | 1 => exact keep 1 rfl (by decide)
  | 2 => exact keep 2 rfl (by decide)
  | 3 => exact keep 3 rfl (by decide)
  | 4 => exact (arr_out m c).trans (Function.update_self (Proc.devRef .tc main_v1) (prod m c) (start m c)).symm

/-- What the call has at hand on entering is what the body starts from. -/
theorem enters (c : Dev nD) : iprop(Pipeline.scopedRest (Pipeline.pin (pcfgs (F := F)) adm 0).spec c ∗ (∃ r, prngReg c r) ∗ StableHlo.held (c.tc : Thread nD τ) ∅ (start m c) ∗ Xk (blocks m) c)
    ⊢ (pdats m 0 c).Φ 0 := by
  rw [show (pdats m 0 c).Φ 0 = before m c from rfl, show (Pipeline.scopedRest (Pipeline.pin (pcfgs (F := F)) adm 0).spec c : sProp 𝕄) = scratch c from Gen.scopedRest0_eq c]
  unfold before
  iintro ⟨Hs, Hp, -, HX⟩
  isplitl [HX]; · iexact HX
  isplitl [Hs] <;> iassumption

/-- What the body leaves is what the call gives back. -/
theorem leaves (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (done m c)
      ∗ Pipeline.ownSems0 osem c ∗ semVal (barCell c) 0) := by
  rw [show (pdats m 0 c).Φ (Fin.last _) = afterwards (F := F) c from rfl, show (Pipeline.scopedRest (Pipeline.pin (pcfgs (F := F)) adm 0).spec c : sProp 𝕄) = scratch c from Gen.scopedRest0_eq c]
  unfold afterwards
  iintro ⟨Hb, Hos, Hs, Hp⟩
  isplitl [Hs]; · iexact Hs
  isplitl [Hp]; · iexact Hp
  isplitr
  · unfold StableHlo.held
    rw [BI.bigSep_empty]; iempintro
  isplitl [Hos] <;> iassumption

/-- The kernel's own semaphores are distinct, and none is a staging one. -/
theorem own_facts : Pipeline.OwnSemFacts spec0 osem := by decide +kernel

set_option backward.isDefEq.respectTransparency.types false in
/-- The kernel, as a segment. -/
def reg0 : Pipeline.RegionSeg (pcfgs (F := F)) adm (pdats m) () defs₀ 𝒱₀ L lv 0 :=
  Pipeline.RegionSeg.ofTalk (pcfgs (F := F)) adm (pdats m) () defs₀ 𝒱₀ L lv 0 osem own_facts
    ∅ ∅ (Finset.Subset.refl _) kit rfl (fun c => (body_ok m c).loose)
    (fun _ => 0) O₀ (fun c => (owed_first m c _ rfl).trans (zero_add _).symm) (fun c => owed_last m c _ (by rw [show (Pipeline.pin (pcfgs (F := F)) adm 0).N = 1 from Gen.N_0]; exact Nat.one_ne_zero)) (fun _ => rfl)
    (fun c w => by fin_cases w <;> rfl)
    (start m) (done m) (fun _ b hb => absurd hb (by rw [Finset.sdiff_self]; exact Finset.notMem_empty b))
    (Tk (blocks m)) (fun c => semVal (barCell c) 0) (Xk (blocks m)) (fun c => semVal (barCell c) 0) (opening (blocks m)) (enters m) (leaves m)
    (fun c => by iintro H; imodintro; iexact H)
    (fun _ => 0)
    ⟨fun c w s => by rw [L_tc]; exact Finset.mem_singleton_self _, fun c w s => Nat.le_of_eq (staging_low w s), fun c t g i h => owed_above m c t g i h⟩
    (fun _ => iprop(emp))
    (arr_before m) (arr_after m)

/-- What the host code leaves is what the kernel is entered with. -/
theorem reg_pre (c : Dev nD) : iprop(StableHlo.held (c : Thread nD τ) kept5 (start m c) ∗ ride m c) ⊢ (reg0 m).pre c := by
  show _ ⊢ iprop(StableHlo.held (c.tc : Thread nD τ) kept5 (start m c) ∗ (∃ r, prngReg c r)
    ∗ (StableHlo.held (c.tc : Thread nD τ) ∅ (start m c) ∗ emp) ∗ Tk (blocks m) c ∗ ∃ Wd, owes (c : Thread nD τ) (0 + O₀ c) Wd)
  rw [zero_add]
  unfold ride
  iintro ⟨Hh, HT, Hp, HO⟩
  isplitl [Hh]; · iexact Hh
  isplitl [Hp]; · iexact Hp
  isplitr
  · isplitr
    · unfold StableHlo.held
      rw [BI.bigSep_empty]; iempintro
    iempintro
  isplitl [HT] <;> iassumption

/-- What a device ends with. -/
abbrev finish (c : Dev nD) : sProp 𝕄 := iprop(StableHlo.held (c : Thread nD τ) kept5 (done m c) ∗ semVal (barCell c) 0)

/-- What the kernel leaves is what a device finishes with, nothing owed. -/
theorem reg_post (c : Dev nD) : (reg0 m).post c ⊢ iprop(finish m c ∗ ∃ W, owes (c : Thread nD τ) (0 : CellTallies nD τ sig Unit) W) := by
  show iprop(StableHlo.held (c.tc : Thread nD τ) kept5 (done m c) ∗ (∃ r, prngReg c r)
    ∗ (StableHlo.held (c.tc : Thread nD τ) ∅ (done m c) ∗ emp) ∗ semVal (barCell c) 0 ∗ ∃ Wd, owes (c : Thread nD τ) (0 : CellTallies nD τ sig Unit) Wd) ⊢ _
  iintro ⟨Hh, -, -, Hb, HO⟩
  isplitr [HO]
  · isplitl [Hh] <;> iassumption
  iexact HO

/-- The program's two segments. -/
def segs : List (Pipeline.Seg (pcfgs (F := F)) adm (pdats m) () defs₀ 𝒱₀ L lv) := [.host (seg0 m), .region (reg0 m)]

/-- @main is the two segments in turn. -/
theorem main_eq (c : Dev nD) : main (F := F) c = Pipeline.Seg.run (segs m) :=
  Gen.main_segs adm (pdats m) () 𝒱₀ L lv (seg0 m) (reg0 m) rfl c

/-! ## The launch -/

/-- The element launched with: the pipeline's own, and the protocol's. -/
def u₀ : UU :=
  (initOf (Pipeline.cells (Pipeline.pin (pcfgs (F := F)) adm) Gen.cellOf_inj) (Pipeline.launchToks (Pipeline.pin (pcfgs (F := F)) adm) Gen.cellOf_inj),
    launchOf barCells copyCells tokens)

/-- A resource lodged with device 0. -/
def lodged (A : sProp 𝕄) (c : Dev nD) : sProp 𝕄 := if c = 0 then A else iprop(emp)
/-- All the devices together hold what is lodged with device 0. -/
theorem lodged_all (A : sProp 𝕄) : bigSep Finset.univ (lodged A) = A := by
  have e : (bigSep (Finset.univ.erase (0 : Dev nD)) (lodged A)) = (iprop(emp) : sProp 𝕄) :=
    (bigSep_congr fun c hc => if_neg (Finset.ne_of_mem_erase hc)).trans (bigSep_emp_const _)
  rw [bigSep_univ_split (0 : Dev nD), e]
  exact (BI.equiv_iff.mp sep_emp).trans (if_pos rfl)

/-- The protocol's element. -/
abbrev seed : sProp 𝕄 := BI.own (ER (launchOf barCells copyCells tokens))

/-- What a device begins with. -/
abbrev begins (c : Dev nD) : sProp 𝕄 := iprop(StableHlo.held (c : Thread nD τ) kept5 (launched m c) ∗ ride m c)

/-- What a device has at launch beside the protocol's tokens. -/
def baggage (c : Dev nD) : sProp 𝕄 :=
  iprop(StableHlo.held (c : Thread nD τ) kept5 (launched m c) ∗ purse (F := F) c ∗ owes (c : Thread nD τ) (O₀ c) ∅ ∗ ∃ r, prngReg c r)

/-- What a device begins with, from the records, what is its alone and its baggage. -/
theorem begins_of (κ : GSem nD τ sig → ℕ) (c : Dev nD) : iprop(records (blocks m) κ ∗ (alone (F := F) c ∗ baggage m c)) ⊢ begins m c := by
  unfold baggage begins ride Tk
  iintro ⟨#HR, Hl, Hh, Hc, HO, Hp⟩
  isplitl [Hh]; · iexact Hh
  isplitl [Hl Hc]
  · isplitl [Hl]
    · iapply (ghost_of (blocks m) κ c)
      isplitr; · iexact HR
      iexact Hl
    iexact Hc
  isplitl [Hp]; · iexact Hp
  iexists ∅; iexact HO

variable (ρ : Dev nD → PrngReg)

/-- What a device is launched with: its baggage, its barrier semaphore and what is lodged. -/
theorem unpacked (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ lodged (F := F) seed c)
      ⊢ (iprop(baggage m c ∗ (semVal (barCell c) 0 ∗ lodged (F := F) seed c)) : sProp 𝕄) := by
  rw [show unscopedBufs c (fun b => m ((c : Thread nD τ).loc b)) = StableHlo.held (c : Thread nD τ) kept5 (launched m c) from unscopedBufs_held c (launched m c),
    unscopedSems_eq]
  unfold baggage
  iintro ⟨Hh, Hus, HO, Hcr, Hp, HG⟩
  isplitl [Hh HO Hcr Hp]
  · isplitl [Hh]; · iexact Hh
    isplitl [Hcr]; · iapply (credits c) $$ Hcr
    isplitl [HO]; · iexact HO
    iexists (ρ c); iexact Hp
  isplitl [Hus] <;> iassumption

/-- Everything made and handed out. -/
theorem launch : iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ lodged (F := F) seed c)) ∗ levAts L lv)
      ⊢ (|={Set.univ}=> bigSep Finset.univ (begins m) : sProp 𝕄) := by
  have h1 : (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ lodged (F := F) seed c))
      ⊢ (iprop((bigSep Finset.univ fun c : Dev nD => baggage m c) ∗ (bigSep barCells fun g => semVal g 0) ∗ bigSep Finset.univ (lodged (F := F) seed)) : sProp 𝕄) := by
    rw [bigSep_map (s := Finset.univ) barEmb (Φ := fun g : GSem nD τ sig => (semVal g 0 : sProp 𝕄)), ← bigSep_sep', ← bigSep_sep']
    exact bigSep_mono fun c _ => unpacked m ρ c
  have h2 : iprop((bigSep barCells fun g => atPos ER g 0 ∅ 0) ∗ (bigSep copyCells fun g => openTok ER g) ∗ bigSep tokens fun t => dutyTok ER t.1 t.2.1 t.2.2)
      ⊢ (bigSep Finset.univ fun c : Dev nD => alone (F := F) c : sProp 𝕄) := by
    unfold alone
    rw [bigSep_map, bigSep_map, bigSep_univ_prod, tokens_pays, bigSep_sep', bigSep_sep']
    refine Entails.of_eq (congrArg (fun A : sProp 𝕄 => iprop(_ ∗ A ∗ _)) (bigSep_congr fun c _ => ?_))
    rw [bigSep_univ_sum]; rfl
  iintro ⟨H, -⟩
  ihave H := h1 $$ H
  icases H with ⟨HB, Hv, Hu⟩
  ihave Hu := (Entails.of_eq (lodged_all (seed (F := F)))) $$ Hu
  imod (Rounds.fund_launch ER (rd (blocks m)) disjoint_cells (fun g _ h => h) tokens) $$ [Hv Hu] with ⟨%κ, -, #Hinv, #Hr, Hat, Hopen, Htok⟩
  · isplitl [Hv] <;> iassumption
  imodintro
  iapply (bigSep_with_persistent (R := records (blocks m) κ) (Φ := fun c => iprop(alone (F := F) c ∗ baggage m c)) fun c _ => begins_of m κ c)
  isplitr
  · unfold records
    isplitr; · iexact Hinv
    iexact Hr
  rw [bigSep_sep']
  isplitr [HB]
  · iapply h2
    isplitl [Hat]; · iexact Hat
    isplitl [Hopen] <;> iassumption
  · iexact HB

/-! ## The run -/

/-- The barrier semaphore is the only one that is not the kernel's own. -/
theorem only_bar : ∀ sm : SemLoc sig, sm.isScoped .tc = false → sm = .reg barS := by decide

/-- The block of x ends unchanged. -/
theorem done_arg0 (c : Dev nD) : done m c (Proc.devRef .tc main_arg0) = blocks m c :=
  (done_other m c _ (by decide)).trans (start_arg0 m c)
/-- The columns of w end unchanged. -/
theorem done_arg1 (c : Dev nD) : done m c (Proc.devRef .tc main_arg1) = cols m c :=
  (done_other m c _ (by decide)).trans (start_arg1 m c)
/-- The result ends as the product. -/
theorem done_out (c : Dev nD) : done m c (Proc.devRef .tc main_v1) = prod m c :=
  Function.update_self (Proc.devRef .tc main_v1) (prod m c) (start m c)

/-- The five arrays a device ends with, one by one. -/
theorem finish_each (c : Dev nD) : (StableHlo.held (c : Thread nD τ) kept5 (done m c) : sProp 𝕄)
    = iprop(((c : Thread nD τ).loc main_arg0 ↦{fullShare} done m c (Proc.devRef .tc main_arg0)) ∗ ((c : Thread nD τ).loc main_arg1 ↦{fullShare} done m c (Proc.devRef .tc main_arg1))
      ∗ ((c : Thread nD τ).loc main_c ↦{fullShare} done m c (Proc.devRef .tc main_c)) ∗ ((c : Thread nD τ).loc main_c_0 ↦{fullShare} done m c (Proc.devRef .tc main_c_0))
      ∗ ((c : Thread nD τ).loc main_v1 ↦{fullShare} done m c (Proc.devRef .tc main_v1))) := by
  unfold StableHlo.held
  rw [bigSep_eq_bigSepL_of_eq [Proc.devRef .tc main_arg0, Proc.devRef .tc main_arg1, Proc.devRef .tc main_c, Proc.devRef .tc main_c_0, Proc.devRef .tc main_v1] (by decide) (by decide)]
  rfl

set_option backward.isDefEq.respectTransparency.types false in
/-- From any memory with every semaphore at zero, the kernel on all the devices ends, its arguments as they were, every
    device's result its columns of the product, and every semaphore at zero. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v1) = prod m c) ∧ r.2.sem = fun _ => 0) :=
  Pipeline.θ_run_regions_kit_sems (pcfgs (F := F)) adm (pdats m) () Gen.cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := lodged seed) (u₀ := u₀)
    (hu₀ := by
      unfold u₀
      iintro Hu
      ihave H := (ownU_pair _ _) $$ Hu
      icases H with ⟨HP, HX⟩
      imodintro
      isplitl [HP]; · iexact HP
      rw [lodged_all]; iexact HX)
    (T₀ := begins m) (Tₙ := finish m)
    (hch := by
      unfold segs
      exact ⟨fun c => .rfl, fun c => reg_pre m c, fun c => reg_post m c⟩)
    (hinit := launch m ρ)
    (QY := fun c s => (s.mem ((c : Thread nD τ).loc main_arg0) = blocks m c ∧ s.mem ((c : Thread nD τ).loc main_arg1) = cols m c
      ∧ s.mem ((c : Thread nD τ).loc main_v1) = prod m c) ∧ s.sem (barCell c) = 0)
    (hfin := fun c s' => by
      dsimp only [finish]; rw [finish_each]
      iintro ⟨⟨⟨Hx, Hw, -, -, Ho⟩, Hb⟩, HSI⟩
      icombine HSI Hx gives %hx
      icombine HSI Hw gives %hw
      icombine HSI Ho gives %ho
      icombine HSI Hb gives %hb
      imodintro
      isplitr
      · ipureintro
        exact ⟨⟨(Buf.eq_of_forall_mem_univ hx).trans (done_arg0 m c), (Buf.eq_of_forall_mem_univ hw).trans (done_arg1 m c), (Buf.eq_of_forall_mem_univ ho).trans (done_out m c)⟩, by simpa using hb⟩
      iexact HSI)
    (hQ := fun s h hs => ⟨fun c => (h c).1, sem_eq_zero hs fun c sm hsm => by
      obtain rfl := only_bar sm hsm
      exact (h c).2⟩)

end Cert.KernelIdeal.Gather
-- ==== Proof.Value.lean ====
/-
  The kernel's result as mathematics: a device's columns of the whole product x · w.
-/
module

public import proofs.«01_k».proof.Proof.Launch
public import proofs.«01_k».proof.Proof.Gen.ReferenceIdeal.Run
public import Idealize.ShloMosaic.Lib.StackMember
public import Idealize.ShloMosaic.Lib.MatmulPlain
public import Idealize.ShloMosaic.Lib.Layout

@[expose] public section

set_option maxRecDepth 16384

noncomputable section

namespace Cert.KernelIdeal.Gather

open Idealize.ShloMosaic Idealize.ShloMosaic.TcCoe
open Idealize.ShloMosaic.ValueIdx
open Facts₀ Facts

/-- The 1024×1024 arrays of the two arguments and of their product. -/
abbrev Square : Shape := ⟨2, ![1024, 1024]⟩

/-- The gathered buffer flattened: row 32·d + r is row r of device d's block, so the whole of x when the blocks are x's. -/
theorem flattened (A : FVec Ideal Square .f32) (X : Blocks Ideal) (hX : ∀ d, X d = Layout.block ⟨2, ![32, 1024]⟩ Square 0 32 d A) :
    shapeCast S1024x1024 (gath X) shapeCasts_S32x32x1024_S1024x1024 = A := by
  funext i
  obtain ⟨r, l, rfl⟩ : ∃ (r : Fin 1024) (l : Fin 1024), i = ix2 r l := ⟨i 0, i 1, eq_ix2 i⟩
  have hd : r.val / 32 < 32 := by omega
  have hr : r.val % 32 < 32 := by omega
  rw [shapeCast_apply (gath X) _ (ix2 r l) (ix3 ⟨r.val / 32, hd⟩ ⟨r.val % 32, hr⟩ l : S32x32x1024.Idx) (by
    show (S32x32x1024.rowMajor _).val = (S1024x1024.rowMajor _).val
    rw [Shape.rowMajor_val_three, Shape.rowMajor_val_two]
    show (r.val / 32 * 32 + r.val % 32) * 1024 + l.val = r.val * 1024 + l.val
    omega)]
  show X ⟨r.val / 32, hd⟩ (ix2 ⟨r.val % 32, hr⟩ l) = _
  rw [hX, Layout.block_apply]
  refine congrArg A (funext fun b => Fin.ext ?_)
  match b with
  | 0 => show r.val / 32 * 32 + r.val % 32 = r.val; omega
  | 1 => rfl

/-- The product of the gathered x with a device's columns of w is that device's columns of x · w. -/
theorem out_block (A B : FVec Ideal Square .f32) (X : Blocks Ideal) (hX : ∀ d, X d = Layout.block ⟨2, ![32, 1024]⟩ Square 0 32 d A)
    (c : Fin 32) (w : FVec Ideal S1024x32 .f32) (hw : w = Layout.block ⟨2, ![1024, 32]⟩ Square 1 32 c B) :
    outV X w = Layout.block ⟨2, ![1024, 32]⟩ Square 1 32 c (Host.dotGeneral (F := Ideal) (DotDims.plain 1024 1024 1024) none A B) := by
  funext i
  obtain ⟨r, l, rfl⟩ : ∃ (r : Fin 1024) (l : Fin 32), i = ix2 r l := ⟨i 0, i 1, eq_ix2 i⟩
  have hl : c.val * 32 + l.val < 1024 := by omega
  have at_col (k : Fin 1024) : (Layout.Tiles.idx (S := ⟨2, ![1024, 32]⟩) (T := Square) (a := 1) (k := 32) (by decide) c (ix2 k l)) = ix2 k ⟨c.val * 32 + l.val, hl⟩ :=
    funext fun b => Fin.ext (match b with | 0 => rfl | 1 => rfl)
  rw [Layout.block_apply, at_col, StackMember.dotGeneral_plain_apply]
  unfold outV Gen.k0_pay4 Gen.k0_pay2 Gen.k0_pay3
  rw [flattened A X hX, shapeCast_self]
  refine (Ideal.matmul_plain_apply (M := 1024) (K := 1024) (N := 32) none A w _ r l).trans ?_
  rw [show constant (F := Ideal) S1024x32 .f32 0x00000000#32 (ix2 r l) = 0 from Ideal.ofBits_zero_f32, zero_add]
  refine Finset.sum_congr rfl fun k _ => ?_
  rw [hw, Layout.block_apply, at_col]

end Cert.KernelIdeal.Gather
-- ==== Proof.Same.lean ====
/-
  The program as printed and its reading over the reals have one text: their body tables and their @main are equal,
  over any float values.
-/
module

public import proofs.«01_k».proof.Proof.Gen.Kernel
public import proofs.«01_k».proof.Proof.Gen.KernelIdeal

@[expose] public section

set_option maxRecDepth 16384

noncomputable section

namespace Cert.Same

open Idealize.ShloMosaic Idealize.SL.Sem

variable {F : FTy → Type} [FloatOps F]

/-- The one label's body is the same; there is no other label. -/
theorem bodies : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) => rfl
  | ⟨_ + 1, h⟩, _ => exact absurd h (Nat.not_lt.2 (Nat.le_add_left _ _))

/-- The body tables, pipeline included, are the same. -/
theorem tables : Cert.Kernel.defs (F := F) = Cert.KernelIdeal.defs (F := F) :=
  congrArg (Pipeline.defs Cert.KernelIdeal.pcfgs) bodies

/-- The two programs' @main are the same. -/
theorem mains : Cert.Kernel.main (F := F) = Cert.KernelIdeal.main (F := F) := rfl

end Cert.Same
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Value
public import proofs.«01_k».proof.Proof.Same
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem Cert.Kernel

/-- The kernel as printed runs from any memory: arguments unchanged, every semaphore at zero. -/
theorem kernel_frame (m : (ℓ : Loc nD τ sig) → Buf (Elt Bits) ℓ) (ρ : Dev nD → PrngReg) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) := by
  rw [Cert.Same.tables, Cert.Same.mains]
  exact (θ_run Cert.KernelIdeal.defs _ _).mono (fun _ h => ⟨fun c => ⟨(h.1 c).1, (h.1 c).2.1⟩, h.2⟩) (Cert.KernelIdeal.Gather.run_main (F := Bits) m ρ)

/-- The reference runs from any memory: arguments unchanged, every semaphore at zero. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) := by
  refine (θ_run _ _ _).mono (fun r h => ⟨fun c => (h c).2, ?_⟩) (Cert.ReferenceIdeal.Value.run (F := Ideal) m ρ)
  funext g
  match g with
  | (_, .reg s) => exact s.elim0
  | (_, .dma s) => exact s.elim0

/-- From blocks of the reference's arguments, each device's result is its columns of the reference's product. -/
theorem values (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (ρ' : Dev Cert.ReferenceIdeal.nD → PrngReg)
    (hm : ∀ c : Dev Cert.KernelIdeal.nD,
      m ((c.tc : Thread Cert.KernelIdeal.nD Cert.KernelIdeal.τ).loc Cert.KernelIdeal.main_arg0) = Layout.block ⟨2, ![32, 1024]⟩ ⟨2, ![1024, 1024]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 32]⟩ ⟨2, ![1024, 1024]⟩ 1 32 c (m' (((0 : Dev Cert.ReferenceIdeal.nD).tc : Thread Cert.ReferenceIdeal.nD Cert.ReferenceIdeal.τ).loc Cert.ReferenceIdeal.main_arg1))) :
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
          r.2.mem ((c.tc : Thread Cert.KernelIdeal.nD Cert.KernelIdeal.τ).loc Cert.KernelIdeal.main_v1) = Layout.block ⟨2, ![1024, 32]⟩ ⟨2, ![1024, 1024]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, ρ'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)) :=
  ⟨_, (θ_run _ _ _).mono (fun _ h c => ⟨((h.1 c).2.2).trans
        (Cert.KernelIdeal.Gather.out_block _ _ (Cert.KernelIdeal.Gather.blocks m) (fun d => (hm d).1) c _ (hm c).2), (h.1 c).1, (h.1 c).2.1⟩)
      (Cert.KernelIdeal.Gather.run_main (F := Ideal) m ρ),
    (θ_run _ _ _).mono (fun _ h => h 0) (Cert.ReferenceIdeal.Value.run (F := Ideal) m' ρ')⟩

/-- The five claims. -/
theorem claim : Cert.Claim := ⟨Cert.Kernel.Gen.facts, Cert.KernelIdeal.Gen.facts, Cert.ReferenceIdeal.Gen.facts, by
  refine ⟨fun m ρ _ => ?_, fun m ρ _ => ?_, fun m ρ _ => ?_, trivial, fun m ρ m' ρ' _ hm => ?_⟩
  · exact kernel_frame m ρ
  · exact (θ_run _ _ _).mono (fun _ h => ⟨fun c => ⟨(h.1 c).1, (h.1 c).2.1⟩, h.2⟩) (Cert.KernelIdeal.Gather.run_main (F := Ideal) m ρ)
  · exact reference_frame m ρ
  · exact values m ρ m' ρ' hm⟩

end Cert.Proof

end
